-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56_0)) (v1 : (c : Dev Cert.KernelIdeal.nD) → Buf (Elt Ideal) ((c.tc : Thread Cert.KernelIdeal.nD Cert.KernelIdeal.τ).loc Cert.KernelIdeal.main_v56_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_0) = v0 c
          ∧ r.2.mem ((c.tc : Thread Cert.KernelIdeal.nD Cert.KernelIdeal.τ).loc Cert.KernelIdeal.main_v56_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v79_0)) (v1 : (c : Dev Cert.Kernel2Ideal.nD) → Buf (Elt Ideal) ((c.tc : Thread Cert.Kernel2Ideal.nD Cert.Kernel2Ideal.τ).loc Cert.Kernel2Ideal.main_v79_1)) (v2 : (c : Dev Cert.Kernel2Ideal.nD) → Buf (Elt Ideal) ((c.tc : Thread Cert.Kernel2Ideal.nD Cert.Kernel2Ideal.τ).loc Cert.Kernel2Ideal.main_v79_2)) (v3 : (c : Dev Cert.Kernel2Ideal.nD) → Buf (Elt Ideal) ((c.tc : Thread Cert.Kernel2Ideal.nD Cert.Kernel2Ideal.τ).loc Cert.Kernel2Ideal.main_v79_3)) (v4 : (c : Dev Cert.Kernel2Ideal.nD) → Buf (Elt Ideal) ((c.tc : Thread Cert.Kernel2Ideal.nD Cert.Kernel2Ideal.τ).loc Cert.Kernel2Ideal.main_v79_4)) (v5 : (c : Dev Cert.Kernel2Ideal.nD) → Buf (Elt Ideal) ((c.tc : Thread Cert.Kernel2Ideal.nD Cert.Kernel2Ideal.τ).loc Cert.Kernel2Ideal.main_v79_5)) (v6 : (c : Dev Cert.Kernel2Ideal.nD) → Buf (Elt Ideal) ((c.tc : Thread Cert.Kernel2Ideal.nD Cert.Kernel2Ideal.τ).loc Cert.Kernel2Ideal.main_v79_6)) (v7 : (c : Dev Cert.Kernel2Ideal.nD) → Buf (Elt Ideal) ((c.tc : Thread Cert.Kernel2Ideal.nD Cert.Kernel2Ideal.τ).loc Cert.Kernel2Ideal.main_v79_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v79_0) = v0 c
          ∧ r.2.mem ((c.tc : Thread Cert.Kernel2Ideal.nD Cert.Kernel2Ideal.τ).loc Cert.Kernel2Ideal.main_v79_1) = v1 c
          ∧ r.2.mem ((c.tc : Thread Cert.Kernel2Ideal.nD Cert.Kernel2Ideal.τ).loc Cert.Kernel2Ideal.main_v79_2) = v2 c
          ∧ r.2.mem ((c.tc : Thread Cert.Kernel2Ideal.nD Cert.Kernel2Ideal.τ).loc Cert.Kernel2Ideal.main_v79_3) = v3 c
          ∧ r.2.mem ((c.tc : Thread Cert.Kernel2Ideal.nD Cert.Kernel2Ideal.τ).loc Cert.Kernel2Ideal.main_v79_4) = v4 c
          ∧ r.2.mem ((c.tc : Thread Cert.Kernel2Ideal.nD Cert.Kernel2Ideal.τ).loc Cert.Kernel2Ideal.main_v79_5) = v5 c
          ∧ r.2.mem ((c.tc : Thread Cert.Kernel2Ideal.nD Cert.Kernel2Ideal.τ).loc Cert.Kernel2Ideal.main_v79_6) = v6 c
          ∧ r.2.mem ((c.tc : Thread Cert.Kernel2Ideal.nD Cert.Kernel2Ideal.τ).loc Cert.Kernel2Ideal.main_v79_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v212) = v0 c
          ∧ r.2.mem ((c.tc : Thread Cert.Reference2Ideal.nD Cert.Reference2Ideal.τ).loc Cert.Reference2Ideal.main_v214) = v1 c
          ∧ r.2.mem ((c.tc : Thread Cert.Reference2Ideal.nD Cert.Reference2Ideal.τ).loc Cert.Reference2Ideal.main_v216) = v2 c
          ∧ r.2.mem ((c.tc : Thread Cert.Reference2Ideal.nD Cert.Reference2Ideal.τ).loc Cert.Reference2Ideal.main_v218) = v3 c
          ∧ r.2.mem ((c.tc : Thread Cert.Reference2Ideal.nD Cert.Reference2Ideal.τ).loc Cert.Reference2Ideal.main_v219) = v4 c
          ∧ r.2.mem ((c.tc : Thread Cert.Reference2Ideal.nD Cert.Reference2Ideal.τ).loc Cert.Reference2Ideal.main_v221) = v5 c
          ∧ r.2.mem ((c.tc : Thread Cert.Reference2Ideal.nD Cert.Reference2Ideal.τ).loc Cert.Reference2Ideal.main_v223) = v6 c
          ∧ r.2.mem ((c.tc : Thread Cert.Reference2Ideal.nD Cert.Reference2Ideal.τ).loc Cert.Reference2Ideal.main_v225) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S32x2048x512 : Shape := ⟨3, ![32, 2048, 512]⟩
abbrev S1x512 : Shape := ⟨2, ![1, 512]⟩
abbrev S_ : Shape := ⟨0, ![]⟩

class Facts : Prop where
  bitsLt_bf16_f32 : FTy.bits .bf16 < FTy.bits .f32
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel

variable [Facts]

def fn_part1 {F : FTy → Type} [FloatOps F] (main_arg6 : FVec F S32x2048x512 .bf16) (main_v16 : IVec S_ 1) (main_v17 : FVec F S32x2048x512 .f32) : IVec S_ 1 :=
  let main_v18 : FVec F S32x2048x512 .f32 := Host.absf main_v17
  let main_cst_4 : FVec F S_ .f32 := constant S_ .f32 0x7F800000#32
  let main_v19 : FVec F S32x2048x512 .f32 := broadcastInDim S32x2048x512 ![] bcast_S_S32x2048x512 main_cst_4
  let main_v20 : IVec S32x2048x512 1 := cmpf .olt main_v18 main_v19
  let main_c_5 : IVec S_ 1 := constantI S_ 1 1#1
  let main_v21 : IVec S_ 1 := (fun x v => Host.reduce IntOp.andi x v reducesTo_S32x2048x512_S_d0_1_2 h_S_) main_v20 main_c_5
  let main_v22 : IVec S_ 1 := andi main_v16 main_v21
  let main_v23 : FVec F S32x2048x512 .f32 := (extf .f32 · bitsLt_bf16_f32) main_arg6
  let main_v24 : FVec F S32x2048x512 .f32 := Host.absf main_v23
  let main_cst_6 : FVec F S_ .f32 := constant S_ .f32 0x7F800000#32
  let main_v25 : FVec F S32x2048x512 .f32 := broadcastInDim S32x2048x512 ![] bcast_S_S32x2048x512 main_cst_6
  let main_v26 : IVec S32x2048x512 1 := cmpf .olt main_v24 main_v25
  let main_c_7 : IVec S_ 1 := constantI S_ 1 1#1
  let main_v27 : IVec S_ 1 := (fun x v => Host.reduce IntOp.andi x v reducesTo_S32x2048x512_S_d0_1_2 h_S_) main_v26 main_c_7
  let main_v28 : IVec S_ 1 := andi main_v22 main_v27
  main_v28

def fn {F : FTy → Type} [FloatOps F] (main_arg0 : FVec F S32x2048x512 .bf16) (main_arg1 : FVec F S32x2048x512 .bf16) (main_arg2 : FVec F S32x2048x512 .bf16) (main_arg3 : FVec F S32x2048x512 .f32) (main_arg4 : FVec F S1x512 .f32) (main_arg5 : FVec F S32x2048x512 .bf16) (main_arg6 : FVec F S32x2048x512 .bf16) (main_arg7 : FVec F S32x2048x512 .bf16) (main_arg8 : FVec F S1x512 .f32) : IVec S_ 1 :=
  let main_v0 : FVec F S32x2048x512 .f32 := (extf .f32 · bitsLt_bf16_f32) main_arg0
  let main_v1 : FVec F S32x2048x512 .f32 := Host.absf main_v0
  let main_cst : FVec F S_ .f32 := constant S_ .f32 0x7F800000#32
  let main_v2 : FVec F S32x2048x512 .f32 := broadcastInDim S32x2048x512 ![] bcast_S_S32x2048x512 main_cst
  let main_v3 : IVec S32x2048x512 1 := cmpf .olt main_v1 main_v2
  let main_c : IVec S_ 1 := constantI S_ 1 1#1
  let main_v4 : IVec S_ 1 := (fun x v => Host.reduce IntOp.andi x v reducesTo_S32x2048x512_S_d0_1_2 h_S_) main_v3 main_c
  let main_v5 : FVec F S32x2048x512 .f32 := (extf .f32 · bitsLt_bf16_f32) main_arg1
  let main_v6 : FVec F S32x2048x512 .f32 := Host.absf main_v5
  let main_cst_0 : FVec F S_ .f32 := constant S_ .f32 0x7F800000#32
  let main_v7 : FVec F S32x2048x512 .f32 := broadcastInDim S32x2048x512 ![] bcast_S_S32x2048x512 main_cst_0
  let main_v8 : IVec S32x2048x512 1 := cmpf .olt main_v6 main_v7
  let main_c_1 : IVec S_ 1 := constantI S_ 1 1#1
  let main_v9 : IVec S_ 1 := (fun x v => Host.reduce IntOp.andi x v reducesTo_S32x2048x512_S_d0_1_2 h_S_) main_v8 main_c_1
  let main_v10 : IVec S_ 1 := andi main_v4 main_v9
  let main_v11 : FVec F S32x2048x512 .f32 := (extf .f32 · bitsLt_bf16_f32) main_arg2
  let main_v12 : FVec F S32x2048x512 .f32 := Host.absf main_v11
  let main_cst_2 : FVec F S_ .f32 := constant S_ .f32 0x7F800000#32
  let main_v13 : FVec F S32x2048x512 .f32 := broadcastInDim S32x2048x512 ![] bcast_S_S32x2048x512 main_cst_2
  let main_v14 : IVec S32x2048x512 1 := cmpf .olt main_v12 main_v13
  let main_c_3 : IVec S_ 1 := constantI S_ 1 1#1
  let main_v15 : IVec S_ 1 := (fun x v => Host.reduce IntOp.andi x v reducesTo_S32x2048x512_S_d0_1_2 h_S_) main_v14 main_c_3
  let main_v16 : IVec S_ 1 := andi main_v10 main_v15
  let main_v17 : FVec F S32x2048x512 .f32 := (extf .f32 · bitsLt_bf16_f32) main_arg5
  fn_part1 (F := F) main_arg6 main_v16 main_v17
-- ==== Kernel.lean ====
abbrev S32x2048x512 : Shape := ⟨3, ![32, 2048, 512]⟩
abbrev S1x512 : Shape := ⟨2, ![1, 512]⟩
abbrev S512 : Shape := ⟨1, ![512]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x256x128 : Shape := ⟨3, ![4, 256, 128]⟩
abbrev S4x1x128 : Shape := ⟨3, ![4, 1, 128]⟩
abbrev S1x2048x256 : Shape := ⟨3, ![1, 2048, 256]⟩
abbrev S2x256x256 : Shape := ⟨3, ![2, 256, 256]⟩
abbrev S2x256x128 : Shape := ⟨3, ![2, 256, 128]⟩
abbrev S2x1x128 : Shape := ⟨3, ![2, 1, 128]⟩
abbrev S2x2x8x80x256 : Shape := ⟨5, ![2, 2, 8, 80, 256]⟩
abbrev S1x2048x128 : Shape := ⟨3, ![1, 2048, 128]⟩
abbrev S2048x128 : Shape := ⟨2, ![2048, 128]⟩
abbrev S128x2048 : Shape := ⟨2, ![128, 2048]⟩
abbrev S64x256 : Shape := ⟨2, ![64, 256]⟩
abbrev S1x1x1x64x256 : Shape := ⟨5, ![1, 1, 1, 64, 256]⟩
abbrev S16x256 : Shape := ⟨2, ![16, 256]⟩
abbrev S1x1x1x16x256 : Shape := ⟨5, ![1, 1, 1, 16, 256]⟩
abbrev S8x256x128 : Shape := ⟨3, ![8, 256, 128]⟩
abbrev S8x128 : Shape := ⟨2, ![8, 128]⟩
abbrev S16x128 : Shape := ⟨2, ![16, 128]⟩
abbrev S256x128 : Shape := ⟨2, ![256, 128]⟩
abbrev S1x256x128 : Shape := ⟨3, ![1, 256, 128]⟩
abbrev S128x128 : Shape := ⟨2, ![128, 128]⟩
abbrev S8x256 : Shape := ⟨2, ![8, 256]⟩
abbrev S1x1x1x80x256 : Shape := ⟨5, ![1, 1, 1, 80, 256]⟩
abbrev S80x256 : Shape := ⟨2, ![80, 256]⟩
abbrev S1x128 : Shape := ⟨2, ![1, 128]⟩
abbrev S1x1x128 : Shape := ⟨3, ![1, 1, 128]⟩
abbrev S128x256 : Shape := ⟨2, ![128, 256]⟩

abbrev nBuf : Space → Nat
  | .hbm => 79
  | .vmem => 31
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x512, .bf16⟩
  | .hbm, ⟨3, _⟩ => ⟨S32x2048x512, .f32⟩
  | .hbm, ⟨4, _⟩ => ⟨S1x512, .f32⟩
  | .hbm, ⟨5, _⟩ => ⟨S32x2048x512, .bf16⟩
  | .hbm, ⟨6, _⟩ => ⟨S32x2048x512, .bf16⟩
  | .hbm, ⟨7, _⟩ => ⟨S32x2048x512, .bf16⟩
  | .hbm, ⟨8, _⟩ => ⟨S1x512, .f32⟩
  | .hbm, ⟨9, _⟩ => ⟨S512, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S_, .f32⟩
  | .hbm, ⟨21, _⟩ => ⟨S4, .f32⟩
  | .hbm, ⟨22, _⟩ => ⟨S4, .f32⟩
  | .hbm, ⟨23, _⟩ => ⟨S4, .f32⟩
  | .hbm, ⟨24, _⟩ => ⟨S256, .f32⟩
  | .hbm, ⟨25, _⟩ => ⟨S256x1, .f32⟩
  | .hbm, ⟨26, _⟩ => ⟨S1x256, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S1x256x256, .f32⟩
  | .hbm, ⟨31, _⟩ => ⟨S_, .f32⟩
  | .hbm, ⟨32, _⟩ => ⟨S1x256x256, .f32⟩
  | .hbm, ⟨33, _⟩ => ⟨S1x256x256, .i1⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S1x256x256, .f32⟩
  | .hbm, ⟨38, _⟩ => ⟨S4x1x1, .f32⟩
  | .hbm, ⟨39, _⟩ => ⟨S4x256x256, .f32⟩
  | .hbm, ⟨40, _⟩ => ⟨S4x256x256, .f32⟩
  | .hbm, ⟨41, _⟩ => ⟨S4x256x256, .f32⟩
  | .hbm, ⟨42, _⟩ => ⟨S4x256x256, .f32⟩
  | .hbm, ⟨43, _⟩ => ⟨S_, .f32⟩
  | .hbm, ⟨44, _⟩ => ⟨S_, .f32⟩
  | .hbm, ⟨45, _⟩ => ⟨S4x256x256, .i1⟩
  | .hbm, ⟨46, _⟩ => ⟨S4x256x256, .f32⟩
  | .hbm, ⟨47, _⟩ => ⟨S4x256x256, .f32⟩
  | .hbm, ⟨48, _⟩ => ⟨S1x256, .f32⟩
  | .hbm, ⟨49, _⟩ => ⟨S_, .f32⟩
  | .hbm, ⟨50, _⟩ => ⟨S1x256, .f32⟩
  | .hbm, ⟨51, _⟩ => ⟨S1x256, .f32⟩
  | .hbm, ⟨52, _⟩ => ⟨S4x1, .f32⟩
  | .hbm, ⟨53, _⟩ => ⟨S4x256, .f32⟩
  | .hbm, ⟨54, _⟩ => ⟨S4x256, .f32⟩
  | .hbm, ⟨55, _⟩ => ⟨S4x256, .f32⟩
  | .hbm, ⟨56, _⟩ => ⟨S4x256, .f32⟩
  | .hbm, ⟨57, _⟩ => ⟨S4x256x1, .f32⟩
  | .hbm, ⟨58, _⟩ => ⟨S4x256x128, .f32⟩
  | .hbm, ⟨59, _⟩ => ⟨S1x256, .f32⟩
  | .hbm, ⟨60, _⟩ => ⟨S_, .f32⟩
  | .hbm, ⟨61, _⟩ => ⟨S1x256, .f32⟩
  | .hbm, ⟨62, _⟩ => ⟨S1x256, .f32⟩
  | .hbm, ⟨63, _⟩ => ⟨S4x1, .f32⟩
  | .hbm, ⟨64, _⟩ => ⟨S4x256, .f32⟩
  | .hbm, ⟨65, _⟩ => ⟨S4x256, .f32⟩
  | .hbm, ⟨66, _⟩ => ⟨S4x256, .f32⟩
  | .hbm, ⟨67, _⟩ => ⟨S4x256, .f32⟩
  | .hbm, ⟨68, _⟩ => ⟨S4x256x1, .f32⟩
  | .hbm, ⟨69, _⟩ => ⟨S4x256x128, .f32⟩
  | .hbm, ⟨70, _⟩ => ⟨S_, .f32⟩
  | .hbm, ⟨71, _⟩ => ⟨S4, .f32⟩
  | .hbm, ⟨72, _⟩ => ⟨S4, .f32⟩
  | .hbm, ⟨73, _⟩ => ⟨S4, .f32⟩
  | .hbm, ⟨74, _⟩ => ⟨S4x1, .f32⟩
  | .hbm, ⟨75, _⟩ => ⟨S4x1x1, .f32⟩
  | .hbm, ⟨76, _⟩ => ⟨S4x1x128, .f32⟩
  | .hbm, ⟨77, _⟩ => ⟨S32x2048x512, .bf16⟩
  | .hbm, ⟨78, _⟩ => ⟨S32x2048x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .f32⟩
  | .local _ .vmem, ⟨7, _⟩ => ⟨S1x2048x256, .f32⟩
  | .local _ .vmem, ⟨8, _⟩ => ⟨S1x256, .f32⟩
  | .local _ .vmem, ⟨9, _⟩ => ⟨S1x256, .f32⟩
  | .local _ .vmem, ⟨10, _⟩ => ⟨S2x256x256, .f32⟩
  | .local _ .vmem, ⟨11, _⟩ => ⟨S2x256x256, .f32⟩
  | .local _ .vmem, ⟨12, _⟩ => ⟨S2x256x128, .f32⟩
  | .local _ .vmem, ⟨13, _⟩ => ⟨S2x256x128, .f32⟩
  | .local _ .vmem, ⟨14, _⟩ => ⟨S2x256x128, .f32⟩
  | .local _ .vmem, ⟨15, _⟩ => ⟨S2x256x128, .f32⟩
  | .local _ .vmem, ⟨16, _⟩ => ⟨S2x1x128, .f32⟩
  | .local _ .vmem, ⟨17, _⟩ => ⟨S2x1x128, .f32⟩
  | .local _ .vmem, ⟨18, _⟩ => ⟨S1x2048x256, .bf16⟩
  | .local _ .vmem, ⟨19, _⟩ => ⟨S1x2048x256, .bf16⟩
  | .local _ .vmem, ⟨20, _⟩ => ⟨S1x2048x256, .bf16⟩
  | .local _ .vmem, ⟨21, _⟩ => ⟨S1x2048x256, .bf16⟩
  | .local _ .vmem, ⟨22, _⟩ => ⟨S1x2048x256, .bf16⟩
  | .local _ .vmem, ⟨23, _⟩ => ⟨S1x2048x256, .bf16⟩
  | .local _ .vmem, ⟨24, _⟩ => ⟨S1x256, .f32⟩
  | .local _ .vmem, ⟨25, _⟩ => ⟨S1x256, .f32⟩
  | .local _ .vmem, ⟨26, _⟩ => ⟨S1x2048x256, .bf16⟩
  | .local _ .vmem, ⟨27, _⟩ => ⟨S1x2048x256, .bf16⟩
  | .local _ .vmem, ⟨28, _⟩ => ⟨S1x2048x256, .bf16⟩
  | .local _ .vmem, ⟨29, _⟩ => ⟨S1x2048x256, .bf16⟩
  | .local _ .vmem, ⟨30, _⟩ => ⟨S2x2x8x80x256, .bf16⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56_0 : Ref sig .tc := ⟨.hbm, 77, rfl⟩
abbrev main_v56_1 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2048x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S32x2048x512 : Shape := ⟨3, ![32, 2048, 512]⟩
abbrev S1x512 : Shape := ⟨2, ![1, 512]⟩
abbrev S32x2048x4x128 : Shape := ⟨4, ![32, 2048, 4, 128]⟩
abbrev S4 : Shape := ⟨1, ![4]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S4x1x1 : Shape := ⟨3, ![4, 1, 1]⟩
abbrev S4x2048x2048 : Shape := ⟨3, ![4, 2048, 2048]⟩
abbrev S32x4x2048x2048 : Shape := ⟨4, ![32, 4, 2048, 2048]⟩
abbrev S1x4x2048x2048 : Shape := ⟨4, ![1, 4, 2048, 2048]⟩
abbrev S32x4x128x2048 : Shape := ⟨4, ![32, 4, 128, 2048]⟩
abbrev S32x2048x4 : Shape := ⟨3, ![32, 2048, 4]⟩
abbrev S32x2048x4x1 : Shape := ⟨4, ![32, 2048, 4, 1]⟩
abbrev S512 : Shape := ⟨1, ![512]⟩
abbrev S1x1x512 : Shape := ⟨3, ![1, 1, 512]⟩
abbrev S32x2048x8x64 : Shape := ⟨4, ![32, 2048, 8, 64]⟩
abbrev S32x8x256x8x64 : Shape := ⟨5, ![32, 8, 256, 8, 64]⟩
abbrev S32x8x8x64 : Shape := ⟨4, ![32, 8, 8, 64]⟩
abbrev S32x8x2048x8 : Shape := ⟨4, ![32, 8, 2048, 8]⟩
abbrev S8 : Shape := ⟨1, ![8]⟩
abbrev S1x8 : Shape := ⟨2, ![1, 8]⟩
abbrev S2048x8 : Shape := ⟨2, ![2048, 8]⟩
abbrev S32x8x2048x3 : Shape := ⟨4, ![32, 8, 2048, 3]⟩
abbrev S32x8x2048x3x1 : Shape := ⟨5, ![32, 8, 2048, 3, 1]⟩
abbrev S1x1x1x1x8 : Shape := ⟨5, ![1, 1, 1, 1, 8]⟩
abbrev S32x8x2048x3x8 : Shape := ⟨5, ![32, 8, 2048, 3, 8]⟩
abbrev S1x1x2048x8 : Shape := ⟨4, ![1, 1, 2048, 8]⟩
abbrev S32x8x2048x8x256 : Shape := ⟨5, ![32, 8, 2048, 8, 256]⟩
abbrev S32x8x2048x2048 : Shape := ⟨4, ![32, 8, 2048, 2048]⟩
abbrev S1x1x2048x2048 : Shape := ⟨4, ![1, 1, 2048, 2048]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩
abbrev S32x2048x8 : Shape := ⟨3, ![32, 2048, 8]⟩
abbrev S32x2048x8x1 : Shape := ⟨4, ![32, 2048, 8, 1]⟩

abbrev nBuf : Space → Nat
  | .hbm => 201
  | .vmem => 0
  | .smem => 0
  | _ => 0

abbrev hbmTy0_0 (i : Nat) : BufTy := match i % 128 with
  | 0 => ⟨S32x2048x512, .bf16⟩
  | 1 => ⟨S32x2048x512, .bf16⟩
  | 2 => ⟨S32x2048x512, .bf16⟩
  | 3 => ⟨S32x2048x512, .f32⟩
  | 4 => ⟨S1x512, .f32⟩
  | 5 => ⟨S32x2048x512, .bf16⟩
  | 6 => ⟨S32x2048x512, .bf16⟩
  | 7 => ⟨S32x2048x512, .bf16⟩
  | 8 => ⟨S1x512, .f32⟩
  | 9 => ⟨S32x2048x4x128, .bf16⟩
  | 10 => ⟨S32x2048x4x128, .f32⟩
  | 11 => ⟨S32x2048x4x128, .bf16⟩
  | 12 => ⟨S32x2048x4x128, .f32⟩
  | 13 => ⟨S32x2048x4x128, .bf16⟩
  | 14 => ⟨S32x2048x4x128, .f32⟩
  | 15 => ⟨S4, .f32⟩
  | 16 => ⟨S_, .f32⟩
  | 17 => ⟨S4, .f32⟩
  | 18 => ⟨S4, .f32⟩
  | 19 => ⟨S_, .f32⟩
  | 20 => ⟨S4, .f32⟩
  | 21 => ⟨S4, .f32⟩
  | 22 => ⟨S_, .f32⟩
  | 23 => ⟨S4, .f32⟩
  | 24 => ⟨S4, .f32⟩
  | 25 => ⟨S4, .f32⟩
  | 26 => ⟨S2048, .f32⟩
  | 27 => ⟨S2048x1, .f32⟩
  | 28 => ⟨S1x2048, .f32⟩
  | 29 => ⟨S2048x2048, .f32⟩
  | 30 => ⟨S2048x2048, .f32⟩
  | 31 => ⟨S2048x2048, .f32⟩
  | 32 => ⟨S1x2048x2048, .f32⟩
  | 33 => ⟨S_, .f32⟩
  | 34 => ⟨S1x2048x2048, .f32⟩
  | 35 => ⟨S1x2048x2048, .i1⟩
  | 36 => ⟨S_, .f32⟩
  | 37 => ⟨S2048x2048, .f32⟩
  | 38 => ⟨S2048x2048, .f32⟩
  | 39 => ⟨S1x2048x2048, .f32⟩
  | 40 => ⟨S4x1x1, .f32⟩
  | 41 => ⟨S4x2048x2048, .f32⟩
  | 42 => ⟨S4x2048x2048, .f32⟩
  | 43 => ⟨S4x2048x2048, .f32⟩
  | 44 => ⟨S4x2048x2048, .f32⟩
  | 45 => ⟨S_, .f32⟩
  | 46 => ⟨S_, .f32⟩
  | 47 => ⟨S4x2048x2048, .i1⟩
  | 48 => ⟨S4x2048x2048, .f32⟩
  | 49 => ⟨S4x2048x2048, .f32⟩
  | 50 => ⟨S32x4x2048x2048, .f32⟩
  | 51 => ⟨S1x4x2048x2048, .f32⟩
  | 52 => ⟨S32x4x2048x2048, .f32⟩
  | 53 => ⟨S32x4x2048x2048, .f32⟩
  | 54 => ⟨S32x4x128x2048, .f32⟩
  | 55 => ⟨S32x2048x4x128, .f32⟩
  | 56 => ⟨S32x2048x4x128, .f32⟩
  | 57 => ⟨S_, .f32⟩
  | 58 => ⟨S32x2048x4, .f32⟩
  | 59 => ⟨S32x2048x4x1, .f32⟩
  | 60 => ⟨S_, .f32⟩
  | 61 => ⟨S32x2048x4x1, .f32⟩
  | 62 => ⟨S32x2048x4x1, .f32⟩
  | 63 => ⟨S_, .f32⟩
  | 64 => ⟨S32x2048x4x1, .f32⟩
  | 65 => ⟨S32x2048x4x1, .f32⟩
  | 66 => ⟨S32x2048x4x1, .f32⟩
  | 67 => ⟨S32x2048x4x128, .f32⟩
  | 68 => ⟨S32x2048x4x128, .f32⟩
  | 69 => ⟨S32x2048x512, .f32⟩
  | 70 => ⟨S32x2048x512, .f32⟩
  | 71 => ⟨S32x2048x512, .f32⟩
  | 72 => ⟨S_, .f32⟩
  | 73 => ⟨S32x2048x512, .f32⟩
  | 74 => ⟨S32x2048x512, .f32⟩
  | 75 => ⟨S_, .f32⟩
  | 76 => ⟨S32x2048x512, .f32⟩
  | 77 => ⟨S32x2048x512, .f32⟩
  | 78 => ⟨S32x2048x512, .f32⟩
  | 79 => ⟨S32x2048x512, .f32⟩
  | 80 => ⟨S512, .f32⟩
  | 81 => ⟨S1x1x512, .f32⟩
  | 82 => ⟨S32x2048x512, .f32⟩
  | 83 => ⟨S32x2048x512, .f32⟩
  | 84 => ⟨S32x2048x8x64, .bf16⟩
  | 85 => ⟨S32x2048x8x64, .f32⟩
  | 86 => ⟨S32x2048x8x64, .bf16⟩
  | 87 => ⟨S32x2048x8x64, .f32⟩
  | 88 => ⟨S32x2048x8x64, .bf16⟩
  | 89 => ⟨S32x2048x8x64, .f32⟩
  | 90 => ⟨S32x8x256x8x64, .f32⟩
  | 91 => ⟨S_, .f32⟩
  | 92 => ⟨S32x8x8x64, .f32⟩
  | 93 => ⟨S_, .f32⟩
  | 94 => ⟨S32x8x8x64, .f32⟩
  | 95 => ⟨S32x8x8x64, .f32⟩
  | 96 => ⟨S2048, .i32⟩
  | 97 => ⟨S_, .i32⟩
  | 98 => ⟨S_, .i32⟩
  | 99 => ⟨S2048, .i32⟩
  | 100 => ⟨S2048, .i32⟩
  | 101 => ⟨S2048, .i32⟩
  | 102 => ⟨S_, .i32⟩
  | 103 => ⟨S2048, .i32⟩
  | 104 => ⟨S2048, .i1⟩
  | 105 => ⟨S2048, .i32⟩
  | 106 => ⟨S2048, .i32⟩
  | 107 => ⟨S_, .i32⟩
  | 108 => ⟨S2048, .i32⟩
  | 109 => ⟨S2048, .i1⟩
  | 110 => ⟨S2048, .i1⟩
  | 111 => ⟨S_, .i32⟩
  | 112 => ⟨S2048, .i32⟩
  | 113 => ⟨S2048, .i32⟩
  | 114 => ⟨S2048, .i32⟩
  | 115 => ⟨S32x8x2048x8, .f32⟩
  | 116 => ⟨S8, .i32⟩
  | 117 => ⟨S1x8, .i32⟩
  | 118 => ⟨S2048x1, .i32⟩
  | 119 => ⟨S2048x8, .i32⟩
  | 120 => ⟨S2048x8, .i32⟩
  | 121 => ⟨S2048x8, .i1⟩
  | 122 => ⟨S_, .f32⟩
  | 123 => ⟨S_, .f32⟩
  | 124 => ⟨S32x8x2048x8, .i1⟩
  | 125 => ⟨S32x8x2048x8, .f32⟩
  | 126 => ⟨S32x8x2048x8, .f32⟩
  | 127 => ⟨S32x8x2048x3, .f32⟩
  | _ => ⟨S32x2048x512, .bf16⟩

abbrev hbmTy0_1 (i : Nat) : BufTy := match i % 128 with
  | 0 => ⟨S32x8x2048x3, .i32⟩
  | 1 => ⟨S32x8x2048x3x1, .i32⟩
  | 2 => ⟨S8, .i32⟩
  | 3 => ⟨S1x1x1x1x8, .i32⟩
  | 4 => ⟨S32x8x2048x3x8, .i32⟩
  | 5 => ⟨S32x8x2048x3x8, .i32⟩
  | 6 => ⟨S32x8x2048x3x8, .i1⟩
  | 7 => ⟨S_, .i1⟩
  | 8 => ⟨S32x8x2048x8, .i1⟩
  | 9 => ⟨S1x1x2048x8, .i1⟩
  | 10 => ⟨S32x8x2048x8, .i1⟩
  | 11 => ⟨S32x8x2048x8, .i1⟩
  | 12 => ⟨S8, .i32⟩
  | 13 => ⟨S1x8, .i32⟩
  | 14 => ⟨S2048x1, .i32⟩
  | 15 => ⟨S2048x8, .i32⟩
  | 16 => ⟨S2048x8, .i32⟩
  | 17 => ⟨S2048x8, .i1⟩
  | 18 => ⟨S1x1x2048x8, .i1⟩
  | 19 => ⟨S32x8x2048x8, .i1⟩
  | 20 => ⟨S32x8x2048x8, .i1⟩
  | 21 => ⟨S32x8x2048x8x256, .i1⟩
  | 22 => ⟨S32x8x2048x2048, .i1⟩
  | 23 => ⟨S2048, .i32⟩
  | 24 => ⟨S1x2048, .i32⟩
  | 25 => ⟨S2048, .i32⟩
  | 26 => ⟨S2048x1, .i32⟩
  | 27 => ⟨S2048x2048, .i32⟩
  | 28 => ⟨S2048x2048, .i32⟩
  | 29 => ⟨S2048x2048, .i1⟩
  | 30 => ⟨S1x1x2048x2048, .i1⟩
  | 31 => ⟨S32x8x2048x2048, .i1⟩
  | 32 => ⟨S32x8x2048x2048, .i1⟩
  | 33 => ⟨S32x8x2048x2048, .f32⟩
  | 34 => ⟨S_, .f32⟩
  | 35 => ⟨S_, .f32⟩
  | 36 => ⟨S32x8x2048x2048, .f32⟩
  | 37 => ⟨S32x8x2048x2048, .f32⟩
  | 38 => ⟨S_, .f32⟩
  | 39 => ⟨S32x8x2048, .f32⟩
  | 40 => ⟨S32x8x2048x1, .f32⟩
  | 41 => ⟨S32x8x2048x2048, .f32⟩
  | 42 => ⟨S32x8x2048x2048, .f32⟩
  | 43 => ⟨S_, .f32⟩
  | 44 => ⟨S32x8x2048x2048, .f32⟩
  | 45 => ⟨S32x8x2048x2048, .f32⟩
  | 46 => ⟨S_, .f32⟩
  | 47 => ⟨S32x8x2048, .f32⟩
  | 48 => ⟨S32x8x2048x1, .f32⟩
  | 49 => ⟨S32x8x2048x2048, .f32⟩
  | 50 => ⟨S32x8x2048x2048, .f32⟩
  | 51 => ⟨S32x8x64x2048, .f32⟩
  | 52 => ⟨S32x2048x8x64, .f32⟩
  | 53 => ⟨S32x2048x8x64, .f32⟩
  | 54 => ⟨S_, .f32⟩
  | 55 => ⟨S32x2048x8, .f32⟩
  | 56 => ⟨S32x2048x8x1, .f32⟩
  | 57 => ⟨S_, .f32⟩
  | 58 => ⟨S32x2048x8x1, .f32⟩
  | 59 => ⟨S32x2048x8x1, .f32⟩
  | 60 => ⟨S_, .f32⟩
  | 61 => ⟨S32x2048x8x1, .f32⟩
  | 62 => ⟨S32x2048x8x1, .f32⟩
  | 63 => ⟨S32x2048x8x1, .f32⟩
  | 64 => ⟨S32x2048x8x64, .f32⟩
  | 65 => ⟨S32x2048x8x64, .f32⟩
  | 66 => ⟨S32x2048x512, .f32⟩
  | 67 => ⟨S512, .f32⟩
  | 68 => ⟨S1x1x512, .f32⟩
  | 69 => ⟨S32x2048x512, .f32⟩
  | 70 => ⟨S32x2048x512, .f32⟩
  | 71 => ⟨S32x2048x512, .bf16⟩
  | 72 => ⟨S32x2048x512, .bf16⟩
  | _ => ⟨S32x2048x512, .bf16⟩

abbrev hbmTy (i : Nat) : BufTy := match i / 128 with
  | 0 => hbmTy0_0 i
  | 1 => hbmTy0_1 i
  | _ => ⟨S32x2048x512, .bf16⟩

abbrev bufTy : (tb : Table) → Fin (tcTables nBuf tb) → BufTy
  | .hbm, ⟨i, _⟩ => hbmTy i
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_8 : Ref sig .tc := ⟨.hbm, 91, rfl⟩
abbrev main_v62 : Ref sig .tc := ⟨.hbm, 92, rfl⟩
abbrev main_cst_9 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_c : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_c_0 : Ref sig .tc := ⟨.hbm, 111, rfl⟩
abbrev main_call2_v12 : Ref sig .tc := ⟨.hbm, 112, rfl⟩
abbrev main_call2_v13 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_10 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_v74 : Ref sig .tc := ⟨.hbm, 126, rfl⟩
abbrev main_values : Ref sig .tc := ⟨.hbm, 127, rfl⟩
abbrev main_indices : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_c_11 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_cst_12 : Ref sig .tc := ⟨.hbm, 162, rfl⟩
abbrev main_call4_v0 : Ref sig .tc := ⟨.hbm, 163, rfl⟩
abbrev main_call4_v1 : Ref sig .tc := ⟨.hbm, 164, rfl⟩
abbrev main_v107 : Ref sig .tc := ⟨.hbm, 165, rfl⟩
abbrev main_cst_13 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_cst_14 : Ref sig .tc := ⟨.hbm, 171, rfl⟩
abbrev main_v112 : Ref sig .tc := ⟨.hbm, 172, rfl⟩
abbrev main_v113 : Ref sig .tc := ⟨.hbm, 173, rfl⟩
abbrev main_cst_15 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_cst_16 : Ref sig .tc := ⟨.hbm, 182, rfl⟩
abbrev main_v121 : Ref sig .tc := ⟨.hbm, 183, rfl⟩
abbrev main_v122 : Ref sig .tc := ⟨.hbm, 184, rfl⟩
abbrev main_cst_17 : Ref sig .tc := ⟨.hbm, 185, rfl⟩
abbrev main_v123 : Ref sig .tc := ⟨.hbm, 186, rfl⟩
abbrev main_v124 : Ref sig .tc := ⟨.hbm, 187, rfl⟩
abbrev main_cst_18 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩

abbrev nD : Nat := 1
abbrev τ : Topo := Topo.v7x

variable {F : FTy → Type} [FloatOps F]
-- ==== Kernel2.lean ====
abbrev S32x2048x1024 : Shape := ⟨3, ![32, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x3584 : Shape := ⟨3, ![1, 1024, 3584]⟩
abbrev S1x64 : Shape := ⟨2, ![1, 64]⟩
abbrev S2048 : Shape := ⟨1, ![2048]⟩
abbrev S2048x1 : Shape := ⟨2, ![2048, 1]⟩
abbrev S64 : Shape := ⟨1, ![64]⟩
abbrev S_ : Shape := ⟨0, ![]⟩
abbrev S2048x64 : Shape := ⟨2, ![2048, 64]⟩
abbrev S2048x128 : Shape := ⟨2, ![2048, 128]⟩
abbrev S8 : Shape := ⟨1, ![8]⟩
abbrev S1x8 : Shape := ⟨2, ![1, 8]⟩
abbrev S2048x8 : Shape := ⟨2, ![2048, 8]⟩
abbrev S2048x48 : Shape := ⟨2, ![2048, 48]⟩
abbrev S1x2048x1x64 : Shape := ⟨4, ![1, 2048, 1, 64]⟩
abbrev S1x2048x2x64 : Shape := ⟨4, ![1, 2048, 2, 64]⟩
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1024x3584 : Shape := ⟨2, ![1024, 3584]⟩
abbrev S8x64 : Shape := ⟨2, ![8, 64]⟩
abbrev S512 : Shape := ⟨1, ![512]⟩
abbrev S1x512 : Shape := ⟨2, ![1, 512]⟩
abbrev S65536x512 : Shape := ⟨2, ![65536, 512]⟩
abbrev S512x1024 : Shape := ⟨2, ![512, 1024]⟩
abbrev S512x128 : Shape := ⟨2, ![512, 128]⟩
abbrev S512x512 : Shape := ⟨2, ![512, 512]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩
abbrev S256x128 : Shape := ⟨2, ![256, 128]⟩
abbrev S1024x512 : Shape := ⟨2, ![1024, 512]⟩
abbrev S256x512 : Shape := ⟨2, ![256, 512]⟩
abbrev S1x128 : Shape := ⟨2, ![1, 128]⟩

abbrev nBuf : Space → Nat
  | .hbm => 106
  | .vmem => 36
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024x3584, .f32⟩
  | .hbm, ⟨7, _⟩ => ⟨S1x64, .f32⟩
  | .hbm, ⟨8, _⟩ => ⟨S1x64, .f32⟩
  | .hbm, ⟨9, _⟩ => ⟨S2048, .f32⟩
  | .hbm, ⟨10, _⟩ => ⟨S2048x1, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S1x64, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S2048x64, .f32⟩
  | .hbm, ⟨28, _⟩ => ⟨S2048x128, .f32⟩
  | .hbm, ⟨29, _⟩ => ⟨S2048x64, .f32⟩
  | .hbm, ⟨30, _⟩ => ⟨S2048x64, .f32⟩
  | .hbm, ⟨31, _⟩ => ⟨S2048x64, .f32⟩
  | .hbm, ⟨32, _⟩ => ⟨S2048x128, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S1x8, .f32⟩
  | .hbm, ⟨45, _⟩ => ⟨S2048x8, .f32⟩
  | .hbm, ⟨46, _⟩ => ⟨S2048x8, .f32⟩
  | .hbm, ⟨47, _⟩ => ⟨S2048x8, .f32⟩
  | .hbm, ⟨48, _⟩ => ⟨S_, .f32⟩
  | .hbm, ⟨49, _⟩ => ⟨S2048x48, .f32⟩
  | .hbm, ⟨50, _⟩ => ⟨S_, .f32⟩
  | .hbm, ⟨51, _⟩ => ⟨S2048x8, .f32⟩
  | .hbm, ⟨52, _⟩ => ⟨S2048x8, .f32⟩
  | .hbm, ⟨53, _⟩ => ⟨S2048x8, .f32⟩
  | .hbm, ⟨54, _⟩ => ⟨S_, .f32⟩
  | .hbm, ⟨55, _⟩ => ⟨S2048x48, .f32⟩
  | .hbm, ⟨56, _⟩ => ⟨S2048x48, .f32⟩
  | .hbm, ⟨57, _⟩ => ⟨S2048x64, .f32⟩
  | .hbm, ⟨58, _⟩ => ⟨S2048x8, .f32⟩
  | .hbm, ⟨59, _⟩ => ⟨S2048x8, .f32⟩
  | .hbm, ⟨60, _⟩ => ⟨S2048x64, .f32⟩
  | .hbm, ⟨61, _⟩ => ⟨S2048x8, .f32⟩
  | .hbm, ⟨62, _⟩ => ⟨S2048x64, .f32⟩
  | .hbm, ⟨63, _⟩ => ⟨S1x2048x1x64, .f32⟩
  | .hbm, ⟨64, _⟩ => ⟨S1x2048x2x64, .f32⟩
  | .hbm, ⟨65, _⟩ => ⟨S2048x128, .f32⟩
  | .hbm, ⟨66, _⟩ => ⟨S1x2048x1x64, .f32⟩
  | .hbm, ⟨67, _⟩ => ⟨S1x2048x2x64, .f32⟩
  | .hbm, ⟨68, _⟩ => ⟨S2048x128, .f32⟩
  | .hbm, ⟨69, _⟩ => ⟨S1x2048x1x64, .f32⟩
  | .hbm, ⟨70, _⟩ => ⟨S1x2048x2x64, .f32⟩
  | .hbm, ⟨71, _⟩ => ⟨S2048x128, .f32⟩
  | .hbm, ⟨72, _⟩ => ⟨S65536x1024, .f32⟩
  | .hbm, ⟨73, _⟩ => ⟨S1024, .f32⟩
  | .hbm, ⟨74, _⟩ => ⟨S1x1024, .f32⟩
  | .hbm, ⟨75, _⟩ => ⟨S1024x2816, .f32⟩
  | .hbm, ⟨76, _⟩ => ⟨S1024x2816, .bf16⟩
  | .hbm, ⟨77, _⟩ => ⟨S1024x2816, .f32⟩
  | .hbm, ⟨78, _⟩ => ⟨S1024x2816, .bf16⟩
  | .hbm, ⟨79, _⟩ => ⟨S2816x1024, .f32⟩
  | .hbm, ⟨80, _⟩ => ⟨S2816x1024, .bf16⟩
  | .hbm, ⟨81, _⟩ => ⟨S1024, .f32⟩
  | .hbm, ⟨82, _⟩ => ⟨S1x1024, .f32⟩
  | .hbm, ⟨83, _⟩ => ⟨S1024x3584, .f32⟩
  | .hbm, ⟨84, _⟩ => ⟨S1024x3584, .bf16⟩
  | .hbm, ⟨85, _⟩ => ⟨S64, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S1x64, .f32⟩
  | .hbm, ⟨90, _⟩ => ⟨S8x64, .f32⟩
  | .hbm, ⟨91, _⟩ => ⟨S512, .f32⟩
  | .hbm, ⟨92, _⟩ => ⟨S1x512, .f32⟩
  | .hbm, ⟨93, _⟩ => ⟨S64, .f32⟩
  | .hbm, ⟨94, _⟩ => ⟨S1x64, .f32⟩
  | .hbm, ⟨95, _⟩ => ⟨S8x64, .f32⟩
  | .hbm, ⟨96, _⟩ => ⟨S512, .f32⟩
  | .hbm, ⟨97, _⟩ => ⟨S1x512, .f32⟩
  | .hbm, ⟨98, _⟩ => ⟨S65536x1024, .f32⟩
  | .hbm, ⟨99, _⟩ => ⟨S65536x512, .bf16⟩
  | .hbm, ⟨100, _⟩ => ⟨S65536x512, .bf16⟩
  | .hbm, ⟨101, _⟩ => ⟨S65536x512, .bf16⟩
  | .hbm, ⟨102, _⟩ => ⟨S65536x512, .f32⟩
  | .hbm, ⟨103, _⟩ => ⟨S65536x512, .bf16⟩
  | .hbm, ⟨104, _⟩ => ⟨S65536x512, .bf16⟩
  | .hbm, ⟨105, _⟩ => ⟨S65536x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x3584, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x512, .f32⟩
  | .local _ .vmem, ⟨19, _⟩ => ⟨S1x512, .f32⟩
  | .local _ .vmem, ⟨20, _⟩ => ⟨S512x1024, .f32⟩
  | .local _ .vmem, ⟨21, _⟩ => ⟨S512x1024, .f32⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .f32⟩
  | .local _ .vmem, ⟨29, _⟩ => ⟨S512x512, .f32⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79_0 : Ref sig .tc := ⟨.hbm, 98, rfl⟩
abbrev main_v79_1 : Ref sig .tc := ⟨.hbm, 99, rfl⟩
abbrev main_v79_2 : Ref sig .tc := ⟨.hbm, 100, rfl⟩
abbrev main_v79_3 : Ref sig .tc := ⟨.hbm, 101, rfl⟩
abbrev main_v79_4 : Ref sig .tc := ⟨.hbm, 102, rfl⟩
abbrev main_v79_5 : Ref sig .tc := ⟨.hbm, 103, rfl⟩
abbrev main_v79_6 : Ref sig .tc := ⟨.hbm, 104, rfl⟩
abbrev main_v79_7 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference2Ideal.lean ====
abbrev S32x2048x1024 : Shape := ⟨3, ![32, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x3584 : Shape := ⟨3, ![1, 1024, 3584]⟩
abbrev S1x64 : Shape := ⟨2, ![1, 64]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S32x2048x2816 : Shape := ⟨3, ![32, 2048, 2816]⟩
abbrev S1024x3584 : Shape := ⟨2, ![1024, 3584]⟩
abbrev S32x2048x3584 : Shape := ⟨3, ![32, 2048, 3584]⟩
abbrev S32x2048x512 : Shape := ⟨3, ![32, 2048, 512]⟩
abbrev S32x2048x4x128 : Shape := ⟨4, ![32, 2048, 4, 128]⟩
abbrev S32x2048x8x64 : Shape := ⟨4, ![32, 2048, 8, 64]⟩
abbrev S64 : Shape := ⟨1, ![64]⟩
abbrev S2048 : Shape := ⟨1, ![2048]⟩
abbrev S2048x1 : Shape := ⟨2, ![2048, 1]⟩
abbrev S2048x64 : Shape := ⟨2, ![2048, 64]⟩
abbrev S1x2048x1x64 : Shape := ⟨4, ![1, 2048, 1, 64]⟩
abbrev S32x2048x4x64 : Shape := ⟨4, ![32, 2048, 4, 64]⟩
abbrev S32x2048x4x0 : Shape := ⟨4, ![32, 2048, 4, 0]⟩
abbrev S32x2048x8 : Shape := ⟨3, ![32, 2048, 8]⟩
abbrev S32x2048x8x1 : Shape := ⟨4, ![32, 2048, 8, 1]⟩
abbrev S1x1x1x64 : Shape := ⟨4, ![1, 1, 1, 64]⟩
abbrev S8 : Shape := ⟨1, ![8]⟩
abbrev S1x8 : Shape := ⟨2, ![1, 8]⟩
abbrev S2048x8 : Shape := ⟨2, ![2048, 8]⟩
abbrev S1x2048x1x8 : Shape := ⟨4, ![1, 2048, 1, 8]⟩
abbrev S32x2048x8x8 : Shape := ⟨4, ![32, 2048, 8, 8]⟩
abbrev S32x2048x8x48 : Shape := ⟨4, ![32, 2048, 8, 48]⟩
abbrev S65536x1024 : Shape := ⟨2, ![65536, 1024]⟩
abbrev S65536x512 : Shape := ⟨2, ![65536, 512]⟩

abbrev nBuf : Space → Nat
  | .hbm => 270
  | .vmem => 0
  | .smem => 0
  | _ => 0

abbrev hbmTy0_0 (i : Nat) : BufTy := match i % 128 with
  | 0 => ⟨S32x2048x1024, .f32⟩
  | 1 => ⟨S1x1024, .f32⟩
  | 2 => ⟨S1x1024x2816, .f32⟩
  | 3 => ⟨S1x1024x2816, .f32⟩
  | 4 => ⟨S1x2816x1024, .f32⟩
  | 5 => ⟨S1x1024, .f32⟩
  | 6 => ⟨S1x1024x3584, .f32⟩
  | 7 => ⟨S1x64, .f32⟩
  | 8 => ⟨S1x64, .f32⟩
  | 9 => ⟨S1024, .f32⟩
  | 10 => ⟨S32x2048x1024, .f32⟩
  | 11 => ⟨S_, .f32⟩
  | 12 => ⟨S32x2048, .f32⟩
  | 13 => ⟨S32x2048x1, .f32⟩
  | 14 => ⟨S_, .f32⟩
  | 15 => ⟨S32x2048x1, .f32⟩
  | 16 => ⟨S32x2048x1, .f32⟩
  | 17 => ⟨S_, .f32⟩
  | 18 => ⟨S32x2048x1, .f32⟩
  | 19 => ⟨S32x2048x1, .f32⟩
  | 20 => ⟨S32x2048x1, .f32⟩
  | 21 => ⟨S32x2048x1024, .f32⟩
  | 22 => ⟨S32x2048x1024, .f32⟩
  | 23 => ⟨S1x1x1024, .f32⟩
  | 24 => ⟨S32x2048x1024, .f32⟩
  | 25 => ⟨S32x2048x1024, .f32⟩
  | 26 => ⟨S1024x2816, .f32⟩
  | 27 => ⟨S1024x2816, .f32⟩
  | 28 => ⟨S2816x1024, .f32⟩
  | 29 => ⟨S32x2048x2816, .f32⟩
  | 30 => ⟨S32x2048x2816, .f32⟩
  | 31 => ⟨S32x2048x2816, .f32⟩
  | 32 => ⟨S_, .f32⟩
  | 33 => ⟨S32x2048x2816, .f32⟩
  | 34 => ⟨S32x2048x2816, .f32⟩
  | 35 => ⟨S_, .f32⟩
  | 36 => ⟨S32x2048x2816, .f32⟩
  | 37 => ⟨S32x2048x2816, .f32⟩
  | 38 => ⟨S32x2048x2816, .f32⟩
  | 39 => ⟨S32x2048x2816, .f32⟩
  | 40 => ⟨S32x2048x2816, .f32⟩
  | 41 => ⟨S32x2048x1024, .f32⟩
  | 42 => ⟨S_, .f32⟩
  | 43 => ⟨S32x2048x1024, .f32⟩
  | 44 => ⟨S32x2048x1024, .f32⟩
  | 45 => ⟨S32x2048x1024, .f32⟩
  | 46 => ⟨S1024, .f32⟩
  | 47 => ⟨S32x2048x1024, .f32⟩
  | 48 => ⟨S_, .f32⟩
  | 49 => ⟨S32x2048, .f32⟩
  | 50 => ⟨S32x2048x1, .f32⟩
  | 51 => ⟨S_, .f32⟩
  | 52 => ⟨S32x2048x1, .f32⟩
  | 53 => ⟨S32x2048x1, .f32⟩
  | 54 => ⟨S_, .f32⟩
  | 55 => ⟨S32x2048x1, .f32⟩
  | 56 => ⟨S32x2048x1, .f32⟩
  | 57 => ⟨S32x2048x1, .f32⟩
  | 58 => ⟨S32x2048x1024, .f32⟩
  | 59 => ⟨S32x2048x1024, .f32⟩
  | 60 => ⟨S1x1x1024, .f32⟩
  | 61 => ⟨S32x2048x1024, .f32⟩
  | 62 => ⟨S32x2048x1024, .f32⟩
  | 63 => ⟨S1024x3584, .f32⟩
  | 64 => ⟨S32x2048x3584, .f32⟩
  | 65 => ⟨S32x2048x512, .f32⟩
  | 66 => ⟨S32x2048x4x128, .f32⟩
  | 67 => ⟨S32x2048x512, .f32⟩
  | 68 => ⟨S32x2048x4x128, .f32⟩
  | 69 => ⟨S32x2048x512, .f32⟩
  | 70 => ⟨S32x2048x512, .f32⟩
  | 71 => ⟨S32x2048x512, .f32⟩
  | 72 => ⟨S32x2048x8x64, .f32⟩
  | 73 => ⟨S32x2048x512, .f32⟩
  | 74 => ⟨S32x2048x8x64, .f32⟩
  | 75 => ⟨S32x2048x512, .f32⟩
  | 76 => ⟨S64, .f32⟩
  | 77 => ⟨S64, .f32⟩
  | 78 => ⟨S_, .f32⟩
  | 79 => ⟨S64, .f32⟩
  | 80 => ⟨S64, .f32⟩
  | 81 => ⟨S_, .f32⟩
  | 82 => ⟨S64, .f32⟩
  | 83 => ⟨S64, .f32⟩
  | 84 => ⟨S_, .f32⟩
  | 85 => ⟨S64, .f32⟩
  | 86 => ⟨S64, .f32⟩
  | 87 => ⟨S2048, .f32⟩
  | 88 => ⟨S2048x1, .f32⟩
  | 89 => ⟨S1x64, .f32⟩
  | 90 => ⟨S2048x64, .f32⟩
  | 91 => ⟨S2048x64, .f32⟩
  | 92 => ⟨S2048x64, .f32⟩
  | 93 => ⟨S2048x64, .f32⟩
  | 94 => ⟨S1x2048x1x64, .f32⟩
  | 95 => ⟨S2048x64, .f32⟩
  | 96 => ⟨S1x2048x1x64, .f32⟩
  | 97 => ⟨S32x2048x4x64, .f32⟩
  | 98 => ⟨S32x2048x4x64, .f32⟩
  | 99 => ⟨S32x2048x4x64, .f32⟩
  | 100 => ⟨S32x2048x4x64, .f32⟩
  | 101 => ⟨S32x2048x4x64, .f32⟩
  | 102 => ⟨S32x2048x4x64, .f32⟩
  | 103 => ⟨S32x2048x4x64, .f32⟩
  | 104 => ⟨S32x2048x4x64, .f32⟩
  | 105 => ⟨S32x2048x4x64, .f32⟩
  | 106 => ⟨S32x2048x4x64, .f32⟩
  | 107 => ⟨S32x2048x4x64, .f32⟩
  | 108 => ⟨S32x2048x4x64, .f32⟩
  | 109 => ⟨S32x2048x4x0, .f32⟩
  | 110 => ⟨S32x2048x4x128, .f32⟩
  | 111 => ⟨S64, .f32⟩
  | 112 => ⟨S64, .f32⟩
  | 113 => ⟨S_, .f32⟩
  | 114 => ⟨S64, .f32⟩
  | 115 => ⟨S64, .f32⟩
  | 116 => ⟨S_, .f32⟩
  | 117 => ⟨S64, .f32⟩
  | 118 => ⟨S64, .f32⟩
  | 119 => ⟨S_, .f32⟩
  | 120 => ⟨S64, .f32⟩
  | 121 => ⟨S64, .f32⟩
  | 122 => ⟨S2048, .f32⟩
  | 123 => ⟨S2048x1, .f32⟩
  | 124 => ⟨S1x64, .f32⟩
  | 125 => ⟨S2048x64, .f32⟩
  | 126 => ⟨S2048x64, .f32⟩
  | 127 => ⟨S2048x64, .f32⟩
  | _ => ⟨S32x2048x1024, .f32⟩

abbrev hbmTy0_1 (i : Nat) : BufTy := match i % 128 with
  | 0 => ⟨S2048x64, .f32⟩
  | 1 => ⟨S1x2048x1x64, .f32⟩
  | 2 => ⟨S2048x64, .f32⟩
  | 3 => ⟨S1x2048x1x64, .f32⟩
  | 4 => ⟨S32x2048x4x64, .f32⟩
  | 5 => ⟨S32x2048x4x64, .f32⟩
  | 6 => ⟨S32x2048x4x64, .f32⟩
  | 7 => ⟨S32x2048x4x64, .f32⟩
  | 8 => ⟨S32x2048x4x64, .f32⟩
  | 9 => ⟨S32x2048x4x64, .f32⟩
  | 10 => ⟨S32x2048x4x64, .f32⟩
  | 11 => ⟨S32x2048x4x64, .f32⟩
  | 12 => ⟨S32x2048x4x64, .f32⟩
  | 13 => ⟨S32x2048x4x64, .f32⟩
  | 14 => ⟨S32x2048x4x64, .f32⟩
  | 15 => ⟨S32x2048x4x64, .f32⟩
  | 16 => ⟨S32x2048x4x0, .f32⟩
  | 17 => ⟨S32x2048x4x128, .f32⟩
  | 18 => ⟨S_, .f32⟩
  | 19 => ⟨S32x2048x4x128, .f32⟩
  | 20 => ⟨S32x2048x4x128, .f32⟩
  | 21 => ⟨S64, .f32⟩
  | 22 => ⟨S32x2048x8x64, .f32⟩
  | 23 => ⟨S_, .f32⟩
  | 24 => ⟨S32x2048x8, .f32⟩
  | 25 => ⟨S32x2048x8x1, .f32⟩
  | 26 => ⟨S_, .f32⟩
  | 27 => ⟨S32x2048x8x1, .f32⟩
  | 28 => ⟨S32x2048x8x1, .f32⟩
  | 29 => ⟨S_, .f32⟩
  | 30 => ⟨S32x2048x8x1, .f32⟩
  | 31 => ⟨S32x2048x8x1, .f32⟩
  | 32 => ⟨S32x2048x8x1, .f32⟩
  | 33 => ⟨S32x2048x8x64, .f32⟩
  | 34 => ⟨S32x2048x8x64, .f32⟩
  | 35 => ⟨S1x1x1x64, .f32⟩
  | 36 => ⟨S32x2048x8x64, .f32⟩
  | 37 => ⟨S32x2048x8x64, .f32⟩
  | 38 => ⟨S8, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S2048, .f32⟩
  | 50 => ⟨S2048x1, .f32⟩
  | 51 => ⟨S1x8, .f32⟩
  | 52 => ⟨S2048x8, .f32⟩
  | 53 => ⟨S2048x8, .f32⟩
  | 54 => ⟨S2048x8, .f32⟩
  | 55 => ⟨S2048x8, .f32⟩
  | 56 => ⟨S1x2048x1x8, .f32⟩
  | 57 => ⟨S2048x8, .f32⟩
  | 58 => ⟨S1x2048x1x8, .f32⟩
  | 59 => ⟨S32x2048x8x8, .f32⟩
  | 60 => ⟨S32x2048x8x8, .f32⟩
  | 61 => ⟨S32x2048x8x8, .f32⟩
  | 62 => ⟨S32x2048x8x8, .f32⟩
  | 63 => ⟨S32x2048x8x8, .f32⟩
  | 64 => ⟨S32x2048x8x8, .f32⟩
  | 65 => ⟨S32x2048x8x8, .f32⟩
  | 66 => ⟨S32x2048x8x8, .f32⟩
  | 67 => ⟨S32x2048x8x8, .f32⟩
  | 68 => ⟨S32x2048x8x8, .f32⟩
  | 69 => ⟨S32x2048x8x8, .f32⟩
  | 70 => ⟨S32x2048x8x8, .f32⟩
  | 71 => ⟨S32x2048x8x48, .f32⟩
  | 72 => ⟨S32x2048x8x64, .f32⟩
  | 73 => ⟨S_, .f32⟩
  | 74 => ⟨S32x2048x8x64, .f32⟩
  | 75 => ⟨S32x2048x8x64, .f32⟩
  | 76 => ⟨S64, .f32⟩
  | 77 => ⟨S32x2048x8x64, .f32⟩
  | 78 => ⟨S_, .f32⟩
  | 79 => ⟨S32x2048x8, .f32⟩
  | 80 => ⟨S32x2048x8x1, .f32⟩
  | 81 => ⟨S_, .f32⟩
  | 82 => ⟨S32x2048x8x1, .f32⟩
  | 83 => ⟨S32x2048x8x1, .f32⟩
  | 84 => ⟨S_, .f32⟩
  | 85 => ⟨S32x2048x8x1, .f32⟩
  | 86 => ⟨S32x2048x8x1, .f32⟩
  | 87 => ⟨S32x2048x8x1, .f32⟩
  | 88 => ⟨S32x2048x8x64, .f32⟩
  | 89 => ⟨S32x2048x8x64, .f32⟩
  | 90 => ⟨S1x1x1x64, .f32⟩
  | 91 => ⟨S32x2048x8x64, .f32⟩
  | 92 => ⟨S32x2048x8x64, .f32⟩
  | 93 => ⟨S8, .f32⟩
  | 94 => ⟨S8, .f32⟩
  | 95 => ⟨S_, .f32⟩
  | 96 => ⟨S8, .f32⟩
  | 97 => ⟨S8, .f32⟩
  | 98 => ⟨S_, .f32⟩
  | 99 => ⟨S8, .f32⟩
  | 100 => ⟨S8, .f32⟩
  | 101 => ⟨S_, .f32⟩
  | 102 => ⟨S8, .f32⟩
  | 103 => ⟨S8, .f32⟩
  | 104 => ⟨S2048, .f32⟩
  | 105 => ⟨S2048x1, .f32⟩
  | 106 => ⟨S1x8, .f32⟩
  | 107 => ⟨S2048x8, .f32⟩
  | 108 => ⟨S2048x8, .f32⟩
  | 109 => ⟨S2048x8, .f32⟩
  | 110 => ⟨S2048x8, .f32⟩
  | 111 => ⟨S1x2048x1x8, .f32⟩
  | 112 => ⟨S2048x8, .f32⟩
  | 113 => ⟨S1x2048x1x8, .f32⟩
  | 114 => ⟨S32x2048x8x8, .f32⟩
  | 115 => ⟨S32x2048x8x8, .f32⟩
  | 116 => ⟨S32x2048x8x8, .f32⟩
  | 117 => ⟨S32x2048x8x8, .f32⟩
  | 118 => ⟨S32x2048x8x8, .f32⟩
  | 119 => ⟨S32x2048x8x8, .f32⟩
  | 120 => ⟨S32x2048x8x8, .f32⟩
  | 121 => ⟨S32x2048x8x8, .f32⟩
  | 122 => ⟨S32x2048x8x8, .f32⟩
  | 123 => ⟨S32x2048x8x8, .f32⟩
  | 124 => ⟨S32x2048x8x8, .f32⟩
  | 125 => ⟨S32x2048x8x8, .f32⟩
  | 126 => ⟨S32x2048x8x48, .f32⟩
  | 127 => ⟨S32x2048x8x64, .f32⟩
  | _ => ⟨S32x2048x1024, .f32⟩

abbrev hbmTy0_2 (i : Nat) : BufTy := match i % 128 with
  | 0 => ⟨S65536x1024, .f32⟩
  | 1 => ⟨S65536x512, .f32⟩
  | 2 => ⟨S65536x512, .bf16⟩
  | 3 => ⟨S65536x512, .f32⟩
  | 4 => ⟨S65536x512, .bf16⟩
  | 5 => ⟨S65536x512, .f32⟩
  | 6 => ⟨S65536x512, .bf16⟩
  | 7 => ⟨S65536x512, .f32⟩
  | 8 => ⟨S65536x512, .f32⟩
  | 9 => ⟨S65536x512, .bf16⟩
  | 10 => ⟨S65536x512, .f32⟩
  | 11 => ⟨S65536x512, .bf16⟩
  | 12 => ⟨S65536x512, .f32⟩
  | 13 => ⟨S65536x512, .bf16⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_cst_8 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_9 : Ref sig .tc := ⟨.hbm, 113, rfl⟩
abbrev main_v86 : Ref sig .tc := ⟨.hbm, 114, rfl⟩
abbrev main_v87 : Ref sig .tc := ⟨.hbm, 115, rfl⟩
abbrev main_cst_10 : Ref sig .tc := ⟨.hbm, 116, rfl⟩
abbrev main_v88 : Ref sig .tc := ⟨.hbm, 117, rfl⟩
abbrev main_v89 : Ref sig .tc := ⟨.hbm, 118, rfl⟩
abbrev main_cst_11 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_12 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_13 : Ref sig .tc := ⟨.hbm, 151, rfl⟩
abbrev main_v120 : Ref sig .tc := ⟨.hbm, 152, rfl⟩
abbrev main_v121 : Ref sig .tc := ⟨.hbm, 153, rfl⟩
abbrev main_cst_14 : Ref sig .tc := ⟨.hbm, 154, rfl⟩
abbrev main_v122 : Ref sig .tc := ⟨.hbm, 155, rfl⟩
abbrev main_v123 : Ref sig .tc := ⟨.hbm, 156, rfl⟩
abbrev main_cst_15 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_16 : Ref sig .tc := ⟨.hbm, 168, rfl⟩
abbrev main_v134 : Ref sig .tc := ⟨.hbm, 169, rfl⟩
abbrev main_v135 : Ref sig .tc := ⟨.hbm, 170, rfl⟩
abbrev main_cst_17 : Ref sig .tc := ⟨.hbm, 171, rfl⟩
abbrev main_v136 : Ref sig .tc := ⟨.hbm, 172, rfl⟩
abbrev main_v137 : Ref sig .tc := ⟨.hbm, 173, rfl⟩
abbrev main_cst_18 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_cst_19 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_cst_20 : Ref sig .tc := ⟨.hbm, 206, rfl⟩
abbrev main_v168 : Ref sig .tc := ⟨.hbm, 207, rfl⟩
abbrev main_v169 : Ref sig .tc := ⟨.hbm, 208, rfl⟩
abbrev main_cst_21 : Ref sig .tc := ⟨.hbm, 209, rfl⟩
abbrev main_v170 : Ref sig .tc := ⟨.hbm, 210, rfl⟩
abbrev main_v171 : Ref sig .tc := ⟨.hbm, 211, rfl⟩
abbrev main_cst_22 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_cst_23 : Ref sig .tc := ⟨.hbm, 223, rfl⟩
abbrev main_v182 : Ref sig .tc := ⟨.hbm, 224, rfl⟩
abbrev main_v183 : Ref sig .tc := ⟨.hbm, 225, rfl⟩
abbrev main_cst_24 : Ref sig .tc := ⟨.hbm, 226, rfl⟩
abbrev main_v184 : Ref sig .tc := ⟨.hbm, 227, rfl⟩
abbrev main_v185 : Ref sig .tc := ⟨.hbm, 228, rfl⟩
abbrev main_cst_25 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩

abbrev nD : Nat := 1
abbrev τ : Topo := Topo.v7x

variable {F : FTy → Type} [FloatOps F]
-- ==== Kernel3.lean ====
abbrev S32x2048x1024 : Shape := ⟨3, ![32, 2048, 1024]⟩
abbrev S32x2048x512 : Shape := ⟨3, ![32, 2048, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S65536x512 : Shape := ⟨2, ![65536, 512]⟩
abbrev S512x1024 : Shape := ⟨2, ![512, 1024]⟩
abbrev S512x512 : Shape := ⟨2, ![512, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x2816 : Shape := ⟨2, ![256, 2816]⟩

abbrev nBuf : Space → Nat
  | .hbm => 22
  | .vmem => 13
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024x1024, .f32⟩
  | .hbm, ⟨9, _⟩ => ⟨S1024x1024, .bf16⟩
  | .hbm, ⟨10, _⟩ => ⟨S1024, .f32⟩
  | .hbm, ⟨11, _⟩ => ⟨S1x1024, .f32⟩
  | .hbm, ⟨12, _⟩ => ⟨S1024x2816, .f32⟩
  | .hbm, ⟨13, _⟩ => ⟨S1024x2816, .bf16⟩
  | .hbm, ⟨14, _⟩ => ⟨S1024x2816, .f32⟩
  | .hbm, ⟨15, _⟩ => ⟨S1024x2816, .bf16⟩
  | .hbm, ⟨16, _⟩ => ⟨S2816x1024, .f32⟩
  | .hbm, ⟨17, _⟩ => ⟨S2816x1024, .bf16⟩
  | .hbm, ⟨18, _⟩ => ⟨S65536x1024, .f32⟩
  | .hbm, ⟨19, _⟩ => ⟨S65536x512, .bf16⟩
  | .hbm, ⟨20, _⟩ => ⟨S65536x512, .bf16⟩
  | .hbm, ⟨21, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S32x2048x1024 : Shape := ⟨3, ![32, 2048, 1024]⟩
abbrev S32x2048x512 : Shape := ⟨3, ![32, 2048, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S32x2048x2816 : Shape := ⟨3, ![32, 2048, 2816]⟩
abbrev S65536x1024 : Shape := ⟨2, ![65536, 1024]⟩

abbrev nBuf : Space → Nat
  | .hbm => 52
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S32x2048x512, .f32⟩
  | .hbm, ⟨9, _⟩ => ⟨S32x2048x512, .f32⟩
  | .hbm, ⟨10, _⟩ => ⟨S32x2048x1024, .f32⟩
  | .hbm, ⟨11, _⟩ => ⟨S1024x1024, .f32⟩
  | .hbm, ⟨12, _⟩ => ⟨S32x2048x1024, .f32⟩
  | .hbm, ⟨13, _⟩ => ⟨S32x2048x1024, .f32⟩
  | .hbm, ⟨14, _⟩ => ⟨S1024, .f32⟩
  | .hbm, ⟨15, _⟩ => ⟨S32x2048x1024, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S_, .f32⟩
  | .hbm, ⟨20, _⟩ => ⟨S32x2048x1, .f32⟩
  | .hbm, ⟨21, _⟩ => ⟨S32x2048x1, .f32⟩
  | .hbm, ⟨22, _⟩ => ⟨S_, .f32⟩
  | .hbm, ⟨23, _⟩ => ⟨S32x2048x1, .f32⟩
  | .hbm, ⟨24, _⟩ => ⟨S32x2048x1, .f32⟩
  | .hbm, ⟨25, _⟩ => ⟨S32x2048x1, .f32⟩
  | .hbm, ⟨26, _⟩ => ⟨S32x2048x1024, .f32⟩
  | .hbm, ⟨27, _⟩ => ⟨S32x2048x1024, .f32⟩
  | .hbm, ⟨28, _⟩ => ⟨S1x1x1024, .f32⟩
  | .hbm, ⟨29, _⟩ => ⟨S32x2048x1024, .f32⟩
  | .hbm, ⟨30, _⟩ => ⟨S32x2048x1024, .f32⟩
  | .hbm, ⟨31, _⟩ => ⟨S1024x2816, .f32⟩
  | .hbm, ⟨32, _⟩ => ⟨S1024x2816, .f32⟩
  | .hbm, ⟨33, _⟩ => ⟨S2816x1024, .f32⟩
  | .hbm, ⟨34, _⟩ => ⟨S32x2048x2816, .f32⟩
  | .hbm, ⟨35, _⟩ => ⟨S32x2048x2816, .f32⟩
  | .hbm, ⟨36, _⟩ => ⟨S32x2048x2816, .f32⟩
  | .hbm, ⟨37, _⟩ => ⟨S_, .f32⟩
  | .hbm, ⟨38, _⟩ => ⟨S32x2048x2816, .f32⟩
  | .hbm, ⟨39, _⟩ => ⟨S32x2048x2816, .f32⟩
  | .hbm, ⟨40, _⟩ => ⟨S_, .f32⟩
  | .hbm, ⟨41, _⟩ => ⟨S32x2048x2816, .f32⟩
  | .hbm, ⟨42, _⟩ => ⟨S32x2048x2816, .f32⟩
  | .hbm, ⟨43, _⟩ => ⟨S32x2048x2816, .f32⟩
  | .hbm, ⟨44, _⟩ => ⟨S32x2048x2816, .f32⟩
  | .hbm, ⟨45, _⟩ => ⟨S32x2048x2816, .f32⟩
  | .hbm, ⟨46, _⟩ => ⟨S32x2048x1024, .f32⟩
  | .hbm, ⟨47, _⟩ => ⟨S_, .f32⟩
  | .hbm, ⟨48, _⟩ => ⟨S32x2048x1024, .f32⟩
  | .hbm, ⟨49, _⟩ => ⟨S32x2048x1024, .f32⟩
  | .hbm, ⟨50, _⟩ => ⟨S32x2048x1024, .f32⟩
  | .hbm, ⟨51, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Proof.Rows.lean ====
/- The layer's mathematics on one row (one token): root-mean-square norm, SwiGLU half step, joined output
   projection, over the extended reals. Both the kernels and the references are read as these. -/
module

public import Idealize.ShloMosaic.Lib.Pointwise
public import Idealize.ShloMosaic.Lib.ValueIdx

@[expose] public section

noncomputable section

open Idealize.ShloMosaic Idealize.SL.Sem

namespace Layer

/-- The mean square of a row plus epsilon, at the inverse square root: `n` and `e` are the words of the width and of epsilon. -/
def invRms {n : Nat} (w : EReal) (x : Fin n → EReal) : EReal :=
  Ideal.rsqrt (Ideal.div (∑ k, x k * x k) w + Ideal.ofBits FTy.f32 897988541#32)

/-- A row normed by its root mean square and scaled by the gain `g`. -/
def normed {n : Nat} (w : EReal) (x g : Fin n → EReal) (k : Fin n) : EReal := x k * invRms w x * g k

/-- The width 1024 as the programs spell it. -/
def w1024 : EReal := Ideal.ofBits FTy.f32 1149239296#32

/-- One hidden unit of the SwiGLU network on a row `h`. -/
def hidden {n f : Nat} (wg wu : Fin n → Fin f → EReal) (h : Fin n → EReal) (j : Fin f) : EReal :=
  (∑ k, h k * wg k j) * Ideal.logistic (∑ k, h k * wg k j) * ∑ k, h k * wu k j

/-- The half step: a row plus half the SwiGLU network of its normed self. -/
def halfStep {n f : Nat} (w : EReal) (g : Fin n → EReal) (wg wu : Fin n → Fin f → EReal) (wd : Fin f → Fin n → EReal)
    (x : Fin n → EReal) (d : Fin n) : EReal :=
  x d + Ideal.ofBits FTy.f32 1056964608#32 * ∑ j, hidden wg wu (normed w x g) j * wd j d

/-- A row plus the output projection of the two mixers' rows, joined. -/
def joined (wo : Fin 1024 → Fin 1024 → EReal) (x : Fin 1024 → EReal) (ret att : Fin 512 → EReal) (d : Fin 1024) : EReal :=
  x d + (∑ k : Fin 512, ret k * wo ⟨k, by omega⟩ d + ∑ k : Fin 512, att k * wo ⟨512 + k, by omega⟩ d)

/-- Merging the two leading axes, read at a row: the row's quotient and remainder. -/
theorem merge_apply {α : Type} {a b n N : Nat} (hb : 0 < b) (hN : N = a * b) (x : (⟨3, ![a, b, n]⟩ : Shape).Idx → α)
    (h : (⟨3, ![a, b, n]⟩ : Shape).ShapeCasts ⟨2, ![N, n]⟩) (i : Fin N) (k : Fin n) :
    shapeCast ⟨2, ![N, n]⟩ x h (ix2 i k)
      = x (ix3 ⟨i.val / b, Nat.div_lt_of_lt_mul (by rw [Nat.mul_comm]; omega)⟩ ⟨i.val % b, Nat.mod_lt _ hb⟩ k) := by
  refine shapeCast_apply _ _ _ _ ?_
  rw [Shape.rowMajor_val_three, Shape.rowMajor_val_two]
  show (i.val / b * b + i.val % b) * n + k.val = i.val * n + k.val
  rw [Nat.div_add_mod']

end Layer

end
-- ==== Proof.OutBlock.lean ====
/- The output projection with the second half step: what one grid point leaves in its block, row by row. -/
module

public import proofs.«01_k».proof.Proof.Gen.Kernel3Ideal.Value
public import proofs.«01_k».proof.Proof.Rows

@[expose] public section

noncomputable section

open Idealize.ShloMosaic Idealize.SL.Sem

namespace Cert.Kernel3Ideal.Out

open Cert.Kernel3Ideal Cert.Kernel3Ideal.Gen Layer

theorem pay6_apply (v21 : FVec Ideal S256x1024 .f32) (v47 : Vec Ideal S1x1024 .f32) (v62 v65 : Vec Ideal S1024x2816 .bf16)
    (r : Fin 256) (l : Fin 2816) :
    k0_pay6 (F := Ideal) v21 v47 v62 v65 (ix2 r l)
      = hidden (fun k j => v62 (ix2 k j)) (fun k j => v65 (ix2 k j))
          (normed w1024 (fun k => v21 (ix2 r k)) (fun k => v47 (ix2 0 k))) l := by
  pointwise [k0_pay6]
  rfl

theorem pay2_apply (v21 : FVec Ideal S256x1024 .f32) (v71 : FVec Ideal S256x2816 .bf16) (v79 : Vec Ideal S2816x1024 .bf16)
    (r : Fin 256) (l : Fin 1024) :
    k0_pay2 (F := Ideal) v21 v71 v79 (ix2 r l)
      = v21 (ix2 r l) + Ideal.ofBits FTy.f32 1056964608#32 * ∑ j, v71 (ix2 r j) * v79 (ix2 j l) := by
  pointwise [k0_pay2]

theorem pay3_apply (v0 : Vec Ideal S256x1024 .f32) (v2 v4 : Vec Ideal S256x512 .bf16) (v7 : Vec Ideal S1024x1024 .bf16)
    (r : Fin 256) (l : Fin 1024) :
    k0_pay3 (F := Ideal) v0 v2 v4 v7 (ix2 r l)
      = joined (fun k d => v7 (ix2 k d)) (fun k => v0 (ix2 r k)) (fun k => v2 (ix2 r k)) (fun k => v4 (ix2 r k)) l := by
  pointwise [k0_pay3]
  rfl

theorem pay4_apply (v0 : Vec Ideal S256x1024 .f32) (v2 v4 : Vec Ideal S256x512 .bf16) (v7 : Vec Ideal S1024x1024 .bf16)
    (r : Fin 256) (l : Fin 1024) :
    k0_pay4 (F := Ideal) v0 v2 v4 v7 (ix2 r l)
      = joined (fun k d => v7 (ix2 k d)) (fun k => v0 (ix2 r k)) (fun k => v2 (ix2 r k)) (fun k => v4 (ix2 r k)) l := by
  pointwise [k0_pay4]
  rfl

theorem pay5_apply (v0 : Vec Ideal S256x1024 .f32) (v2 v4 : Vec Ideal S256x512 .bf16) (v7 : Vec Ideal S1024x1024 .bf16)
    (v32 : Vec Ideal S1x1024 .f32) (r : Fin 256) (l : Fin 1024) :
    k0_pay5 (F := Ideal) v0 v2 v4 v7 v32 (ix2 r l)
      = normed w1024 (fun k => k0_pay3 (F := Ideal) v0 v2 v4 v7 (ix2 r k)) (fun k => v32 (ix2 0 k)) l := by
  unfold k0_pay5
  generalize k0_pay3 (F := Ideal) v0 v2 v4 v7 = y
  pointwise
  rfl

theorem pay7_apply (v35 : FVec Ideal S256x1024 .f32) (v52 v55 : Vec Ideal S1024x2816 .bf16) (v72 : Vec Ideal S2816x1024 .bf16)
    (r : Fin 256) (l : Fin 1024) :
    k0_pay7 (F := Ideal) v35 v52 v55 v72 (ix2 r l)
      = ∑ j, hidden (fun k j => v52 (ix2 k j)) (fun k j => v55 (ix2 k j)) (fun k => v35 (ix2 r k)) j * v72 (ix2 j l) := by
  pointwise [k0_pay7]
  rfl

/-- The row function of the call: a residual row and the two mixers' rows to the layer's row. -/
def out (wo : Fin 1024 → Fin 1024 → EReal) (g : Fin 1024 → EReal) (wg wu : Fin 1024 → Fin 2816 → EReal)
    (wd : Fin 2816 → Fin 1024 → EReal) (x : Fin 1024 → EReal) (ret att : Fin 512 → EReal) (d : Fin 1024) : EReal :=
  halfStep w1024 g wg wu wd (joined wo x ret att) d

theorem hz : (![0, 0] : Fin 2 → Nat) = fun _ => 0 := funext fun a => by fin_cases a <;> rfl

section loads

variable (x0 : Vec Ideal S512x1024 .f32) (x1 : Vec Ideal S512x512 .bf16) (x3 : Vec Ideal S1024x1024 .bf16)
  (x4 : Vec Ideal S1x1024 .f32) (x5 : Vec Ideal S1024x2816 .bf16) (x7 : Vec Ideal S2816x1024 .bf16)

theorem ld0 : View.ld x0 r0_0 = fun y : S256x1024.Idx => x0 (ix2 ⟨y 0, by have h : (y 0).val < 256 := (y 0).isLt; omega⟩ (y 1)) := by
  funext y
  obtain ⟨r, k, rfl⟩ : ∃ (r : Fin 256) (k : Fin 1024), y = ix2 r k := ⟨y 0, y 1, by funext a; fin_cases a <;> rfl⟩
  pointwise
theorem ld1 : View.ld x1 r0_1 = fun y : S256x512.Idx => x1 (ix2 ⟨y 0, by have h : (y 0).val < 256 := (y 0).isLt; omega⟩ (y 1)) := by
  funext y
  obtain ⟨r, k, rfl⟩ : ∃ (r : Fin 256) (k : Fin 512), y = ix2 r k := ⟨y 0, y 1, by funext a; fin_cases a <;> rfl⟩
  pointwise
theorem ld2 : View.ld x3 r0_2 = x3 := View.ld_unit_zero hz _ _
theorem ld3 : View.ld x0 r0_3 = fun y : S256x1024.Idx => x0 (ix2 ⟨256 + (y 0).val, by have h : (y 0).val < 256 := (y 0).isLt; omega⟩ (y 1)) := by
  funext y
  obtain ⟨r, k, rfl⟩ : ∃ (r : Fin 256) (k : Fin 1024), y = ix2 r k := ⟨y 0, y 1, by funext a; fin_cases a <;> rfl⟩
  pointwise
theorem ld4 : View.ld x1 r0_4 = fun y : S256x512.Idx => x1 (ix2 ⟨256 + (y 0).val, by have h : (y 0).val < 256 := (y 0).isLt; omega⟩ (y 1)) := by
  funext y
  obtain ⟨r, k, rfl⟩ : ∃ (r : Fin 256) (k : Fin 512), y = ix2 r k := ⟨y 0, y 1, by funext a; fin_cases a <;> rfl⟩
  pointwise
theorem ld5 : View.ld x4 r0_5 = x4 := View.ld_unit_zero hz _ _
theorem ld6 : View.ld x5 r0_6 = x5 := View.ld_unit_zero hz _ _
theorem ld7 : View.ld x7 r0_7 = x7 := View.ld_unit_zero hz _ _

end loads

theorem emb0 (r : Fin 256) (l : Fin 1024) : r0_0.emb (ix2 r l) = ix2 ⟨r, by omega⟩ l := by
  funext a; fin_cases a <;> (apply Fin.ext; rw [Rect.emb_apply]; simp [r0_0])
theorem emb3 (r : Fin 256) (l : Fin 1024) : r0_3.emb (ix2 r l) = ix2 ⟨256 + r, by omega⟩ l := by
  funext a; fin_cases a <;> (apply Fin.ext; rw [Rect.emb_apply]; simp [r0_3])

/-- What a point leaves in its block, as a function of the block's index. -/
def outBlock (x0 : Vec Ideal S512x1024 .f32) (x1 x2 : Vec Ideal S512x512 .bf16) (x3 : Vec Ideal S1024x1024 .bf16)
    (x4 : Vec Ideal S1x1024 .f32) (x5 x6 : Vec Ideal S1024x2816 .bf16) (x7 : Vec Ideal S2816x1024 .bf16) :
    Vec Ideal S512x1024 .f32 := fun y =>
  out (fun k d => x3 (ix2 k d)) (fun k => x4 (ix2 0 k)) (fun k d => x5 (ix2 k d)) (fun k d => x6 (ix2 k d))
    (fun k d => x7 (ix2 k d)) (fun k => x0 (ix2 (y 0) k)) (fun k => x1 (ix2 (y 0) k)) (fun k => x2 (ix2 (y 0) k)) (y 1)

/-- The block a point leaves is that function. -/
theorem block_eq (x0 : Vec Ideal S512x1024 .f32) (x1 x2 : Vec Ideal S512x512 .bf16) (x3 : Vec Ideal S1024x1024 .bf16)
    (x4 : Vec Ideal S1x1024 .f32) (x5 x6 : Vec Ideal S1024x2816 .bf16) (x7 : Vec Ideal S2816x1024 .bf16) :
    out0_8 (F := Ideal) x0 x1 x2 x3 x4 x5 x6 x7 = outBlock x0 x1 x2 x3 x4 x5 x6 x7 := by
  funext y
  unfold out0_8
  refine View.canon_apply_of_pieces (Val := Elt Ideal) (e := .f32) (outBlock x0 x1 x2 x3 x4 x5 x6 x7) _ ?_ y (cover0_8 _ _ y)
  intro p hp x
  rcases List.mem_cons.1 hp with rfl | hp
  · obtain ⟨r, l, rfl⟩ : ∃ (r : Fin 256) (l : Fin 1024), x = ix2 r l := ⟨x 0, x 1, by funext a; fin_cases a <;> rfl⟩
    show k0_pay2 (F := Ideal) _ _ _ (ix2 r l) = outBlock x0 x1 x2 x3 x4 x5 x6 x7 (r0_3.emb (ix2 r l))
    rw [pay2_apply, emb3]
    simp only [pay6_apply, k0_pay8, pay4_apply]
    rw [ld2, ld3, ld4, ld4, ld5, ld6, ld6, ld7]
    rfl
  · obtain rfl := List.mem_singleton.1 hp
    obtain ⟨r, l, rfl⟩ : ∃ (r : Fin 256) (l : Fin 1024), x = ix2 r l := ⟨x 0, x 1, by funext a; fin_cases a <;> rfl⟩
    show k0_pay1 (F := Ideal) _ _ _ (ix2 r l) = outBlock x0 x1 x2 x3 x4 x5 x6 x7 (r0_0.emb (ix2 r l))
    rw [emb0]
    show _ + _ * _ = _
    simp only [pay7_apply, pay5_apply, pay3_apply]
    rw [ld0, ld1, ld1, ld2, ld5, ld6, ld6, ld7]
    rfl

end Cert.Kernel3Ideal.Out

end
-- ==== Proof.OutArray.lean ====
/- The output projection with the second half step: the result array after the run, as one function of the arguments. -/
module

public import proofs.«01_k».proof.Proof.OutBlock
public import Idealize.ShloMosaic.Lib.ValueLayout

@[expose] public section

noncomputable section

open Idealize.ShloMosaic Idealize.ShloMosaic.TcCoe Idealize.SL.Sem
open Idealize.ShloMosaic.Pipeline (Dat)

namespace Cert.Kernel3Ideal.Out

open Cert.Kernel3Ideal Cert.Kernel3Ideal.Gen Layer

variable (m : (ℓ : Loc nD τ sig) → Buf (Elt Ideal) ℓ) (ρ : Dev nD → PrngReg)

/-- The blocks' places: the token windows move a tile down per point, the weights stay. -/
theorem idx_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = t.val ∧ win0_8.index t 1 = 0) := by decide +kernel

theorem lt_tiles (t : Fin cfg0.N) : t.val < 128 := t.isLt

theorem iblk0 (c : Dev nD) (t : Fin cfg0.N) (y : S512x1024.Idx) : iblk m c 0 t y = V m c main_v10 (ix2 (n0 := 65536) (n1 := 1024) ⟨512 * t.val + (y 0).val, by have := lt_tiles t; have : (y 0).val < 512 := (y 0).isLt; omega⟩ (y 1)) := by
  show V m c main_v10 ((win0_0.blk t).view.emb y) = _
  congr 1
  funext a
  apply Fin.ext
  refine (win0_0.rect_emb_val_off t y a).trans ?_
  have h := (idx_facts t).1
  fin_cases a
  · show win0_0.index t 0 * 512 + (y 0).val = _
    rw [h.1]; show _ = 512 * t.val + (y 0).val; omega
  · show win0_0.index t 1 * 1024 + (y 1).val = _
    rw [h.2]; show _ = (y 1).val; omega

theorem iblk1 (c : Dev nD) (t : Fin cfg0.N) (y : S512x512.Idx) : iblk m c 1 t y = V m c main_v11 (ix2 (n0 := 65536) (n1 := 512) ⟨512 * t.val + (y 0).val, by have := lt_tiles t; have : (y 0).val < 512 := (y 0).isLt; omega⟩ (y 1)) := by
  show V m c main_v11 ((win0_1.blk t).view.emb y) = _
  congr 1
  funext a
  apply Fin.ext
  refine (win0_1.rect_emb_val_off t y a).trans ?_
  have h := (idx_facts t).2.1
  fin_cases a
  · show win0_1.index t 0 * 512 + (y 0).val = _
    rw [h.1]; show _ = 512 * t.val + (y 0).val; omega
  · show win0_1.index t 1 * 512 + (y 1).val = _
    rw [h.2]; show _ = (y 1).val; omega

theorem iblk2 (c : Dev nD) (t : Fin cfg0.N) (y : S512x512.Idx) : iblk m c 2 t y = V m c main_v12 (ix2 (n0 := 65536) (n1 := 512) ⟨512 * t.val + (y 0).val, by have := lt_tiles t; have : (y 0).val < 512 := (y 0).isLt; omega⟩ (y 1)) := by
  show V m c main_v12 ((win0_2.blk t).view.emb y) = _
  congr 1
  funext a
  apply Fin.ext
  refine (win0_2.rect_emb_val_off t y a).trans ?_
  have h := (idx_facts t).2.2.1
  fin_cases a
  · show win0_2.index t 0 * 512 + (y 0).val = _
    rw [h.1]; show _ = 512 * t.val + (y 0).val; omega
  · show win0_2.index t 1 * 512 + (y 1).val = _
    rw [h.2]; show _ = (y 1).val; omega

theorem iblk3 (c : Dev nD) (t : Fin cfg0.N) (y : S1024x1024.Idx) : iblk m c 3 t y = V m c main_v1 y := by
  show V m c main_v1 ((win0_3.blk t).view.emb y) = _
  congr 1
  funext a
  apply Fin.ext
  refine (win0_3.rect_emb_val_off t y a).trans ?_
  have h := (idx_facts t).2.2.2.1
  fin_cases a
  · show win0_3.index t 0 * 1024 + (y 0).val = _
    rw [h.1]; show _ = (y 0).val; omega
  · show win0_3.index t 1 * 1024 + (y 1).val = _
    rw [h.2]; show _ = (y 1).val; omega

theorem iblk4 (c : Dev nD) (t : Fin cfg0.N) (y : S1x1024.Idx) : iblk m c 4 t y = V m c main_v3 y := by
  show V m c main_v3 ((win0_4.blk t).view.emb y) = _
  congr 1
  funext a
  apply Fin.ext
  refine (win0_4.rect_emb_val_off t y a).trans ?_
  have h := (idx_facts t).2.2.2.2.1
  fin_cases a
  · show win0_4.index t 0 * 1 + (y 0).val = _
    rw [h.1]; show _ = (y 0).val; omega
  · show win0_4.index t 1 * 1024 + (y 1).val = _
    rw [h.2]; show _ = (y 1).val; omega

theorem iblk5 (c : Dev nD) (t : Fin cfg0.N) (y : S1024x2816.Idx) : iblk m c 5 t y = V m c main_v5 y := by
  show V m c main_v5 ((win0_5.blk t).view.emb y) = _
  congr 1
  funext a
  apply Fin.ext
  refine (win0_5.rect_emb_val_off t y a).trans ?_
  have h := (idx_facts t).2.2.2.2.2.1
  fin_cases a
  · show win0_5.index t 0 * 1024 + (y 0).val = _
    rw [h.1]; show _ = (y 0).val; omega
  · show win0_5.index t 1 * 2816 + (y 1).val = _
    rw [h.2]; show _ = (y 1).val; omega

theorem iblk6 (c : Dev nD) (t : Fin cfg0.N) (y : S1024x2816.Idx) : iblk m c 6 t y = V m c main_v7 y := by
  show V m c main_v7 ((win0_6.blk t).view.emb y) = _
  congr 1
  funext a
  apply Fin.ext
  refine (win0_6.rect_emb_val_off t y a).trans ?_
  have h := (idx_facts t).2.2.2.2.2.2.1
  fin_cases a
  · show win0_6.index t 0 * 1024 + (y 0).val = _
    rw [h.1]; show _ = (y 0).val; omega
  · show win0_6.index t 1 * 2816 + (y 1).val = _
    rw [h.2]; show _ = (y 1).val; omega

theorem iblk7 (c : Dev nD) (t : Fin cfg0.N) (y : S2816x1024.Idx) : iblk m c 7 t y = V m c main_v9 y := by
  show V m c main_v9 ((win0_7.blk t).view.emb y) = _
  congr 1
  funext a
  apply Fin.ext
  refine (win0_7.rect_emb_val_off t y a).trans ?_
  have h := (idx_facts t).2.2.2.2.2.2.2.1
  fin_cases a
  · show win0_7.index t 0 * 2816 + (y 0).val = _
    rw [h.1]; show _ = (y 0).val; omega
  · show win0_7.index t 1 * 1024 + (y 1).val = _
    rw [h.2]; show _ = (y 1).val; omega

theorem V_x (c : Dev nD) (i : Fin 65536) (k : Fin 1024) :
    V m c main_v10 (ix2 i k) = m ((c.tc : Thread nD τ).loc main_arg0) (ix3 ⟨i.val / 2048, by omega⟩ ⟨i.val % 2048, by omega⟩ k) := by
  have e : V m c main_v10 = shapeCast S65536x1024 (m ((c.tc : Thread nD τ).loc main_arg0) : Vec Ideal S32x2048x1024 .f32) shapeCasts_S32x2048x1024_S65536x1024 := by
    unfold V; simp only [hostOps0]; after_results; rfl
  rw [e]
  exact merge_apply (by norm_num) (by norm_num) _ _ i k

theorem V_ret (c : Dev nD) (i : Fin 65536) (k : Fin 512) :
    V m c main_v11 (ix2 i k) = m ((c.tc : Thread nD τ).loc main_arg1) (ix3 ⟨i.val / 2048, by omega⟩ ⟨i.val % 2048, by omega⟩ k) := by
  have e : V m c main_v11 = shapeCast S65536x512 (m ((c.tc : Thread nD τ).loc main_arg1) : Vec Ideal S32x2048x512 .bf16) shapeCasts_S32x2048x512_S65536x512 := by
    unfold V; simp only [hostOps0]; after_results; rfl
  rw [e]
  exact merge_apply (by norm_num) (by norm_num) _ _ i k

theorem V_att (c : Dev nD) (i : Fin 65536) (k : Fin 512) :
    V m c main_v12 (ix2 i k) = m ((c.tc : Thread nD τ).loc main_arg2) (ix3 ⟨i.val / 2048, by omega⟩ ⟨i.val % 2048, by omega⟩ k) := by
  have e : V m c main_v12 = shapeCast S65536x512 (m ((c.tc : Thread nD τ).loc main_arg2) : Vec Ideal S32x2048x512 .bf16) shapeCasts_S32x2048x512_S65536x512 := by
    unfold V; simp only [hostOps0]; after_results; rfl
  rw [e]
  exact merge_apply (by norm_num) (by norm_num) _ _ i k

theorem V_wo (c : Dev nD) (i : Fin 1024) (k : Fin 1024) :
    V m c main_v1 (ix2 i k) = m ((c.tc : Thread nD τ).loc main_arg3) (ix3 0 i k) := by
  have e : V m c main_v1 = (truncf .bf16 (shapeCast S1024x1024 (m ((c.tc : Thread nD τ).loc main_arg3) : Vec Ideal S1x1024x1024 .f32) shapeCasts_S1x1024x1024_S1024x1024) bitsLt_bf16_f32 : FVec Ideal S1024x1024 .bf16) := by
    unfold V; simp only [hostOps0]; after_results; rfl
  rw [e]
  exact ValueIdx.shapeCast_1ab_ab_apply _ _ i k

theorem V_wg (c : Dev nD) (i : Fin 1024) (k : Fin 2816) :
    V m c main_v5 (ix2 i k) = m ((c.tc : Thread nD τ).loc main_arg5) (ix3 0 i k) := by
  have e : V m c main_v5 = (truncf .bf16 (shapeCast S1024x2816 (m ((c.tc : Thread nD τ).loc main_arg5) : Vec Ideal S1x1024x2816 .f32) shapeCasts_S1x1024x2816_S1024x2816) bitsLt_bf16_f32 : FVec Ideal S1024x2816 .bf16) := by
    unfold V; simp only [hostOps0]; after_results; rfl
  rw [e]
  exact ValueIdx.shapeCast_1ab_ab_apply _ _ i k

theorem V_wu (c : Dev nD) (i : Fin 1024) (k : Fin 2816) :
    V m c main_v7 (ix2 i k) = m ((c.tc : Thread nD τ).loc main_arg6) (ix3 0 i k) := by
  have e : V m c main_v7 = (truncf .bf16 (shapeCast S1024x2816 (m ((c.tc : Thread nD τ).loc main_arg6) : Vec Ideal S1x1024x2816 .f32) shapeCasts_S1x1024x2816_S1024x2816) bitsLt_bf16_f32 : FVec Ideal S1024x2816 .bf16) := by
    unfold V; simp only [hostOps0]; after_results; rfl
  rw [e]
  exact ValueIdx.shapeCast_1ab_ab_apply _ _ i k

theorem V_wd (c : Dev nD) (i : Fin 2816) (k : Fin 1024) :
    V m c main_v9 (ix2 i k) = m ((c.tc : Thread nD τ).loc main_arg7) (ix3 0 i k) := by
  have e : V m c main_v9 = (truncf .bf16 (shapeCast S2816x1024 (m ((c.tc : Thread nD τ).loc main_arg7) : Vec Ideal S1x2816x1024 .f32) shapeCasts_S1x2816x1024_S2816x1024) bitsLt_bf16_f32 : FVec Ideal S2816x1024 .bf16) := by
    unfold V; simp only [hostOps0]; after_results; rfl
  rw [e]
  exact ValueIdx.shapeCast_1ab_ab_apply _ _ i k

theorem V_gain (c : Dev nD) (k : Fin 1024) : V m c main_v3 (ix2 0 k) = m ((c.tc : Thread nD τ).loc main_arg4) (ix2 0 k) := by
  have e : V m c main_v3 = broadcastInDim S1x1024 ![1] bcast_S1024_S1x1024_1 (shapeCast S1024 (m ((c.tc : Thread nD τ).loc main_arg4) : Vec Ideal S1x1024 .f32) shapeCasts_S1x1024_S1024) := by
    unfold V; simp only [hostOps0]; after_results; rfl
  rw [e]
  pointwise

/-- The layer's rows: row `i` of the flattened tokens. -/
def rows (c : Dev nD) (i : Fin 65536) (d : Fin 1024) : EReal :=
  out (fun k d => m ((c.tc : Thread nD τ).loc main_arg3) (ix3 0 k d)) (fun k => m ((c.tc : Thread nD τ).loc main_arg4) (ix2 0 k))
    (fun k d => m ((c.tc : Thread nD τ).loc main_arg5) (ix3 0 k d)) (fun k d => m ((c.tc : Thread nD τ).loc main_arg6) (ix3 0 k d))
    (fun k d => m ((c.tc : Thread nD τ).loc main_arg7) (ix3 0 k d))
    (fun k => m ((c.tc : Thread nD τ).loc main_arg0) (ix3 ⟨i.val / 2048, by omega⟩ ⟨i.val % 2048, by omega⟩ k))
    (fun k => m ((c.tc : Thread nD τ).loc main_arg1) (ix3 ⟨i.val / 2048, by omega⟩ ⟨i.val % 2048, by omega⟩ k))
    (fun k => m ((c.tc : Thread nD τ).loc main_arg2) (ix3 ⟨i.val / 2048, by omega⟩ ⟨i.val % 2048, by omega⟩ k)) d

/-- The result array as one function of the arguments. -/
def array (c : Dev nD) : Vec Ideal S65536x1024 .f32 := fun y => rows m c (y 0) (y 1)

theorem emb8 (t : Fin cfg0.N) (y : S512x1024.Idx) : ((win0_8.blk t).view.emb y : S65536x1024.Idx) = ix2 (n0 := 65536) (n1 := 1024) ⟨512 * t.val + (y 0).val, by have := lt_tiles t; have : (y 0).val < 512 := (y 0).isLt; omega⟩ (y 1) := by
  funext a
  apply Fin.ext
  refine (win0_8.rect_emb_val_off t y a).trans ?_
  have h := (idx_facts t).2.2.2.2.2.2.2.2
  fin_cases a
  · show win0_8.index t 0 * 512 + (y 0).val = _
    rw [h.1]; show _ = 512 * t.val + (y 0).val; omega
  · show win0_8.index t 1 * 1024 + (y 1).val = _
    rw [h.2]; show _ = (y 1).val; omega

theorem out_congr {wo wo' : Fin 1024 → Fin 1024 → EReal} {g g' : Fin 1024 → EReal} {wg wg' wu wu' : Fin 1024 → Fin 2816 → EReal}
    {wd wd' : Fin 2816 → Fin 1024 → EReal} {x x' : Fin 1024 → EReal} {r r' a a' : Fin 512 → EReal} {d d' : Fin 1024}
    (h1 : wo = wo') (h2 : g = g') (h3 : wg = wg') (h4 : wu = wu') (h5 : wd = wd') (h6 : x = x') (h7 : r = r') (h8 : a = a')
    (h9 : d = d') : out wo g wg wu wd x r a d = out wo' g' wg' wu' wd' x' r' a' d' := by
  subst h1 h2 h3 h4 h5 h6 h7 h8 h9; rfl

/-- What every point writes back is its block of that array. -/
theorem flushed_eq (c : Dev nD) (t : Fin cfg0.N) :
    (dats m 0 c).flushed 8 t = ((cfg0.win 8).blk t).view.read (Elt Ideal) (array m c) := by
  rw [Value.flushed8, block_eq]
  funext y
  show outBlock _ _ _ _ _ _ _ _ y = array m c ((win0_8.blk t).view.emb y)
  rw [emb8]
  unfold outBlock array rows
  exact out_congr (funext fun k => funext fun d => (iblk3 m c t _).trans (V_wo m c k d))
    (funext fun k => (iblk4 m c t _).trans (V_gain m c k))
    (funext fun k => funext fun d => (iblk5 m c t _).trans (V_wg m c k d))
    (funext fun k => funext fun d => (iblk6 m c t _).trans (V_wu m c k d))
    (funext fun k => funext fun d => (iblk7 m c t _).trans (V_wd m c k d))
    (funext fun k => (iblk0 m c t _).trans (V_x m c _ k))
    (funext fun k => (iblk1 m c t _).trans (V_ret m c _ k))
    (funext fun k => (iblk2 m c t _).trans (V_att m c _ k)) rfl

/-- Every index of the result is in the block of its tile. -/
theorem cover (i : S65536x1024.Idx) :
    ∃ t : Fin cfg0.N, (cfg0.win 8).flush t = true ∧ i ∈ ((cfg0.win 8).blk t).view.set := by
  have h0 : (i 0).val < 65536 := (i 0).isLt
  obtain ⟨t, ht⟩ : ∃ t : Fin cfg0.N, t.val = (i 0).val / 512 := ⟨⟨(i 0).val / 512, show (i 0).val / 512 < 128 by omega⟩, rfl⟩
  obtain ⟨y, hy⟩ : ∃ y : S512x1024.Idx, y = ix2 (n0 := 512) (n1 := 1024) ⟨(i 0).val % 512, by omega⟩ (i 1) := ⟨_, rfl⟩
  refine ⟨t, (by decide +kernel : ∀ t : Fin cfg0.N, win0_8.flush t = true) t, ?_⟩
  have e : (show S65536x1024.Idx from (win0_8.blk t).view.emb y) = i := by
    refine (emb8 t y).trans ?_
    subst hy
    funext a
    fin_cases a
    · apply Fin.ext
      show 512 * t.val + (i 0).val % 512 = (i 0).val
      omega
    · rfl
  exact Eq.mp (congrArg (· ∈ ((cfg0.win 8).blk t).view.set) e) (View.emb_mem_set _ y)

/-- The run: the result is that array and the arguments are unchanged. -/
theorem result_eq (c : Dev nD) : (dats m 0 c).arrAt 8 cfg0.N = array m c :=
  (dats m 0 c).arrAt_eq_of_cover 8 (array m c) (fun t _ => flushed_eq m c t) cover

end Cert.Kernel3Ideal.Out

end
-- ==== Proof.OutReference.lean ====
/- The reference of the output projection with the second half step, read row by row. -/
module

public import proofs.«01_k».proof.Proof.Gen.Reference3Ideal.Read
public import proofs.«01_k».proof.Proof.OutArray

@[expose] public section

noncomputable section

open Idealize.ShloMosaic Idealize.ShloMosaic.TcCoe Idealize.SL.Sem

namespace Cert.Reference3Ideal.Out

open Cert.Reference3Ideal Cert.Reference3Ideal.Read Layer

variable (x0 : Vec Ideal S32x2048x1024 .f32) (x1 x2 : Vec Ideal S32x2048x512 .bf16) (x3 : Vec Ideal S1x1024x1024 .f32)
  (x4 : Vec Ideal S1x1024 .f32) (x5 x6 : Vec Ideal S1x1024x2816 .f32) (x7 : Vec Ideal S1x2816x1024 .f32)

theorem residual_apply (b : Fin 32) (s : Fin 2048) (d : Fin 1024) :
    val_main_v5 (F := Ideal) x0 x1 x2 x3 (ix3 b s d)
      = joined (fun k d => x3 (ix3 0 k d)) (fun k => x0 (ix3 b s k)) (fun k => x1 (ix3 b s k)) (fun k => x2 (ix3 b s k)) d := by
  pointwise [val_main_v5, val_main_v4, val_main_v3, val_main_v2, val_main_v1, val_main_v0]
  rfl

theorem normed_apply (b : Fin 32) (s : Fin 2048) (d : Fin 1024) :
    val_main_v19 (F := Ideal) x0 x1 x2 x3 x4 (ix3 b s d)
      = normed w1024 (fun k => val_main_v5 (F := Ideal) x0 x1 x2 x3 (ix3 b s k)) (fun k => x4 (ix2 0 k)) d := by
  unfold val_main_v19 val_main_v16 val_main_v15 val_main_v14 val_main_v13 val_main_v11 val_main_v9 val_main_v8 val_main_v7
  generalize val_main_v5 (F := Ideal) x0 x1 x2 x3 = y
  pointwise [val_main_v18, val_main_v17, val_main_v12, val_main_v10, val_main_v6, val_main_cst, val_main_cst_0, val_main_cst_1]
  rfl

theorem hidden_apply (b : Fin 32) (s : Fin 2048) (j : Fin 2816) :
    val_main_v26 (F := Ideal) x0 x1 x2 x3 x4 x5 x6 (ix3 b s j)
      = hidden (fun k j => x5 (ix3 0 k j)) (fun k j => x6 (ix3 0 k j))
          (fun k => val_main_v19 (F := Ideal) x0 x1 x2 x3 x4 (ix3 b s k)) j := by
  unfold val_main_v26 val_main_v25 val_main_v24 val_main_call0_v5 val_main_call0_v3 val_main_call0_v1 val_main_call0_v0 val_main_v23
  generalize val_main_v19 (F := Ideal) x0 x1 x2 x3 x4 = y
  pointwise [val_main_v20, val_main_v21, val_main_call0_v4, val_main_call0_v2, val_main_call0_cst, val_main_call0_cst_0]
  unfold Layer.hidden Ideal.logistic
  rfl

theorem result_apply (b : Fin 32) (s : Fin 2048) (d : Fin 1024) :
    val_main_v30 (F := Ideal) x0 x1 x2 x3 x4 x5 x6 x7 (ix3 b s d)
      = Cert.Kernel3Ideal.Out.out (fun k d => x3 (ix3 0 k d)) (fun k => x4 (ix2 0 k)) (fun k d => x5 (ix3 0 k d)) (fun k d => x6 (ix3 0 k d))
          (fun k d => x7 (ix3 0 k d)) (fun k => x0 (ix3 b s k)) (fun k => x1 (ix3 b s k)) (fun k => x2 (ix3 b s k)) d := by
  have h : val_main_v30 (F := Ideal) x0 x1 x2 x3 x4 x5 x6 x7 (ix3 b s d)
      = val_main_v5 (F := Ideal) x0 x1 x2 x3 (ix3 b s d) + Ideal.ofBits FTy.f32 1056964608#32
          * ∑ j, val_main_v26 (F := Ideal) x0 x1 x2 x3 x4 x5 x6 (ix3 b s j) * x7 (ix3 0 j d) := by
    unfold val_main_v30 val_main_v29 val_main_v27
    generalize val_main_v26 (F := Ideal) x0 x1 x2 x3 x4 x5 x6 = y
    generalize val_main_v5 (F := Ideal) x0 x1 x2 x3 = z
    pointwise [val_main_v28, val_main_v22, val_main_cst_2]
  rw [h]
  simp only [hidden_apply, normed_apply, residual_apply]
  rfl

/-- The reference's result is the array the kernel's run ends with, of the same arguments. -/
theorem result_eq (m : (ℓ : Loc nD τ sig) → Buf (Elt Ideal) ℓ) (c : Dev nD) :
    Value.res_main_v31 m c = fun y : S65536x1024.Idx =>
      Cert.Kernel3Ideal.Out.out (fun k d => m ((c.tc : Thread nD τ).loc main_arg3) (ix3 0 k d)) (fun k => m ((c.tc : Thread nD τ).loc main_arg4) (ix2 0 k))
        (fun k d => m ((c.tc : Thread nD τ).loc main_arg5) (ix3 0 k d)) (fun k d => m ((c.tc : Thread nD τ).loc main_arg6) (ix3 0 k d))
        (fun k d => m ((c.tc : Thread nD τ).loc main_arg7) (ix3 0 k d))
        (fun k => m ((c.tc : Thread nD τ).loc main_arg0) (ix3 ⟨(y 0).val / 2048, by have : (y 0).val < 65536 := (y 0).isLt; omega⟩ ⟨(y 0).val % 2048, by omega⟩ k))
        (fun k => m ((c.tc : Thread nD τ).loc main_arg1) (ix3 ⟨(y 0).val / 2048, by have : (y 0).val < 65536 := (y 0).isLt; omega⟩ ⟨(y 0).val % 2048, by omega⟩ k))
        (fun k => m ((c.tc : Thread nD τ).loc main_arg2) (ix3 ⟨(y 0).val / 2048, by have : (y 0).val < 65536 := (y 0).isLt; omega⟩ ⟨(y 0).val % 2048, by omega⟩ k)) (y 1) := by
  rw [val_main_v31_eq]
  unfold val_main_v31
  funext y
  obtain ⟨i, k, rfl⟩ : ∃ (i : Fin 65536) (k : Fin 1024), y = ix2 i k := ⟨y 0, y 1, by funext a; fin_cases a <;> rfl⟩
  refine (merge_apply (by norm_num) (by norm_num) _ _ i k).trans ?_
  rw [result_apply]
  rfl

end Cert.Reference3Ideal.Out

end
-- ==== Proof.InFrame.lean ====
/- The run of the input call: what each of its windows holds before and after the body at a grid point, the body's
   triple, and the whole run with the result arrays block by block. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel2Ideal.In

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S512x1024 := Rect.unit (s := S512x1024) ![0, 0] S256x1024.size inb_S512x1024_S256x1024_0_0
abbrev r0_1 : Rect S1x1024 := Rect.unit (s := S1x1024) ![0, 0] S1x1024.size inb_S1x1024_S1x1024_0_0
abbrev r0_2 : Rect S512x1024 := Rect.unit (s := S512x1024) ![256, 0] S256x1024.size inb_S512x1024_S256x1024_256_0
abbrev r0_3 : Rect S1024x2816 := Rect.unit (s := S1024x2816) ![0, 0] S1024x2816.size inb_S1024x2816_S1024x2816_0_0
abbrev r0_4 : Rect S2816x1024 := Rect.unit (s := S2816x1024) ![0, 0] S2816x1024.size inb_S2816x1024_S2816x1024_0_0
abbrev r0_5 : Rect S1024x3584 := Rect.unit (s := S1024x3584) ![0, 2048] S1024x512.size inb_S1024x3584_S1024x512_0_2048
abbrev r0_6 : Rect S1x512 := Rect.unit (s := S1x512) ![0, 0] S1x128.size inb_S1x512_S1x128_0_0
abbrev r0_7 : Rect S512x128 := Rect.unit (s := S512x128) ![0, 0] S256x128.size inb_S512x128_S256x128_0_0
abbrev r0_8 : Rect S512x512 := Rect.unit (s := S512x512) ![0, 0] S256x128.size inb_S512x512_S256x128_0_0
abbrev r0_9 : Rect S1x512 := Rect.unit (s := S1x512) ![0, 128] S1x128.size inb_S1x512_S1x128_0_128
abbrev r0_10 : Rect S512x512 := Rect.unit (s := S512x512) ![0, 128] S256x128.size inb_S512x512_S256x128_0_128
abbrev r0_11 : Rect S1x512 := Rect.unit (s := S1x512) ![0, 256] S1x128.size inb_S1x512_S1x128_0_256
abbrev r0_12 : Rect S512x512 := Rect.unit (s := S512x512) ![0, 256] S256x128.size inb_S512x512_S256x128_0_256
abbrev r0_13 : Rect S1x512 := Rect.unit (s := S1x512) ![0, 384] S1x128.size inb_S1x512_S1x128_0_384
abbrev r0_14 : Rect S512x512 := Rect.unit (s := S512x512) ![0, 384] S256x128.size inb_S512x512_S256x128_0_384
abbrev r0_15 : Rect S1024x3584 := Rect.unit (s := S1024x3584) ![0, 2560] S1024x512.size inb_S1024x3584_S1024x512_0_2560
abbrev r0_16 : Rect S1024x3584 := Rect.unit (s := S1024x3584) ![0, 0] S1024x512.size inb_S1024x3584_S1024x512_0_0
abbrev r0_17 : Rect S1024x3584 := Rect.unit (s := S1024x3584) ![0, 512] S1024x512.size inb_S1024x3584_S1024x512_0_512
abbrev r0_18 : Rect S1024x3584 := Rect.unit (s := S1024x3584) ![0, 1024] S1024x512.size inb_S1024x3584_S1024x512_0_1024
abbrev r0_19 : Rect S512x512 := Rect.unit (s := S512x512) ![0, 0] S256x512.size inb_S512x512_S256x512_0_0
abbrev r0_20 : Rect S1024x3584 := Rect.unit (s := S1024x3584) ![0, 1536] S1024x512.size inb_S1024x3584_S1024x512_0_1536
abbrev r0_21 : Rect S1024x3584 := Rect.unit (s := S1024x3584) ![0, 3072] S1024x512.size inb_S1024x3584_S1024x512_0_3072
abbrev r0_22 : Rect S512x128 := Rect.unit (s := S512x128) ![256, 0] S256x128.size inb_S512x128_S256x128_256_0
abbrev r0_23 : Rect S512x512 := Rect.unit (s := S512x512) ![256, 0] S256x128.size inb_S512x512_S256x128_256_0
abbrev r0_24 : Rect S512x512 := Rect.unit (s := S512x512) ![256, 128] S256x128.size inb_S512x512_S256x128_256_128
abbrev r0_25 : Rect S512x512 := Rect.unit (s := S512x512) ![256, 256] S256x128.size inb_S512x512_S256x128_256_256
abbrev r0_26 : Rect S512x512 := Rect.unit (s := S512x512) ![256, 384] S256x128.size inb_S512x512_S256x128_256_384
abbrev r0_27 : Rect S512x512 := Rect.unit (s := S512x512) ![256, 0] S256x512.size inb_S512x512_S256x512_256_0

def zero  : FVec F S256x2816 .f32 :=
  constant S256x2816 .f32 0x00000000#32
def normTop (x0 : Vec F S512x1024 .f32) (x1 : Vec F S1x1024 .f32) : FVec F S256x1024 .bf16 :=
  k0_pay2 (View.ld x0 r0_0) (View.ld x1 r0_1)
def normBot (x0 : Vec F S512x1024 .f32) (x1 : Vec F S1x1024 .f32) : FVec F S256x1024 .bf16 :=
  k0_pay3 (View.ld x0 r0_2) (View.ld x1 r0_1)
def gateTop (x0 : Vec F S512x1024 .f32) (x1 : Vec F S1x1024 .f32) (x2 : Vec F S1024x2816 .bf16) : FVec F S256x2816 .f32 :=
  k0_pay4 (View.ld x0 r0_0) (View.ld x1 r0_1) (View.ld x2 r0_3)
def upWeight (x3 : Vec F S1024x2816 .bf16) : FVec F S1024x2816 .bf16 :=
  k0_pay5 (View.ld x3 r0_3)
def stepTop (x0 : Vec F S512x1024 .f32) (x1 : Vec F S1x1024 .f32) (x2 : Vec F S1024x2816 .bf16) (x3 : Vec F S1024x2816 .bf16) (x4 : Vec F S2816x1024 .bf16) : FVec F S256x1024 .f32 :=
  k0_pay6 (normTop x0 x1) (gateTop x0 x1 x2) (upWeight x3) zero (View.ld x0 r0_0) (View.ld x4 r0_4)
def squaresTop (x0 : Vec F S512x1024 .f32) (x1 : Vec F S1x1024 .f32) (x2 : Vec F S1024x2816 .bf16) (x3 : Vec F S1024x2816 .bf16) (x4 : Vec F S2816x1024 .bf16) : FVec F S256 .f32 :=
  k0_pay8 (normTop x0 x1) (gateTop x0 x1 x2) (upWeight x3) zero (View.ld x0 r0_0) (View.ld x4 r0_4)
def mixTop (x0 : Vec F S512x1024 .f32) (x1 : Vec F S1x1024 .f32) (x2 : Vec F S1024x2816 .bf16) (x3 : Vec F S1024x2816 .bf16) (x4 : Vec F S2816x1024 .bf16) (x5 : Vec F S1x1024 .f32) : FVec F S256x1024 .bf16 :=
  k0_pay9 (stepTop x0 x1 x2 x3 x4) (squaresTop x0 x1 x2 x3 x4) (View.ld x5 r0_1)
def mixBot (x0 : Vec F S512x1024 .f32) (x1 : Vec F S1x1024 .f32) (x2 : Vec F S1024x2816 .bf16) (x3 : Vec F S1024x2816 .bf16) (x4 : Vec F S2816x1024 .bf16) (x5 : Vec F S1x1024 .f32) : FVec F S256x1024 .bf16 :=
  k0_pay10 (k0_pay7 (normBot x0 x1) (View.ld x2 r0_3) (View.ld x3 r0_3) (View.ld x0 r0_2) (View.ld x4 r0_4)) (View.ld x5 r0_1)
def firstHead  : IVec S256x128 1 :=
  k0_pay11
def queryTop (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x3584 .bf16) : FVec F S256x512 .f32 :=
  k0_pay12 (stepTop x0 x1 x2 x3 x4) (squaresTop x0 x1 x2 x3 x4) (View.ld x5 r0_1) (View.ld x6 r0_5)
def keyTop (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x3584 .bf16) : FVec F S256x512 .f32 :=
  k0_pay33 (mixTop x0 x1 x2 x3 x4 x5) (View.ld x6 r0_15)
def retQueryTop (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x3584 .bf16) : FVec F S256x512 .f32 :=
  k0_pay54 (mixTop x0 x1 x2 x3 x4 x5) (View.ld x6 r0_16)
def queryBot (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x3584 .bf16) : FVec F S256x512 .f32 :=
  k0_pay75 (mixBot x0 x1 x2 x3 x4 x5) (View.ld x6 r0_5)
def keyBot (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x3584 .bf16) : FVec F S256x512 .f32 :=
  k0_pay93 (mixBot x0 x1 x2 x3 x4 x5) (View.ld x6 r0_15)
def retQueryBot (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x3584 .bf16) : FVec F S256x512 .f32 :=
  k0_pay109 (mixBot x0 x1 x2 x3 x4 x5) (View.ld x6 r0_16)
def retKeyBot (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x3584 .bf16) : FVec F S256x512 .f32 :=
  k0_pay114 (mixBot x0 x1 x2 x3 x4 x5) (View.ld x6 r0_17)

def out0_14 (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x3584 .bf16) (x7 : Vec F S512x128 .f32) (x8 : Vec F S512x128 .f32) (x9 : Vec F S512x128 .f32) (x10 : Vec F S512x128 .f32) (x11 : Vec F S512x128 .f32) (x12 : Vec F S1x512 .f32) (x13 : Vec F S1x512 .f32) : Vec F S512x1024 .f32 :=
  View.canon [⟨r0_2, k0_pay7 (normBot x0 x1) (View.ld x2 r0_3) (View.ld x3 r0_3) (View.ld x0 r0_2) (View.ld x4 r0_4)⟩,
    ⟨r0_0, k0_pay6 (normTop x0 x1) (gateTop x0 x1 x2) (upWeight x3) zero (View.ld x0 r0_0) (View.ld x4 r0_4)⟩]

theorem cover0_14 (p0 : Vec F S256x1024 .f32) (p1 : Vec F S256x1024 .f32) (y : S512x1024.Idx) :
    ∃ pc ∈ ([⟨r0_2, p0⟩, ⟨r0_0, p1⟩] : List (View.Piece (Elt F) S512x1024 .f32)), y ∈ pc.1.set :=
  View.cover_of_tiled [⟨r0_2, p0⟩, ⟨r0_0, p1⟩] S256x1024.size (by rfl) y

def out0_15 (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x3584 .bf16) (x7 : Vec F S512x128 .f32) (x8 : Vec F S512x128 .f32) (x9 : Vec F S512x128 .f32) (x10 : Vec F S512x128 .f32) (x11 : Vec F S512x128 .f32) (x12 : Vec F S1x512 .f32) (x13 : Vec F S1x512 .f32) : Vec F S512x512 .bf16 :=
  View.canon [⟨r0_26, k0_pay113 (retQueryBot x0 x1 x2 x3 x4 x5 x6) (View.ld x7 r0_22) (View.ld x8 r0_22)⟩,
    ⟨r0_25, k0_pay112 (retQueryBot x0 x1 x2 x3 x4 x5 x6) (View.ld x7 r0_22) (View.ld x8 r0_22)⟩,
    ⟨r0_24, k0_pay111 (mixBot x0 x1 x2 x3 x4 x5) (View.ld x6 r0_16) (View.ld x7 r0_22) (View.ld x8 r0_22)⟩,
    ⟨r0_23, k0_pay110 (mixBot x0 x1 x2 x3 x4 x5) (View.ld x6 r0_16) (View.ld x7 r0_22) (View.ld x8 r0_22)⟩,
    ⟨r0_14, k0_pay65 (k0_pay62 (retQueryTop x0 x1 x2 x3 x4 x5 x6) (View.ld x7 r0_7)) (k0_pay63 (retQueryTop x0 x1 x2 x3 x4 x5 x6)) (k0_pay64 (View.ld x8 r0_7))⟩,
    ⟨r0_12, k0_pay60 (retQueryTop x0 x1 x2 x3 x4 x5 x6) (View.ld x7 r0_7) (View.ld x8 r0_7)⟩,
    ⟨r0_10, k0_pay59 (retQueryTop x0 x1 x2 x3 x4 x5 x6) (View.ld x7 r0_7) (View.ld x8 r0_7)⟩,
    ⟨r0_8, k0_pay58 (k0_pay56 (mixTop x0 x1 x2 x3 x4 x5) (View.ld x6 r0_16) (View.ld x7 r0_7)) (k0_pay57 (mixTop x0 x1 x2 x3 x4 x5) (View.ld x6 r0_16)) (View.ld x8 r0_7)⟩]

theorem cover0_15 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (y : S512x512.Idx) :
    ∃ pc ∈ ([⟨r0_26, p0⟩, ⟨r0_25, p1⟩, ⟨r0_24, p2⟩, ⟨r0_23, p3⟩, ⟨r0_14, p4⟩, ⟨r0_12, p5⟩, ⟨r0_10, p6⟩, ⟨r0_8, p7⟩] : List (View.Piece (Elt F) S512x512 .bf16)), y ∈ pc.1.set :=
  View.cover_of_tiled [⟨r0_26, p0⟩, ⟨r0_25, p1⟩, ⟨r0_24, p2⟩, ⟨r0_23, p3⟩, ⟨r0_14, p4⟩, ⟨r0_12, p5⟩, ⟨r0_10, p6⟩, ⟨r0_8, p7⟩] S256x128.size (by rfl) y

def out0_16 (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x3584 .bf16) (x7 : Vec F S512x128 .f32) (x8 : Vec F S512x128 .f32) (x9 : Vec F S512x128 .f32) (x10 : Vec F S512x128 .f32) (x11 : Vec F S512x128 .f32) (x12 : Vec F S1x512 .f32) (x13 : Vec F S1x512 .f32) : Vec F S512x512 .bf16 :=
  View.canon [⟨r0_26, k0_pay122 (k0_pay120 (retKeyBot x0 x1 x2 x3 x4 x5 x6) (View.ld x7 r0_22)) (k0_pay121 (retKeyBot x0 x1 x2 x3 x4 x5 x6)) (View.ld x8 r0_22)⟩,
    ⟨r0_25, k0_pay118 (retKeyBot x0 x1 x2 x3 x4 x5 x6) (View.ld x7 r0_22) (View.ld x8 r0_22)⟩,
    ⟨r0_24, k0_pay117 (retKeyBot x0 x1 x2 x3 x4 x5 x6) (View.ld x7 r0_22) (View.ld x8 r0_22)⟩,
    ⟨r0_23, k0_pay116 (k0_pay115 (mixBot x0 x1 x2 x3 x4 x5) (View.ld x6 r0_17) (View.ld x7 r0_22) (View.ld x8 r0_22)) (Scalar.ofBits .f32 0x3DB504F3#32)⟩,
    ⟨r0_14, k0_pay71 (k0_pay66 (mixTop x0 x1 x2 x3 x4 x5) (View.ld x6 r0_17)) (View.ld x7 r0_7) (View.ld x8 r0_7)⟩,
    ⟨r0_12, k0_pay70 (k0_pay69 (mixTop x0 x1 x2 x3 x4 x5) (View.ld x6 r0_17)) (View.ld x7 r0_7) (View.ld x8 r0_7)⟩,
    ⟨r0_10, k0_pay68 (mixTop x0 x1 x2 x3 x4 x5) (View.ld x6 r0_17) (View.ld x7 r0_7) (View.ld x8 r0_7)⟩,
    ⟨r0_8, k0_pay67 (mixTop x0 x1 x2 x3 x4 x5) (View.ld x6 r0_17) (View.ld x7 r0_7) (View.ld x8 r0_7)⟩]

theorem cover0_16 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (y : S512x512.Idx) :
    ∃ pc ∈ ([⟨r0_26, p0⟩, ⟨r0_25, p1⟩, ⟨r0_24, p2⟩, ⟨r0_23, p3⟩, ⟨r0_14, p4⟩, ⟨r0_12, p5⟩, ⟨r0_10, p6⟩, ⟨r0_8, p7⟩] : List (View.Piece (Elt F) S512x512 .bf16)), y ∈ pc.1.set :=
  View.cover_of_tiled [⟨r0_26, p0⟩, ⟨r0_25, p1⟩, ⟨r0_24, p2⟩, ⟨r0_23, p3⟩, ⟨r0_14, p4⟩, ⟨r0_12, p5⟩, ⟨r0_10, p6⟩, ⟨r0_8, p7⟩] S256x128.size (by rfl) y

def out0_17 (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x3584 .bf16) (x7 : Vec F S512x128 .f32) (x8 : Vec F S512x128 .f32) (x9 : Vec F S512x128 .f32) (x10 : Vec F S512x128 .f32) (x11 : Vec F S512x128 .f32) (x12 : Vec F S1x512 .f32) (x13 : Vec F S1x512 .f32) : Vec F S512x512 .bf16 :=
  View.canon [⟨r0_27, k0_pay123 (mixBot x0 x1 x2 x3 x4 x5) (View.ld x6 r0_18)⟩,
    ⟨r0_19, k0_pay72 (mixTop x0 x1 x2 x3 x4 x5) (View.ld x6 r0_18)⟩]

theorem cover0_17 (p0 : Vec F S256x512 .bf16) (p1 : Vec F S256x512 .bf16) (y : S512x512.Idx) :
    ∃ pc ∈ ([⟨r0_27, p0⟩, ⟨r0_19, p1⟩] : List (View.Piece (Elt F) S512x512 .bf16)), y ∈ pc.1.set :=
  View.cover_of_tiled [⟨r0_27, p0⟩, ⟨r0_19, p1⟩] S256x512.size (by rfl) y

def out0_18 (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x3584 .bf16) (x7 : Vec F S512x128 .f32) (x8 : Vec F S512x128 .f32) (x9 : Vec F S512x128 .f32) (x10 : Vec F S512x128 .f32) (x11 : Vec F S512x128 .f32) (x12 : Vec F S1x512 .f32) (x13 : Vec F S1x512 .f32) : Vec F S512x512 .f32 :=
  View.canon [⟨r0_27, k0_pay124 (mixBot x0 x1 x2 x3 x4 x5) (View.ld x6 r0_20)⟩,
    ⟨r0_19, k0_pay73 (mixTop x0 x1 x2 x3 x4 x5) (View.ld x6 r0_20)⟩]

theorem cover0_18 (p0 : Vec F S256x512 .f32) (p1 : Vec F S256x512 .f32) (y : S512x512.Idx) :
    ∃ pc ∈ ([⟨r0_27, p0⟩, ⟨r0_19, p1⟩] : List (View.Piece (Elt F) S512x512 .f32)), y ∈ pc.1.set :=
  View.cover_of_tiled [⟨r0_27, p0⟩, ⟨r0_19, p1⟩] S256x512.size (by rfl) y

def out0_19 (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x3584 .bf16) (x7 : Vec F S512x128 .f32) (x8 : Vec F S512x128 .f32) (x9 : Vec F S512x128 .f32) (x10 : Vec F S512x128 .f32) (x11 : Vec F S512x128 .f32) (x12 : Vec F S1x512 .f32) (x13 : Vec F S1x512 .f32) : Vec F S512x512 .bf16 :=
  View.canon [⟨r0_26, k0_pay92 (k0_pay88 firstHead (queryBot x0 x1 x2 x3 x4 x5 x6) (View.ld x12 r0_13)) (k0_pay89 firstHead (queryBot x0 x1 x2 x3 x4 x5 x6) (View.ld x12 r0_13) (View.ld x9 r0_22)) (k0_pay90 firstHead (queryBot x0 x1 x2 x3 x4 x5 x6) (View.ld x12 r0_13)) (k0_pay91 (View.ld x11 r0_22)) (View.ld x10 r0_22)⟩,
    ⟨r0_25, k0_pay87 (k0_pay84 firstHead (queryBot x0 x1 x2 x3 x4 x5 x6) (View.ld x12 r0_11)) (k0_pay85 firstHead (queryBot x0 x1 x2 x3 x4 x5 x6) (View.ld x12 r0_11) (View.ld x9 r0_22)) (k0_pay86 firstHead (queryBot x0 x1 x2 x3 x4 x5 x6) (View.ld x12 r0_11)) (View.ld x11 r0_22) (View.ld x10 r0_22)⟩,
    ⟨r0_24, k0_pay83 (k0_pay80 firstHead (queryBot x0 x1 x2 x3 x4 x5 x6) (View.ld x12 r0_9)) (k0_pay81 firstHead (queryBot x0 x1 x2 x3 x4 x5 x6) (View.ld x12 r0_9) (View.ld x9 r0_22)) (k0_pay82 firstHead (queryBot x0 x1 x2 x3 x4 x5 x6) (View.ld x12 r0_9)) (View.ld x11 r0_22) (View.ld x10 r0_22)⟩,
    ⟨r0_23, k0_pay79 (k0_pay76 (mixBot x0 x1 x2 x3 x4 x5) firstHead (View.ld x6 r0_5) (View.ld x12 r0_6)) (k0_pay77 (mixBot x0 x1 x2 x3 x4 x5) firstHead (View.ld x6 r0_5) (View.ld x12 r0_6) (View.ld x9 r0_22)) (k0_pay78 (mixBot x0 x1 x2 x3 x4 x5) firstHead (View.ld x6 r0_5) (View.ld x12 r0_6)) (View.ld x11 r0_22) (View.ld x10 r0_22)⟩,
    ⟨r0_14, k0_pay32 firstHead (k0_pay28 (queryTop x0 x1 x2 x3 x4 x5 x6)) (k0_pay30 firstHead (queryTop x0 x1 x2 x3 x4 x5 x6)) (k0_pay31 firstHead (queryTop x0 x1 x2 x3 x4 x5 x6)) (View.ld x12 r0_13) (View.ld x9 r0_7) (View.ld x11 r0_7) (View.ld x10 r0_7)⟩,
    ⟨r0_12, k0_pay27 firstHead (k0_pay23 (queryTop x0 x1 x2 x3 x4 x5 x6)) (k0_pay25 firstHead (queryTop x0 x1 x2 x3 x4 x5 x6)) (k0_pay26 firstHead (queryTop x0 x1 x2 x3 x4 x5 x6)) (View.ld x12 r0_11) (View.ld x9 r0_7) (View.ld x11 r0_7) (View.ld x10 r0_7)⟩,
    ⟨r0_10, k0_pay22 firstHead (k0_pay18 (queryTop x0 x1 x2 x3 x4 x5 x6)) (k0_pay20 firstHead (queryTop x0 x1 x2 x3 x4 x5 x6)) (k0_pay21 firstHead (queryTop x0 x1 x2 x3 x4 x5 x6)) (View.ld x12 r0_9) (View.ld x9 r0_7) (View.ld x11 r0_7) (View.ld x10 r0_7)⟩,
    ⟨r0_8, k0_pay17 firstHead (k0_pay13 (stepTop x0 x1 x2 x3 x4) (squaresTop x0 x1 x2 x3 x4) (View.ld x5 r0_1) (View.ld x6 r0_5)) (k0_pay15 (stepTop x0 x1 x2 x3 x4) (squaresTop x0 x1 x2 x3 x4) (View.ld x5 r0_1) (View.ld x6 r0_5)) (k0_pay16 (stepTop x0 x1 x2 x3 x4) (squaresTop x0 x1 x2 x3 x4) (View.ld x5 r0_1) (View.ld x6 r0_5)) (View.ld x12 r0_6) (View.ld x9 r0_7) (View.ld x11 r0_7) (View.ld x10 r0_7)⟩]

theorem cover0_19 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (y : S512x512.Idx) :
    ∃ pc ∈ ([⟨r0_26, p0⟩, ⟨r0_25, p1⟩, ⟨r0_24, p2⟩, ⟨r0_23, p3⟩, ⟨r0_14, p4⟩, ⟨r0_12, p5⟩, ⟨r0_10, p6⟩, ⟨r0_8, p7⟩] : List (View.Piece (Elt F) S512x512 .bf16)), y ∈ pc.1.set :=
  View.cover_of_tiled [⟨r0_26, p0⟩, ⟨r0_25, p1⟩, ⟨r0_24, p2⟩, ⟨r0_23, p3⟩, ⟨r0_14, p4⟩, ⟨r0_12, p5⟩, ⟨r0_10, p6⟩, ⟨r0_8, p7⟩] S256x128.size (by rfl) y

def out0_20 (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x3584 .bf16) (x7 : Vec F S512x128 .f32) (x8 : Vec F S512x128 .f32) (x9 : Vec F S512x128 .f32) (x10 : Vec F S512x128 .f32) (x11 : Vec F S512x128 .f32) (x12 : Vec F S1x512 .f32) (x13 : Vec F S1x512 .f32) : Vec F S512x512 .bf16 :=
  View.canon [⟨r0_26, k0_pay108 (k0_pay105 firstHead (keyBot x0 x1 x2 x3 x4 x5 x6) (View.ld x13 r0_13)) (k0_pay106 firstHead (keyBot x0 x1 x2 x3 x4 x5 x6) (View.ld x13 r0_13) (View.ld x9 r0_22)) (k0_pay107 firstHead (keyBot x0 x1 x2 x3 x4 x5 x6) (View.ld x13 r0_13)) (View.ld x11 r0_22) (View.ld x10 r0_22)⟩,
    ⟨r0_25, k0_pay104 (k0_pay101 firstHead (keyBot x0 x1 x2 x3 x4 x5 x6) (View.ld x13 r0_11)) (k0_pay102 firstHead (keyBot x0 x1 x2 x3 x4 x5 x6) (View.ld x13 r0_11) (View.ld x9 r0_22)) (k0_pay103 firstHead (keyBot x0 x1 x2 x3 x4 x5 x6) (View.ld x13 r0_11)) (View.ld x11 r0_22) (View.ld x10 r0_22)⟩,
    ⟨r0_24, k0_pay100 (k0_pay97 firstHead (keyBot x0 x1 x2 x3 x4 x5 x6) (View.ld x13 r0_9)) (k0_pay98 firstHead (keyBot x0 x1 x2 x3 x4 x5 x6) (View.ld x13 r0_9) (View.ld x9 r0_22)) (k0_pay99 firstHead (keyBot x0 x1 x2 x3 x4 x5 x6) (View.ld x13 r0_9)) (View.ld x11 r0_22) (View.ld x10 r0_22)⟩,
    ⟨r0_23, k0_pay96 (k0_pay94 (mixBot x0 x1 x2 x3 x4 x5) firstHead (View.ld x6 r0_15) (View.ld x13 r0_6)) (k0_pay95 (mixBot x0 x1 x2 x3 x4 x5) firstHead (View.ld x6 r0_15) (View.ld x13 r0_6) (View.ld x9 r0_22)) 8#32 (View.ld x11 r0_22) (View.ld x10 r0_22)⟩,
    ⟨r0_14, k0_pay53 firstHead (k0_pay49 (keyTop x0 x1 x2 x3 x4 x5 x6)) (k0_pay51 firstHead (keyTop x0 x1 x2 x3 x4 x5 x6)) (k0_pay52 firstHead (keyTop x0 x1 x2 x3 x4 x5 x6)) (View.ld x13 r0_13) (View.ld x9 r0_7) (View.ld x11 r0_7) (View.ld x10 r0_7)⟩,
    ⟨r0_12, k0_pay48 firstHead (k0_pay44 (keyTop x0 x1 x2 x3 x4 x5 x6)) (k0_pay46 firstHead (keyTop x0 x1 x2 x3 x4 x5 x6)) (k0_pay47 firstHead (keyTop x0 x1 x2 x3 x4 x5 x6)) (View.ld x13 r0_11) (View.ld x9 r0_7) (View.ld x11 r0_7) (View.ld x10 r0_7)⟩,
    ⟨r0_10, k0_pay43 firstHead (k0_pay39 (keyTop x0 x1 x2 x3 x4 x5 x6)) (k0_pay41 firstHead (keyTop x0 x1 x2 x3 x4 x5 x6)) (k0_pay42 firstHead (keyTop x0 x1 x2 x3 x4 x5 x6)) (View.ld x13 r0_9) (View.ld x9 r0_7) (View.ld x11 r0_7) (View.ld x10 r0_7)⟩,
    ⟨r0_8, k0_pay38 firstHead (k0_pay34 (mixTop x0 x1 x2 x3 x4 x5) (View.ld x6 r0_15)) (k0_pay36 (mixTop x0 x1 x2 x3 x4 x5) firstHead (View.ld x6 r0_15)) (k0_pay37 (mixTop x0 x1 x2 x3 x4 x5) firstHead (View.ld x6 r0_15)) (View.ld x13 r0_6) (View.ld x9 r0_7) (View.ld x11 r0_7) (View.ld x10 r0_7)⟩]

theorem cover0_20 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (y : S512x512.Idx) :
    ∃ pc ∈ ([⟨r0_26, p0⟩, ⟨r0_25, p1⟩, ⟨r0_24, p2⟩, ⟨r0_23, p3⟩, ⟨r0_14, p4⟩, ⟨r0_12, p5⟩, ⟨r0_10, p6⟩, ⟨r0_8, p7⟩] : List (View.Piece (Elt F) S512x512 .bf16)), y ∈ pc.1.set :=
  View.cover_of_tiled [⟨r0_26, p0⟩, ⟨r0_25, p1⟩, ⟨r0_24, p2⟩, ⟨r0_23, p3⟩, ⟨r0_14, p4⟩, ⟨r0_12, p5⟩, ⟨r0_10, p6⟩, ⟨r0_8, p7⟩] S256x128.size (by rfl) y

def out0_21 (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x3584 .bf16) (x7 : Vec F S512x128 .f32) (x8 : Vec F S512x128 .f32) (x9 : Vec F S512x128 .f32) (x10 : Vec F S512x128 .f32) (x11 : Vec F S512x128 .f32) (x12 : Vec F S1x512 .f32) (x13 : Vec F S1x512 .f32) : Vec F S512x512 .bf16 :=
  View.canon [⟨r0_27, k0_pay1 (mixBot x0 x1 x2 x3 x4 x5) (View.ld x6 r0_21)⟩,
    ⟨r0_19, k0_pay74 (mixTop x0 x1 x2 x3 x4 x5) (View.ld x6 r0_21)⟩]

theorem cover0_21 (p0 : Vec F S256x512 .bf16) (p1 : Vec F S256x512 .bf16) (y : S512x512.Idx) :
    ∃ pc ∈ ([⟨r0_27, p0⟩, ⟨r0_19, p1⟩] : List (View.Piece (Elt F) S512x512 .bf16)), y ∈ pc.1.set :=
  View.cover_of_tiled [⟨r0_27, p0⟩, ⟨r0_19, p1⟩] S256x512.size (by rfl) y

set_option maxHeartbeats 1439700 in
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1024x3584 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x1024 .f32) (harg15 : arg15.IsWhole) (arg16 : Memref sig .tc .vmem S512x512 .bf16) (harg16 : arg16.IsWhole) (arg17 : Memref sig .tc .vmem S512x512 .bf16) (harg17 : arg17.IsWhole) (arg18 : Memref sig .tc .vmem S512x512 .bf16) (harg18 : arg18.IsWhole) (arg19 : Memref sig .tc .vmem S512x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x512 .bf16) (harg22 : arg22.IsWhole)
    (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x3584 .bf16) (x7 : Vec F S512x128 .f32) (x8 : Vec F S512x128 .f32) (x9 : Vec F S512x128 .f32) (x10 : Vec F S512x128 .f32) (x11 : Vec F S512x128 .f32) (x12 : Vec F S1x512 .f32) (x13 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13) ∗ owns (c : Thread nD τ) arg17 fullShare (out0_16 x0 x1 x2 x3 x4 x5 x6 x7 x8 x9 x10 x11 x12 x13) ∗ owns (c : Thread nD τ) arg18 fullShare (out0_17 x0 x1 x2 x3 x4 x5 x6 x7 x8 x9 x10 x11 x12 x13) ∗ owns (c : Thread nD τ) arg19 fullShare (out0_18 x0 x1 x2 x3 x4 x5 x6 x7 x8 x9 x10 x11 x12 x13) ∗ owns (c : Thread nD τ) arg20 fullShare (out0_19 x0 x1 x2 x3 x4 x5 x6 x7 x8 x9 x10 x11 x12 x13) ∗ owns (c : Thread nD τ) arg21 fullShare (out0_20 x0 x1 x2 x3 x4 x5 x6 x7 x8 x9 x10 x11 x12 x13) ∗ owns (c : Thread nD τ) arg22 fullShare (out0_21 x0 x1 x2 x3 x4 x5 x6 x7 x8 x9 x10 x11 x12 x13)) -∗ K ⟨⟩))
      ⊢ wp frame (wpE (defs₀ (F := F)) Variants.none c none) E (cc0_ffn1_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_ffn1_inproj_eq_skeleton]; unfold cc0_ffn1_inproj_skel
  simp only [k0_part26_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover0_14 _ _)).trans ?_
    rfl
  isplitl [H15]
  · iexists _; isplitr
    swap; · iexact H15
    ipureintro
    refine (View.read_writes_eq_canon _ _ _ (cover0_15 _ _ _ _ _ _ _ _)).trans ?_
    rfl
  isplitl [H16]
  · iexists _; isplitr
    swap; · iexact H16
    ipureintro
    refine (View.read_writes_eq_canon _ _ _ (cover0_16 _ _ _ _ _ _ _ _)).trans ?_
    rfl
  isplitl [H17]
  · iexists _; isplitr
    swap; · iexact H17
    ipureintro
    refine (View.read_writes_eq_canon _ _ _ (cover0_17 _ _)).trans ?_
    rfl
  isplitl [H18]
  · iexists _; isplitr
    swap; · iexact H18
    ipureintro
    refine (View.read_writes_eq_canon _ _ _ (cover0_18 _ _)).trans ?_
    rfl
  isplitl [H19]
  · iexists _; isplitr
    swap; · iexact H19
    ipureintro
    refine (View.read_writes_eq_canon _ _ _ (cover0_19 _ _ _ _ _ _ _ _)).trans ?_
    rfl
  isplitl [H20]
  · iexists _; isplitr
    swap; · iexact H20
    ipureintro
    refine (View.read_writes_eq_canon _ _ _ (cover0_20 _ _ _ _ _ _ _ _)).trans ?_
    rfl
  iexists _; isplitr
  swap; · iexact H21
  ipureintro
  refine (View.read_writes_eq_canon _ _ _ (cover0_21 _ _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 22, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem defs₀_row (t : Fin cfg0.N) :
    defs₀ (F := F) .tc cfg0.body (cfg0.bodyArgs t (cfg0.slots t)) = bodyAt0 t := by
  unfold defs₀; rw [Defs.onTc_tc]

set_option maxHeartbeats 1000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 14).cut (grid0.coords t) ((dats m 0 c).after 14 t) = _
  rw [after0_14]

theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 15).cut (grid0.coords t) ((dats m 0 c).after 15 t) = _
  rw [after0_15]

theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 16).cut (grid0.coords t) ((dats m 0 c).after 16 t) = _
  rw [after0_16]

theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 17).cut (grid0.coords t) ((dats m 0 c).after 17 t) = _
  rw [after0_17]

theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 18).cut (grid0.coords t) ((dats m 0 c).after 18 t) = _
  rw [after0_18]

theorem flushed19 (c : Dev nD) (t : Fin cfg0.N) :
    (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 19).cut (grid0.coords t) ((dats m 0 c).after 19 t) = _
  rw [after0_19]

theorem flushed20 (c : Dev nD) (t : Fin cfg0.N) :
    (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 20).cut (grid0.coords t) ((dats m 0 c).after 20 t) = _
  rw [after0_20]

theorem flushed21 (c : Dev nD) (t : Fin cfg0.N) :
    (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  show (cfg0.win 21).cut (grid0.coords t) ((dats m 0 c).after 21 t) = _
  rw [after0_21]

set_option maxHeartbeats 1600000 in
/-- The run, at the results and the arguments. -/
theorem run_blocks : θ_run defs (onTc (τ := τ) (main (F := F))) ⟨m, fun _ => 0, ρ⟩ fun r => ∀ c : Dev nD,
      r.2.mem ((c : Thread nD τ).loc main_v79_0) = (dats m 0 c).arrAt 14 cfg0.N
      ∧ r.2.mem ((c : Thread nD τ).loc main_v79_1) = (dats m 0 c).arrAt 15 cfg0.N
      ∧ r.2.mem ((c : Thread nD τ).loc main_v79_2) = (dats m 0 c).arrAt 16 cfg0.N
      ∧ r.2.mem ((c : Thread nD τ).loc main_v79_3) = (dats m 0 c).arrAt 17 cfg0.N
      ∧ r.2.mem ((c : Thread nD τ).loc main_v79_4) = (dats m 0 c).arrAt 18 cfg0.N
      ∧ r.2.mem ((c : Thread nD τ).loc main_v79_5) = (dats m 0 c).arrAt 19 cfg0.N
      ∧ r.2.mem ((c : Thread nD τ).loc main_v79_6) = (dats m 0 c).arrAt 20 cfg0.N
      ∧ r.2.mem ((c : Thread nD τ).loc main_v79_7) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1 14,
      (h c).1 15,
      (h c).1 16,
      (h c).1 17,
      (h c).1 18,
      (h c).1 19,
      (h c).1 20,
      (h c).1 21,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.Kernel2Ideal.In

end
-- ==== Proof.HeadRows.lean ====
/- The row functions of the layer's first call beyond the SwiGLU half step: one row's input projection, the rotary
   turn of the retention heads, and the normed and turned attention heads, in the tile form the kernel computes. -/
module

public import proofs.«01_k».proof.Proof.Rows

@[expose] public section

noncomputable section

open Idealize.ShloMosaic Idealize.SL.Sem

namespace Layer

/-- One row's input projection: the half step, normed, against the input weights. -/
def projRow {n : Nat} (g : Fin 1024 → EReal) (wg wu : Fin 1024 → Fin 2816 → EReal) (wd : Fin 2816 → Fin 1024 → EReal)
    (g' : Fin 1024 → EReal) (win : Fin 1024 → Fin n → EReal) (x : Fin 1024 → EReal) (j : Fin n) : EReal :=
  ∑ k, normed w1024 (halfStep w1024 g wg wu wd x) g' k * win k j

/-- A tile of 128 lanes turned by half its width: a row times the cosines plus its rotation times the signed sines. -/
def turned (t c s : Fin 128 → EReal) (l : Fin 128) : EReal :=
  t l * c l + t ⟨(l + 128 - 64) % 128, Nat.mod_lt _ (by decide)⟩ * s l

/-- Lane `l` lies in the first of a tile's two heads, as the programs compare it. -/
abbrev inFirst (l : Nat) : BitVec 1 := IntOp.cmpi CmpIPredicate.slt (BitVec.ofNat 32 l) 64#32

/-- The sum of squares over the head of lane `l`, by masked sums over the tile's 128 lanes. -/
def tileSquares (t : Fin 128 → EReal) (l : Nat) : EReal :=
  Scalar.select (α := EReal) (inFirst l)
    (∑ x : Fin 128, (Scalar.select (α := EReal) (inFirst x) (t x * t x) 0 : EReal))
    (∑ x : Fin 128, (Scalar.select (α := EReal) (inFirst x) 0 (t x * t x) : EReal))

/-- A tile of two heads, each normed by its root mean square and scaled by the gain. -/
def tileNormed (t g : Fin 128 → EReal) (l : Fin 128) : EReal :=
  t l * Ideal.rsqrt (tileSquares t l * Ideal.ofBits FTy.f32 1015021568#32 + Ideal.ofBits FTy.f32 897988541#32) * g l

/-- A tile of two normed heads turned on the first sixteen lanes of each. -/
def headed (t g c hi lo : Fin 128 → EReal) (l : Fin 128) : EReal :=
  tileNormed t g l * c l + tileNormed t g ⟨(l + 128 - 8) % 128, Nat.mod_lt _ (by decide)⟩ * hi l
    + tileNormed t g ⟨(l + 128 - 120) % 128, Nat.mod_lt _ (by decide)⟩ * lo l

/-- Tile `c` of a row of 512. -/
def tile (p : Fin 512 → EReal) (c : Fin 4) (l : Fin 128) : EReal := p ⟨128 * c + l, by omega⟩

theorem tile_zero (p : Fin 512 → EReal) : tile p 0 = fun l : Fin 128 => p ⟨l, by omega⟩ := by
  funext l; exact congrArg p (Fin.ext (Nat.zero_add _))

/-- The tile and the lane of a column. -/
def tileOf (j : Fin 512) : Fin 4 := ⟨j / 128, by omega⟩
def laneOf (j : Fin 512) : Fin 128 := ⟨j % 128, Nat.mod_lt _ (by decide)⟩

theorem tileOf_mk (c : Fin 4) (l : Fin 128) (h : 128 * c.val + l.val < 512) : tileOf ⟨128 * c + l, h⟩ = c := by
  apply Fin.ext; show (128 * c.val + l.val) / 128 = c.val; omega
theorem laneOf_mk (c : Fin 4) (l : Fin 128) (h : 128 * c.val + l.val < 512) : laneOf ⟨128 * c + l, h⟩ = l := by
  apply Fin.ext; show (128 * c.val + l.val) % 128 = l.val; omega

/-- A row of four retention heads turned. -/
def retRow (p : Fin 512 → EReal) (c s : Fin 128 → EReal) (j : Fin 512) : EReal := turned (tile p (tileOf j)) c s (laneOf j)

/-- A row of eight attention heads normed and turned. -/
def attRow (p g : Fin 512 → EReal) (c hi lo : Fin 128 → EReal) (j : Fin 512) : EReal :=
  headed (tile p (tileOf j)) (tile g (tileOf j)) c hi lo (laneOf j)

end Layer

end
-- ==== Proof.InRows.lean ====
/- The first call's values: what one grid point computes for each row of its block. -/
module

public import proofs.«01_k».proof.Proof.InFrame
public import proofs.«01_k».proof.Proof.HeadRows

@[expose] public section

noncomputable section

open Idealize.ShloMosaic Idealize.SL.Sem

namespace Cert.Kernel2Ideal.In

open Cert.Kernel2Ideal Cert.Kernel2Ideal.Gen Layer

theorem norm_apply (x : Vec Ideal S256x1024 .f32) (g : Vec Ideal S1x1024 .f32) (r : Fin 256) (l : Fin 1024) :
    k0_pay2 (F := Ideal) x g (ix2 r l) = normed w1024 (fun k => x (ix2 r k)) (fun k => g (ix2 0 k)) l := by
  pointwise [k0_pay2]
  rfl

theorem norm_apply' (x : Vec Ideal S256x1024 .f32) (g : Vec Ideal S1x1024 .f32) (r : Fin 256) (l : Fin 1024) :
    k0_pay10 (F := Ideal) x g (ix2 r l) = normed w1024 (fun k => x (ix2 r k)) (fun k => g (ix2 0 k)) l := by
  pointwise [k0_pay10]
  rfl

theorem step_apply (h : FVec Ideal S256x1024 .bf16) (wg wu : Vec Ideal S1024x2816 .bf16) (x : Vec Ideal S256x1024 .f32)
    (wd : Vec Ideal S2816x1024 .bf16) (r : Fin 256) (l : Fin 1024) :
    k0_pay7 (F := Ideal) h wg wu x wd (ix2 r l)
      = x (ix2 r l) + Ideal.ofBits FTy.f32 1056964608#32 * ∑ j, hidden (fun k j => wg (ix2 k j)) (fun k j => wu (ix2 k j))
          (fun k => h (ix2 r k)) j * wd (ix2 j l) := by
  pointwise [k0_pay7]
  rfl

theorem step_apply' (x : Vec Ideal S256x1024 .f32) (g : Vec Ideal S1x1024 .f32) (wg wu : Vec Ideal S1024x2816 .bf16)
    (wd : Vec Ideal S2816x1024 .bf16) (r : Fin 256) (l : Fin 1024) :
    k0_pay6 (F := Ideal) (k0_pay2 x g) (k0_pay4 x g wg) (k0_pay5 wu) (constant S256x2816 .f32 0x00000000#32) x wd (ix2 r l)
      = x (ix2 r l) + Ideal.ofBits FTy.f32 1056964608#32 * ∑ j, hidden (fun k j => wg (ix2 k j)) (fun k j => wu (ix2 k j))
          (fun k => k0_pay2 (F := Ideal) x g (ix2 r k)) j * wd (ix2 j l) := by
  unfold k0_pay4 k0_pay5
  generalize k0_pay2 (F := Ideal) x g = h
  pointwise [k0_pay6]
  rfl

theorem proj_apply (h : FVec Ideal S256x1024 .bf16) (w : Vec Ideal S1024x512 .bf16) (r : Fin 256) (l : Fin 512) :
    k0_pay54 (F := Ideal) h w (ix2 r l) = ∑ k, h (ix2 r k) * w (ix2 k l) := by
  pointwise [k0_pay54]

theorem hz : (![0, 0] : Fin 2 → Nat) = fun _ => 0 := funext fun a => by fin_cases a <;> rfl

/-- A block index by row and lane. -/
theorem ix2_of {n0 n1 : Nat} (y : (⟨2, ![n0, n1]⟩ : Shape).Idx) : ∃ (r : Fin n0) (l : Fin n1), y = ix2 r l :=
  ⟨y 0, y 1, by funext a; fin_cases a <;> rfl⟩

section loads

variable (x0 : Vec Ideal S512x1024 .f32) (x1 : Vec Ideal S1x1024 .f32) (x2 : Vec Ideal S1024x2816 .bf16)
  (x4 : Vec Ideal S2816x1024 .bf16) (x6 : Vec Ideal S1024x3584 .bf16) (x7 : Vec Ideal S512x128 .f32) (x12 : Vec Ideal S1x512 .f32)

theorem ld0 : View.ld x0 r0_0 = fun y : S256x1024.Idx => x0 (ix2 ⟨y 0, by have h : (y 0).val < 256 := (y 0).isLt; omega⟩ (y 1)) := by
  funext y; obtain ⟨r, k, rfl⟩ := ix2_of y; pointwise
theorem ld2 : View.ld x0 r0_2 = fun y : S256x1024.Idx => x0 (ix2 ⟨256 + (y 0).val, by have h : (y 0).val < 256 := (y 0).isLt; omega⟩ (y 1)) := by
  funext y; obtain ⟨r, k, rfl⟩ := ix2_of y; pointwise
theorem ld1 : View.ld x1 r0_1 = x1 := View.ld_unit_zero hz _ _
theorem ld3 : View.ld x2 r0_3 = x2 := View.ld_unit_zero hz _ _
theorem ld4 : View.ld x4 r0_4 = x4 := View.ld_unit_zero hz _ _
theorem ld5 (k : Fin 1024) (l : Fin 512) : View.ld x6 r0_5 (ix2 k l) = x6 (ix2 k ⟨2048 + l, by omega⟩) := by pointwise
theorem ld15 (k : Fin 1024) (l : Fin 512) : View.ld x6 r0_15 (ix2 k l) = x6 (ix2 k ⟨2560 + l, by omega⟩) := by pointwise
theorem ld16 (k : Fin 1024) (l : Fin 512) : View.ld x6 r0_16 (ix2 k l) = x6 (ix2 k ⟨l, by omega⟩) := by pointwise
theorem ld17 (k : Fin 1024) (l : Fin 512) : View.ld x6 r0_17 (ix2 k l) = x6 (ix2 k ⟨512 + l, by omega⟩) := by pointwise
theorem ld18 (k : Fin 1024) (l : Fin 512) : View.ld x6 r0_18 (ix2 k l) = x6 (ix2 k ⟨1024 + l, by omega⟩) := by pointwise
theorem ld20 (k : Fin 1024) (l : Fin 512) : View.ld x6 r0_20 (ix2 k l) = x6 (ix2 k ⟨1536 + l, by omega⟩) := by pointwise
theorem ld21 (k : Fin 1024) (l : Fin 512) : View.ld x6 r0_21 (ix2 k l) = x6 (ix2 k ⟨3072 + l, by omega⟩) := by pointwise
theorem ld7 : View.ld x7 r0_7 = fun y : S256x128.Idx => x7 (ix2 ⟨y 0, by have h : (y 0).val < 256 := (y 0).isLt; omega⟩ (y 1)) := by
  funext y; obtain ⟨r, k, rfl⟩ := ix2_of y; pointwise
theorem ld22 : View.ld x7 r0_22 = fun y : S256x128.Idx => x7 (ix2 ⟨256 + (y 0).val, by have h : (y 0).val < 256 := (y 0).isLt; omega⟩ (y 1)) := by
  funext y; obtain ⟨r, k, rfl⟩ := ix2_of y; pointwise
theorem ld6 (l : Fin 128) : View.ld x12 r0_6 (ix2 0 l) = tile (fun j => x12 (ix2 0 j)) 0 l := by
  rw [tile_zero]; pointwise
theorem ld9 (l : Fin 128) : View.ld x12 r0_9 (ix2 0 l) = tile (fun j => x12 (ix2 0 j)) 1 l := by pointwise; rfl
theorem ld11 (l : Fin 128) : View.ld x12 r0_11 (ix2 0 l) = tile (fun j => x12 (ix2 0 j)) 2 l := by pointwise; rfl
theorem ld13 (l : Fin 128) : View.ld x12 r0_13 (ix2 0 l) = tile (fun j => x12 (ix2 0 j)) 3 l := by pointwise; rfl

end loads

section rows

variable (x0 : Vec Ideal S512x1024 .f32) (x1 : Vec Ideal S1x1024 .f32) (x2 x3 : Vec Ideal S1024x2816 .bf16)
  (x4 : Vec Ideal S2816x1024 .bf16) (x5 : Vec Ideal S1x1024 .f32) (x6 : Vec Ideal S1024x3584 .bf16)

/-- The half step of a block's row. -/
def stepAt (ρ : Fin 512) : Fin 1024 → EReal :=
  halfStep w1024 (fun k => x1 (ix2 0 k)) (fun k j => x2 (ix2 k j)) (fun k j => x3 (ix2 k j)) (fun k j => x4 (ix2 k j))
    (fun k => x0 (ix2 ρ k))

/-- The input projection of a block's row. -/
def projAt (ρ : Fin 512) : Fin 3584 → EReal :=
  projRow (fun k => x1 (ix2 0 k)) (fun k j => x2 (ix2 k j)) (fun k j => x3 (ix2 k j)) (fun k j => x4 (ix2 k j))
    (fun k => x5 (ix2 0 k)) (fun k j => x6 (ix2 k j)) (fun k => x0 (ix2 ρ k))

/-- The rows of a block's halves. -/
def top (r : Fin 256) : Fin 512 := ⟨r, by omega⟩
def bot (r : Fin 256) : Fin 512 := ⟨256 + r, by omega⟩

theorem stepTop_apply (r : Fin 256) (l : Fin 1024) :
    stepTop (F := Ideal) x0 x1 x2 x3 x4 (ix2 r l) = stepAt x0 x1 x2 x3 x4 (top r) l := by
  unfold stepTop normTop gateTop upWeight zero
  rw [step_apply']
  simp only [norm_apply]
  rw [ld0, ld1, ld3, ld3, ld4]
  rfl

theorem stepBot_apply (r : Fin 256) (l : Fin 1024) :
    k0_pay7 (F := Ideal) (normBot x0 x1) (View.ld x2 r0_3) (View.ld x3 r0_3) (View.ld x0 r0_2) (View.ld x4 r0_4) (ix2 r l)
      = stepAt x0 x1 x2 x3 x4 (bot r) l := by
  rw [step_apply]
  show _ + _ * ∑ j, hidden _ _ (fun k => k0_pay2 (F := Ideal) (View.ld x0 r0_2) (View.ld x1 r0_1) (ix2 r k)) j * _ = _
  simp only [norm_apply]
  rw [ld2, ld1, ld3, ld3, ld4]
  rfl

theorem mixTop_apply (r : Fin 256) (k : Fin 1024) :
    mixTop (F := Ideal) x0 x1 x2 x3 x4 x5 (ix2 r k)
      = normed w1024 (stepAt x0 x1 x2 x3 x4 (top r)) (fun k => x5 (ix2 0 k)) k := by
  show k0_pay10 (F := Ideal) (stepTop x0 x1 x2 x3 x4) (View.ld x5 r0_1) (ix2 r k) = _
  rw [norm_apply', ld1]
  simp only [stepTop_apply]

theorem mixBot_apply (r : Fin 256) (k : Fin 1024) :
    mixBot (F := Ideal) x0 x1 x2 x3 x4 x5 (ix2 r k)
      = normed w1024 (stepAt x0 x1 x2 x3 x4 (bot r)) (fun k => x5 (ix2 0 k)) k := by
  unfold mixBot
  rw [norm_apply', ld1]
  simp only [stepBot_apply]

variable (w : Vec Ideal S1024x512 .bf16) (o : Fin 512 → Fin 3584) (hw : ∀ k l, w (ix2 k l) = x6 (ix2 k (o l)))
include hw

/-- A projection of a half, given which columns its weight holds. -/
theorem projTop_apply (r : Fin 256) (l : Fin 512) :
    k0_pay54 (F := Ideal) (mixTop x0 x1 x2 x3 x4 x5) w (ix2 r l) = projAt x0 x1 x2 x3 x4 x5 x6 (top r) (o l) := by
  rw [proj_apply]
  simp only [mixTop_apply, hw]
  rfl

theorem projBot_apply (r : Fin 256) (l : Fin 512) :
    k0_pay54 (F := Ideal) (mixBot x0 x1 x2 x3 x4 x5) w (ix2 r l) = projAt x0 x1 x2 x3 x4 x5 x6 (bot r) (o l) := by
  rw [proj_apply]
  simp only [mixBot_apply, hw]
  rfl

end rows

end Cert.Kernel2Ideal.In

end
-- ==== Proof.InBlock.lean ====
/- The first call's block: what one grid point leaves in each of its eight result blocks, as functions of the block's index. -/
module

public import proofs.«01_k».proof.Proof.InRows

@[expose] public section

noncomputable section

open Idealize.ShloMosaic Idealize.SL.Sem

namespace Cert.Kernel2Ideal.In

open Cert.Kernel2Ideal Cert.Kernel2Ideal.Gen Layer

theorem emb0 (r : Fin 256) (l : Fin 1024) : r0_0.emb (ix2 r l) = ix2 (top r) l := by
  funext a; fin_cases a <;> (apply Fin.ext; rw [Rect.emb_apply]; simp [r0_0, top])
theorem emb2 (r : Fin 256) (l : Fin 1024) : r0_2.emb (ix2 r l) = ix2 (bot r) l := by
  funext a; fin_cases a <;> (apply Fin.ext; rw [Rect.emb_apply]; simp [r0_2, bot])
theorem emb19 (r : Fin 256) (l : Fin 512) : r0_19.emb (ix2 r l) = ix2 (top r) l := by
  funext a; fin_cases a <;> (apply Fin.ext; rw [Rect.emb_apply]; simp [r0_19, top])
theorem emb27 (r : Fin 256) (l : Fin 512) : r0_27.emb (ix2 r l) = ix2 (bot r) l := by
  funext a; fin_cases a <;> (apply Fin.ext; rw [Rect.emb_apply]; simp [r0_27, bot])

/-- Column `l` of tile `c`. -/
def col (c : Fin 4) (l : Fin 128) : Fin 512 := ⟨128 * c + l, by omega⟩

theorem emb8 (r : Fin 256) (l : Fin 128) : r0_8.emb (ix2 r l) = ix2 (top r) (col 0 l) := by
  funext a; fin_cases a <;> (apply Fin.ext; rw [Rect.emb_apply]; simp [r0_8, top, col])
theorem emb10 (r : Fin 256) (l : Fin 128) : r0_10.emb (ix2 r l) = ix2 (top r) (col 1 l) := by
  funext a; fin_cases a <;> (apply Fin.ext; rw [Rect.emb_apply]; simp [r0_10, top, col])
theorem emb12 (r : Fin 256) (l : Fin 128) : r0_12.emb (ix2 r l) = ix2 (top r) (col 2 l) := by
  funext a; fin_cases a <;> (apply Fin.ext; rw [Rect.emb_apply]; simp [r0_12, top, col])
theorem emb14 (r : Fin 256) (l : Fin 128) : r0_14.emb (ix2 r l) = ix2 (top r) (col 3 l) := by
  funext a; fin_cases a <;> (apply Fin.ext; rw [Rect.emb_apply]; simp [r0_14, top, col])
theorem emb23 (r : Fin 256) (l : Fin 128) : r0_23.emb (ix2 r l) = ix2 (bot r) (col 0 l) := by
  funext a; fin_cases a <;> (apply Fin.ext; rw [Rect.emb_apply]; simp [r0_23, bot, col])
theorem emb24 (r : Fin 256) (l : Fin 128) : r0_24.emb (ix2 r l) = ix2 (bot r) (col 1 l) := by
  funext a; fin_cases a <;> (apply Fin.ext; rw [Rect.emb_apply]; simp [r0_24, bot, col])
theorem emb25 (r : Fin 256) (l : Fin 128) : r0_25.emb (ix2 r l) = ix2 (bot r) (col 2 l) := by
  funext a; fin_cases a <;> (apply Fin.ext; rw [Rect.emb_apply]; simp [r0_25, bot, col])
theorem emb26 (r : Fin 256) (l : Fin 128) : r0_26.emb (ix2 r l) = ix2 (bot r) (col 3 l) := by
  funext a; fin_cases a <;> (apply Fin.ext; rw [Rect.emb_apply]; simp [r0_26, bot, col])

theorem retRow_col (p : Fin 512 → EReal) (c s : Fin 128 → EReal) (h : Fin 4) (l : Fin 128) :
    retRow p c s (col h l) = turned (tile p h) c s l := by
  unfold retRow col; rw [tileOf_mk, laneOf_mk]

theorem attRow_col (p g : Fin 512 → EReal) (c hi lo : Fin 128 → EReal) (h : Fin 4) (l : Fin 128) :
    attRow p g c hi lo (col h l) = headed (tile p h) (tile g h) c hi lo l := by
  unfold attRow col; rw [tileOf_mk, laneOf_mk]

section blocks

variable (x0 : Vec Ideal S512x1024 .f32) (x1 : Vec Ideal S1x1024 .f32) (x2 x3 : Vec Ideal S1024x2816 .bf16)
  (x4 : Vec Ideal S2816x1024 .bf16) (x5 : Vec Ideal S1x1024 .f32) (x6 : Vec Ideal S1024x3584 .bf16)
  (x7 x8 x9 x10 x11 : Vec Ideal S512x128 .f32) (x12 x13 : Vec Ideal S1x512 .f32)

/-- The half step's block. -/
def stepBlock : Vec Ideal S512x1024 .f32 := fun y => stepAt x0 x1 x2 x3 x4 (y 0) (y 1)

/-- A block of plain projected columns, from column `o` on. -/
def projBlock (o : Nat) (ho : o ≤ 3072) : S512x512.Idx → EReal := fun y =>
  projAt x0 x1 x2 x3 x4 x5 x6 (y 0) ⟨o + (y 1).val, by have h : (y 1).val < 512 := (y 1).isLt; omega⟩

/-- The columns of a row from `o` on. -/
def seg (o : Nat) (ho : o ≤ 3072) (ρ : Fin 512) (j : Fin 512) : EReal :=
  projAt x0 x1 x2 x3 x4 x5 x6 ρ ⟨o + j, by omega⟩

/-- The retention queries' block. -/
def rqBlock : Vec Ideal S512x512 .bf16 := fun y =>
  retRow (seg x0 x1 x2 x3 x4 x5 x6 0 (by decide) (y 0)) (fun l => x7 (ix2 (y 0) l)) (fun l => x8 (ix2 (y 0) l)) (y 1)

/-- The retention keys' block, scaled. -/
def rkBlock : Vec Ideal S512x512 .bf16 := fun y =>
  retRow (seg x0 x1 x2 x3 x4 x5 x6 512 (by decide) (y 0)) (fun l => x7 (ix2 (y 0) l)) (fun l => x8 (ix2 (y 0) l)) (y 1)
    * Ideal.ofBits FTy.f32 0x3DB504F3#32

/-- A block of normed and turned attention heads. -/
def attBlock (o : Nat) (ho : o ≤ 3072) (g : Vec Ideal S1x512 .f32) : Vec Ideal S512x512 .bf16 := fun y =>
  attRow (seg x0 x1 x2 x3 x4 x5 x6 o ho (y 0)) (fun j => g (ix2 0 j)) (fun l => x9 (ix2 (y 0) l))
    (fun l => x11 (ix2 (y 0) l)) (fun l => x10 (ix2 (y 0) l)) (y 1)

theorem block14 : out0_14 (F := Ideal) x0 x1 x2 x3 x4 x5 x6 x7 x8 x9 x10 x11 x12 x13 = stepBlock x0 x1 x2 x3 x4 := by
  funext y
  unfold out0_14
  refine View.canon_apply_of_pieces (Val := Elt Ideal) (e := .f32) (stepBlock x0 x1 x2 x3 x4) _ ?_ y (cover0_14 _ _ y)
  intro p hp x
  rcases List.mem_cons.1 hp with rfl | hp
  · obtain ⟨r, l, rfl⟩ := ix2_of x
    exact (stepBot_apply x0 x1 x2 x3 x4 r l).trans (congrArg (stepBlock x0 x1 x2 x3 x4) (emb2 r l)).symm
  · obtain rfl := List.mem_singleton.1 hp
    obtain ⟨r, l, rfl⟩ := ix2_of x
    exact (stepTop_apply x0 x1 x2 x3 x4 r l).trans (congrArg (stepBlock x0 x1 x2 x3 x4) (emb0 r l)).symm

theorem block17 : out0_17 (F := Ideal) x0 x1 x2 x3 x4 x5 x6 x7 x8 x9 x10 x11 x12 x13
    = projBlock x0 x1 x2 x3 x4 x5 x6 1024 (by decide) := by
  funext y
  unfold out0_17
  refine View.canon_apply_of_pieces (Val := Elt Ideal) (e := .bf16) (projBlock x0 x1 x2 x3 x4 x5 x6 1024 (by decide)) _ ?_ y (cover0_17 _ _ y)
  intro p hp x
  rcases List.mem_cons.1 hp with rfl | hp
  · obtain ⟨r, l, rfl⟩ := ix2_of x
    exact (projBot_apply x0 x1 x2 x3 x4 x5 x6 _ _ (ld18 x6) r l).trans (congrArg (projBlock x0 x1 x2 x3 x4 x5 x6 1024 (by decide)) (emb27 r l)).symm
  · obtain rfl := List.mem_singleton.1 hp
    obtain ⟨r, l, rfl⟩ := ix2_of x
    exact (projTop_apply x0 x1 x2 x3 x4 x5 x6 _ _ (ld18 x6) r l).trans (congrArg (projBlock x0 x1 x2 x3 x4 x5 x6 1024 (by decide)) (emb19 r l)).symm

theorem block18 : out0_18 (F := Ideal) x0 x1 x2 x3 x4 x5 x6 x7 x8 x9 x10 x11 x12 x13
    = projBlock x0 x1 x2 x3 x4 x5 x6 1536 (by decide) := by
  funext y
  unfold out0_18
  refine View.canon_apply_of_pieces (Val := Elt Ideal) (e := .f32) (projBlock x0 x1 x2 x3 x4 x5 x6 1536 (by decide)) _ ?_ y (cover0_18 _ _ y)
  intro p hp x
  rcases List.mem_cons.1 hp with rfl | hp
  · obtain ⟨r, l, rfl⟩ := ix2_of x
    exact (projBot_apply x0 x1 x2 x3 x4 x5 x6 _ _ (ld20 x6) r l).trans (congrArg (projBlock x0 x1 x2 x3 x4 x5 x6 1536 (by decide)) (emb27 r l)).symm
  · obtain rfl := List.mem_singleton.1 hp
    obtain ⟨r, l, rfl⟩ := ix2_of x
    exact (projTop_apply x0 x1 x2 x3 x4 x5 x6 _ _ (ld20 x6) r l).trans (congrArg (projBlock x0 x1 x2 x3 x4 x5 x6 1536 (by decide)) (emb19 r l)).symm

theorem block21 : out0_21 (F := Ideal) x0 x1 x2 x3 x4 x5 x6 x7 x8 x9 x10 x11 x12 x13
    = projBlock x0 x1 x2 x3 x4 x5 x6 3072 (by decide) := by
  funext y
  unfold out0_21
  refine View.canon_apply_of_pieces (Val := Elt Ideal) (e := .bf16) (projBlock x0 x1 x2 x3 x4 x5 x6 3072 (by decide)) _ ?_ y (cover0_21 _ _ y)
  intro p hp x
  rcases List.mem_cons.1 hp with rfl | hp
  · obtain ⟨r, l, rfl⟩ := ix2_of x
    exact (projBot_apply x0 x1 x2 x3 x4 x5 x6 _ _ (ld21 x6) r l).trans (congrArg (projBlock x0 x1 x2 x3 x4 x5 x6 3072 (by decide)) (emb27 r l)).symm
  · obtain rfl := List.mem_singleton.1 hp
    obtain ⟨r, l, rfl⟩ := ix2_of x
    exact (projTop_apply x0 x1 x2 x3 x4 x5 x6 _ _ (ld21 x6) r l).trans (congrArg (projBlock x0 x1 x2 x3 x4 x5 x6 3072 (by decide)) (emb19 r l)).symm

/-- A row's columns from `o` on are the projection of its half by the weight that holds them. -/
theorem seg_top (o : Nat) (ho : o ≤ 3072) (w : Vec Ideal S1024x512 .bf16) (hw : ∀ k l, w (ix2 k l) = x6 (ix2 k ⟨o + l, by omega⟩))
    (r : Fin 256) : seg x0 x1 x2 x3 x4 x5 x6 o ho (top r) = fun j => k0_pay54 (F := Ideal) (mixTop x0 x1 x2 x3 x4 x5) w (ix2 r j) :=
  funext fun j => (projTop_apply x0 x1 x2 x3 x4 x5 x6 w (fun l => ⟨o + l, by omega⟩) hw r j).symm

/-- A row's columns from `o` on are the projection of its half by the weight that holds them. -/
theorem seg_bot (o : Nat) (ho : o ≤ 3072) (w : Vec Ideal S1024x512 .bf16) (hw : ∀ k l, w (ix2 k l) = x6 (ix2 k ⟨o + l, by omega⟩))
    (r : Fin 256) : seg x0 x1 x2 x3 x4 x5 x6 o ho (bot r) = fun j => k0_pay54 (F := Ideal) (mixBot x0 x1 x2 x3 x4 x5) w (ix2 r j) :=
  funext fun j => (projBot_apply x0 x1 x2 x3 x4 x5 x6 w (fun l => ⟨o + l, by omega⟩) hw r j).symm

theorem ld16' (k : Fin 1024) (l : Fin 512) : View.ld x6 r0_16 (ix2 k l) = x6 (ix2 k ⟨0 + l, by omega⟩) :=
  (ld16 x6 k l).trans (congrArg x6 (congrArg (ix2 k) (Fin.ext (Nat.zero_add _).symm)))

theorem block15 : out0_15 (F := Ideal) x0 x1 x2 x3 x4 x5 x6 x7 x8 x9 x10 x11 x12 x13 = rqBlock x0 x1 x2 x3 x4 x5 x6 x7 x8 := by
  funext y
  unfold out0_15 retQueryTop retQueryBot
  refine View.canon_apply_of_pieces (Val := Elt Ideal) (e := .bf16) (rqBlock x0 x1 x2 x3 x4 x5 x6 x7 x8) _ ?_ y (cover0_15 _ _ _ _ _ _ _ _ y)
  have ht : ∀ r h l, rqBlock x0 x1 x2 x3 x4 x5 x6 x7 x8 (ix2 (top r) (col h l)) = turned (tile (fun j => k0_pay54 (F := Ideal)
      (mixTop x0 x1 x2 x3 x4 x5) (View.ld x6 r0_16) (ix2 r j)) h) (fun l => x7 (ix2 (top r) l)) (fun l => x8 (ix2 (top r) l)) l :=
    fun r h l => (retRow_col _ _ _ h l).trans (by rw [← seg_top x0 x1 x2 x3 x4 x5 x6 0 (by decide) _ (ld16' x6)]; rfl)
  have hb : ∀ r h l, rqBlock x0 x1 x2 x3 x4 x5 x6 x7 x8 (ix2 (bot r) (col h l)) = turned (tile (fun j => k0_pay54 (F := Ideal)
      (mixBot x0 x1 x2 x3 x4 x5) (View.ld x6 r0_16) (ix2 r j)) h) (fun l => x7 (ix2 (bot r) l)) (fun l => x8 (ix2 (bot r) l)) l :=
    fun r h l => (retRow_col _ _ _ h l).trans (by rw [← seg_bot x0 x1 x2 x3 x4 x5 x6 0 (by decide) _ (ld16' x6)]; rfl)
  generalize rqBlock x0 x1 x2 x3 x4 x5 x6 x7 x8 = G at ht hb ⊢
  generalize mixTop (F := Ideal) x0 x1 x2 x3 x4 x5 = m at ht hb ⊢
  generalize mixBot (F := Ideal) x0 x1 x2 x3 x4 x5 = m' at ht hb ⊢
  generalize View.ld x6 r0_16 = w at ht hb ⊢
  intro p hp x
  rcases List.mem_cons.1 hp with rfl | hp
  · obtain ⟨r, l, rfl⟩ : ∃ (r : Fin 256) (l : Fin 128), x = ix2 r l := ix2_of x
    refine Eq.trans ?_ ((congrArg G (emb26 r l)).trans (hb r 3 l)).symm
    show k0_pay113 (F := Ideal) _ _ _ (ix2 r l) = _
    pointwise [k0_pay113]
    rfl
  rcases List.mem_cons.1 hp with rfl | hp
  · obtain ⟨r, l, rfl⟩ : ∃ (r : Fin 256) (l : Fin 128), x = ix2 r l := ix2_of x
    refine Eq.trans ?_ ((congrArg G (emb25 r l)).trans (hb r 2 l)).symm
    show k0_pay112 (F := Ideal) _ _ _ (ix2 r l) = _
    pointwise [k0_pay112]
    rfl
  rcases List.mem_cons.1 hp with rfl | hp
  · obtain ⟨r, l, rfl⟩ : ∃ (r : Fin 256) (l : Fin 128), x = ix2 r l := ix2_of x
    refine Eq.trans ?_ ((congrArg G (emb24 r l)).trans (hb r 1 l)).symm
    show k0_pay111 (F := Ideal) _ _ _ _ (ix2 r l) = _
    pointwise [k0_pay111]
    rfl
  rcases List.mem_cons.1 hp with rfl | hp
  · obtain ⟨r, l, rfl⟩ : ∃ (r : Fin 256) (l : Fin 128), x = ix2 r l := ix2_of x
    refine Eq.trans ?_ ((congrArg G (emb23 r l)).trans (hb r 0 l)).symm
    show k0_pay110 (F := Ideal) _ _ _ _ (ix2 r l) = _
    simp only [tile_zero]
    pointwise [k0_pay110]
    rfl
  rcases List.mem_cons.1 hp with rfl | hp
  · obtain ⟨r, l, rfl⟩ : ∃ (r : Fin 256) (l : Fin 128), x = ix2 r l := ix2_of x
    refine Eq.trans ?_ ((congrArg G (emb14 r l)).trans (ht r 3 l)).symm
    show k0_pay65 (F := Ideal) _ _ _ (ix2 r l) = _
    pointwise [k0_pay65, k0_pay62, k0_pay63, k0_pay64, k0_pay61]
    rfl
  rcases List.mem_cons.1 hp with rfl | hp
  · obtain ⟨r, l, rfl⟩ : ∃ (r : Fin 256) (l : Fin 128), x = ix2 r l := ix2_of x
    refine Eq.trans ?_ ((congrArg G (emb12 r l)).trans (ht r 2 l)).symm
    show k0_pay60 (F := Ideal) _ _ _ (ix2 r l) = _
    pointwise [k0_pay60]
    rfl
  rcases List.mem_cons.1 hp with rfl | hp
  · obtain ⟨r, l, rfl⟩ : ∃ (r : Fin 256) (l : Fin 128), x = ix2 r l := ix2_of x
    refine Eq.trans ?_ ((congrArg G (emb10 r l)).trans (ht r 1 l)).symm
    show k0_pay59 (F := Ideal) _ _ _ (ix2 r l) = _
    pointwise [k0_pay59]
    rfl
  obtain rfl := List.mem_singleton.1 hp
  obtain ⟨r, l, rfl⟩ : ∃ (r : Fin 256) (l : Fin 128), x = ix2 r l := ix2_of x
  refine Eq.trans ?_ ((congrArg G (emb8 r l)).trans (ht r 0 l)).symm
  show k0_pay58 (F := Ideal) _ _ _ (ix2 r l) = _
  simp only [tile_zero]
  pointwise [k0_pay58, k0_pay56, k0_pay57, k0_pay55]
  rfl

theorem block16 : out0_16 (F := Ideal) x0 x1 x2 x3 x4 x5 x6 x7 x8 x9 x10 x11 x12 x13 = rkBlock x0 x1 x2 x3 x4 x5 x6 x7 x8 := by
  funext y
  unfold out0_16 retKeyBot
  refine View.canon_apply_of_pieces (Val := Elt Ideal) (e := .bf16) (rkBlock x0 x1 x2 x3 x4 x5 x6 x7 x8) _ ?_ y (cover0_16 _ _ _ _ _ _ _ _ y)
  have ht : ∀ r h l, rkBlock x0 x1 x2 x3 x4 x5 x6 x7 x8 (ix2 (top r) (col h l)) = turned (tile (fun j => k0_pay54 (F := Ideal)
      (mixTop x0 x1 x2 x3 x4 x5) (View.ld x6 r0_17) (ix2 r j)) h) (fun l => x7 (ix2 (top r) l)) (fun l => x8 (ix2 (top r) l)) l * Ideal.ofBits FTy.f32 0x3DB504F3#32 :=
    fun r h l => congrArg (· * _) ((retRow_col _ _ _ h l).trans (by rw [← seg_top x0 x1 x2 x3 x4 x5 x6 512 (by decide) _ (ld17 x6)]; rfl))
  have hb : ∀ r h l, rkBlock x0 x1 x2 x3 x4 x5 x6 x7 x8 (ix2 (bot r) (col h l)) = turned (tile (fun j => k0_pay54 (F := Ideal)
      (mixBot x0 x1 x2 x3 x4 x5) (View.ld x6 r0_17) (ix2 r j)) h) (fun l => x7 (ix2 (bot r) l)) (fun l => x8 (ix2 (bot r) l)) l * Ideal.ofBits FTy.f32 0x3DB504F3#32 :=
    fun r h l => congrArg (· * _) ((retRow_col _ _ _ h l).trans (by rw [← seg_bot x0 x1 x2 x3 x4 x5 x6 512 (by decide) _ (ld17 x6)]; rfl))
  generalize rkBlock x0 x1 x2 x3 x4 x5 x6 x7 x8 = G at ht hb ⊢
  generalize mixTop (F := Ideal) x0 x1 x2 x3 x4 x5 = m at ht hb ⊢
  generalize mixBot (F := Ideal) x0 x1 x2 x3 x4 x5 = m' at ht hb ⊢
  generalize View.ld x6 r0_17 = w at ht hb ⊢
  intro p hp x
  rcases List.mem_cons.1 hp with rfl | hp
  · obtain ⟨r, l, rfl⟩ : ∃ (r : Fin 256) (l : Fin 128), x = ix2 r l := ix2_of x
    refine Eq.trans ?_ ((congrArg G (emb26 r l)).trans (hb r 3 l)).symm
    show k0_pay122 (F := Ideal) _ _ _ (ix2 r l) = _
    pointwise [k0_pay122, k0_pay120, k0_pay121, k0_pay119]
    rfl
  rcases List.mem_cons.1 hp with rfl | hp
  · obtain ⟨r, l, rfl⟩ : ∃ (r : Fin 256) (l : Fin 128), x = ix2 r l := ix2_of x
    refine Eq.trans ?_ ((congrArg G (emb25 r l)).trans (hb r 2 l)).symm
    show k0_pay118 (F := Ideal) _ _ _ (ix2 r l) = _
    pointwise [k0_pay118]
    rfl
  rcases List.mem_cons.1 hp with rfl | hp
  · obtain ⟨r, l, rfl⟩ : ∃ (r : Fin 256) (l : Fin 128), x = ix2 r l := ix2_of x
    refine Eq.trans ?_ ((congrArg G (emb24 r l)).trans (hb r 1 l)).symm
    show k0_pay117 (F := Ideal) _ _ _ (ix2 r l) = _
    pointwise [k0_pay117]
    rfl
  rcases List.mem_cons.1 hp with rfl | hp
  · obtain ⟨r, l, rfl⟩ : ∃ (r : Fin 256) (l : Fin 128), x = ix2 r l := ix2_of x
    refine Eq.trans ?_ ((congrArg G (emb23 r l)).trans (hb r 0 l)).symm
    show k0_pay116 (F := Ideal) _ _ (ix2 r l) = _
    simp only [tile_zero]
    pointwise [k0_pay116, k0_pay115]
    rfl
  rcases List.mem_cons.1 hp with rfl | hp
  · obtain ⟨r, l, rfl⟩ : ∃ (r : Fin 256) (l : Fin 128), x = ix2 r l := ix2_of x
    refine Eq.trans ?_ ((congrArg G (emb14 r l)).trans (ht r 3 l)).symm
    show k0_pay71 (F := Ideal) _ _ _ (ix2 r l) = _
    pointwise [k0_pay71]
    rfl
  rcases List.mem_cons.1 hp with rfl | hp
  · obtain ⟨r, l, rfl⟩ : ∃ (r : Fin 256) (l : Fin 128), x = ix2 r l := ix2_of x
    refine Eq.trans ?_ ((congrArg G (emb12 r l)).trans (ht r 2 l)).symm
    show k0_pay70 (F := Ideal) _ _ _ (ix2 r l) = _
    pointwise [k0_pay70, k0_pay69]
    rfl
  rcases List.mem_cons.1 hp with rfl | hp
  · obtain ⟨r, l, rfl⟩ : ∃ (r : Fin 256) (l : Fin 128), x = ix2 r l := ix2_of x
    refine Eq.trans ?_ ((congrArg G (emb10 r l)).trans (ht r 1 l)).symm
    show k0_pay68 (F := Ideal) _ _ _ _ (ix2 r l) = _
    pointwise [k0_pay68]
    rfl
  obtain rfl := List.mem_singleton.1 hp
  obtain ⟨r, l, rfl⟩ : ∃ (r : Fin 256) (l : Fin 128), x = ix2 r l := ix2_of x
  refine Eq.trans ?_ ((congrArg G (emb8 r l)).trans (ht r 0 l)).symm
  show k0_pay67 (F := Ideal) _ _ _ _ (ix2 r l) = _
  simp only [tile_zero]
  pointwise [k0_pay67]
  rfl

theorem block19 : out0_19 (F := Ideal) x0 x1 x2 x3 x4 x5 x6 x7 x8 x9 x10 x11 x12 x13 = attBlock x0 x1 x2 x3 x4 x5 x6 x9 x10 x11 2048 (by decide) x12 := by
  funext y
  unfold out0_19 queryTop queryBot firstHead
  refine View.canon_apply_of_pieces (Val := Elt Ideal) (e := .bf16) (attBlock x0 x1 x2 x3 x4 x5 x6 x9 x10 x11 2048 (by decide) x12) _ ?_ y (cover0_19 _ _ _ _ _ _ _ _ y)
  have ht : ∀ r h l, attBlock x0 x1 x2 x3 x4 x5 x6 x9 x10 x11 2048 (by decide) x12 (ix2 (top r) (col h l)) = headed (tile (fun j => k0_pay54 (F := Ideal)
      (mixTop x0 x1 x2 x3 x4 x5) (View.ld x6 r0_5) (ix2 r j)) h) (tile (fun j => x12 (ix2 0 j)) h)
      (fun l => x9 (ix2 (top r) l)) (fun l => x11 (ix2 (top r) l)) (fun l => x10 (ix2 (top r) l)) l :=
    fun r h l => (attRow_col _ _ _ _ _ h l).trans (by rw [← seg_top x0 x1 x2 x3 x4 x5 x6 2048 (by decide) _ (ld5 x6)]; rfl)
  have hb : ∀ r h l, attBlock x0 x1 x2 x3 x4 x5 x6 x9 x10 x11 2048 (by decide) x12 (ix2 (bot r) (col h l)) = headed (tile (fun j => k0_pay54 (F := Ideal)
      (mixBot x0 x1 x2 x3 x4 x5) (View.ld x6 r0_5) (ix2 r j)) h) (tile (fun j => x12 (ix2 0 j)) h)
      (fun l => x9 (ix2 (bot r) l)) (fun l => x11 (ix2 (bot r) l)) (fun l => x10 (ix2 (bot r) l)) l :=
    fun r h l => (attRow_col _ _ _ _ _ h l).trans (by rw [← seg_bot x0 x1 x2 x3 x4 x5 x6 2048 (by decide) _ (ld5 x6)]; rfl)
  generalize attBlock x0 x1 x2 x3 x4 x5 x6 x9 x10 x11 2048 (by decide) x12 = G at ht hb ⊢
  generalize mixBot (F := Ideal) x0 x1 x2 x3 x4 x5 = m' at ht hb ⊢
  generalize View.ld x6 r0_5 = w at ht hb ⊢
  intro p hp x
  rcases List.mem_cons.1 hp with rfl | hp
  · obtain ⟨r, l, rfl⟩ : ∃ (r : Fin 256) (l : Fin 128), x = ix2 r l := ix2_of x
    refine Eq.trans ?_ ((congrArg G (emb26 r l)).trans (hb r 3 l)).symm
    show k0_pay92 (F := Ideal) _ _ _ _ _ (ix2 r l) = _
    pointwise [k0_pay92, k0_pay88, k0_pay89, k0_pay90, k0_pay91, k0_pay11]
    rfl
  rcases List.mem_cons.1 hp with rfl | hp
  · obtain ⟨r, l, rfl⟩ : ∃ (r : Fin 256) (l : Fin 128), x = ix2 r l := ix2_of x
    refine Eq.trans ?_ ((congrArg G (emb25 r l)).trans (hb r 2 l)).symm
    show k0_pay87 (F := Ideal) _ _ _ _ _ (ix2 r l) = _
    pointwise [k0_pay87, k0_pay84, k0_pay85, k0_pay86, k0_pay11]
    rfl
  rcases List.mem_cons.1 hp with rfl | hp
  · obtain ⟨r, l, rfl⟩ : ∃ (r : Fin 256) (l : Fin 128), x = ix2 r l := ix2_of x
    refine Eq.trans ?_ ((congrArg G (emb24 r l)).trans (hb r 1 l)).symm
    show k0_pay83 (F := Ideal) _ _ _ _ _ (ix2 r l) = _
    pointwise [k0_pay83, k0_pay80, k0_pay81, k0_pay82, k0_pay11]
    rfl
  rcases List.mem_cons.1 hp with rfl | hp
  · obtain ⟨r, l, rfl⟩ : ∃ (r : Fin 256) (l : Fin 128), x = ix2 r l := ix2_of x
    refine Eq.trans ?_ ((congrArg G (emb23 r l)).trans (hb r 0 l)).symm
    show k0_pay79 (F := Ideal) _ _ _ _ _ (ix2 r l) = _
    simp only [tile_zero]
    pointwise [k0_pay79, k0_pay76, k0_pay77, k0_pay78, k0_pay11]
    rfl
  rcases List.mem_cons.1 hp with rfl | hp
  · obtain ⟨r, l, rfl⟩ : ∃ (r : Fin 256) (l : Fin 128), x = ix2 r l := ix2_of x
    refine Eq.trans ?_ ((congrArg G (emb14 r l)).trans (ht r 3 l)).symm
    show k0_pay32 (F := Ideal) _ _ _ _ _ _ _ _ (ix2 r l) = _
    pointwise [k0_pay32, k0_pay28, k0_pay30, k0_pay31, k0_pay29, k0_pay11]
    rfl
  rcases List.mem_cons.1 hp with rfl | hp
  · obtain ⟨r, l, rfl⟩ : ∃ (r : Fin 256) (l : Fin 128), x = ix2 r l := ix2_of x
    refine Eq.trans ?_ ((congrArg G (emb12 r l)).trans (ht r 2 l)).symm
    show k0_pay27 (F := Ideal) _ _ _ _ _ _ _ _ (ix2 r l) = _
    pointwise [k0_pay27, k0_pay23, k0_pay25, k0_pay26, k0_pay24, k0_pay11]
    rfl
  rcases List.mem_cons.1 hp with rfl | hp
  · obtain ⟨r, l, rfl⟩ : ∃ (r : Fin 256) (l : Fin 128), x = ix2 r l := ix2_of x
    refine Eq.trans ?_ ((congrArg G (emb10 r l)).trans (ht r 1 l)).symm
    show k0_pay22 (F := Ideal) _ _ _ _ _ _ _ _ (ix2 r l) = _
    pointwise [k0_pay22, k0_pay18, k0_pay20, k0_pay21, k0_pay19, k0_pay11]
    rfl
  obtain rfl := List.mem_singleton.1 hp
  obtain ⟨r, l, rfl⟩ : ∃ (r : Fin 256) (l : Fin 128), x = ix2 r l := ix2_of x
  refine Eq.trans ?_ ((congrArg G (emb8 r l)).trans (ht r 0 l)).symm
  show k0_pay17 (F := Ideal) _ _ _ _ _ _ _ _ (ix2 r l) = _
  simp only [tile_zero]
  pointwise [k0_pay17, k0_pay13, k0_pay15, k0_pay16, k0_pay14, k0_pay11]
  rfl

theorem block20 : out0_20 (F := Ideal) x0 x1 x2 x3 x4 x5 x6 x7 x8 x9 x10 x11 x12 x13 = attBlock x0 x1 x2 x3 x4 x5 x6 x9 x10 x11 2560 (by decide) x13 := by
  funext y
  unfold out0_20 keyTop keyBot firstHead
  refine View.canon_apply_of_pieces (Val := Elt Ideal) (e := .bf16) (attBlock x0 x1 x2 x3 x4 x5 x6 x9 x10 x11 2560 (by decide) x13) _ ?_ y (cover0_20 _ _ _ _ _ _ _ _ y)
  have ht : ∀ r h l, attBlock x0 x1 x2 x3 x4 x5 x6 x9 x10 x11 2560 (by decide) x13 (ix2 (top r) (col h l)) = headed (tile (fun j => k0_pay54 (F := Ideal)
      (mixTop x0 x1 x2 x3 x4 x5) (View.ld x6 r0_15) (ix2 r j)) h) (tile (fun j => x13 (ix2 0 j)) h)
      (fun l => x9 (ix2 (top r) l)) (fun l => x11 (ix2 (top r) l)) (fun l => x10 (ix2 (top r) l)) l :=
    fun r h l => (attRow_col _ _ _ _ _ h l).trans (by rw [← seg_top x0 x1 x2 x3 x4 x5 x6 2560 (by decide) _ (ld15 x6)]; rfl)
  have hb : ∀ r h l, attBlock x0 x1 x2 x3 x4 x5 x6 x9 x10 x11 2560 (by decide) x13 (ix2 (bot r) (col h l)) = headed (tile (fun j => k0_pay54 (F := Ideal)
      (mixBot x0 x1 x2 x3 x4 x5) (View.ld x6 r0_15) (ix2 r j)) h) (tile (fun j => x13 (ix2 0 j)) h)
      (fun l => x9 (ix2 (bot r) l)) (fun l => x11 (ix2 (bot r) l)) (fun l => x10 (ix2 (bot r) l)) l :=
    fun r h l => (attRow_col _ _ _ _ _ h l).trans (by rw [← seg_bot x0 x1 x2 x3 x4 x5 x6 2560 (by decide) _ (ld15 x6)]; rfl)
  generalize attBlock x0 x1 x2 x3 x4 x5 x6 x9 x10 x11 2560 (by decide) x13 = G at ht hb ⊢
  generalize mixBot (F := Ideal) x0 x1 x2 x3 x4 x5 = m' at ht hb ⊢
  generalize View.ld x6 r0_15 = w at ht hb ⊢
  intro p hp x
  rcases List.mem_cons.1 hp with rfl | hp
  · obtain ⟨r, l, rfl⟩ : ∃ (r : Fin 256) (l : Fin 128), x = ix2 r l := ix2_of x
    refine Eq.trans ?_ ((congrArg G (emb26 r l)).trans (hb r 3 l)).symm
    show k0_pay108 (F := Ideal) _ _ _ _ _ (ix2 r l) = _
    pointwise [k0_pay108, k0_pay105, k0_pay106, k0_pay107, k0_pay11]
    rfl
  rcases List.mem_cons.1 hp with rfl | hp
  · obtain ⟨r, l, rfl⟩ : ∃ (r : Fin 256) (l : Fin 128), x = ix2 r l := ix2_of x
    refine Eq.trans ?_ ((congrArg G (emb25 r l)).trans (hb r 2 l)).symm
    show k0_pay104 (F := Ideal) _ _ _ _ _ (ix2 r l) = _
    pointwise [k0_pay104, k0_pay101, k0_pay102, k0_pay103, k0_pay11]
    rfl
  rcases List.mem_cons.1 hp with rfl | hp
  · obtain ⟨r, l, rfl⟩ : ∃ (r : Fin 256) (l : Fin 128), x = ix2 r l := ix2_of x
    refine Eq.trans ?_ ((congrArg G (emb24 r l)).trans (hb r 1 l)).symm
    show k0_pay100 (F := Ideal) _ _ _ _ _ (ix2 r l) = _
    pointwise [k0_pay100, k0_pay97, k0_pay98, k0_pay99, k0_pay11]
    rfl
  rcases List.mem_cons.1 hp with rfl | hp
  · obtain ⟨r, l, rfl⟩ : ∃ (r : Fin 256) (l : Fin 128), x = ix2 r l := ix2_of x
    refine Eq.trans ?_ ((congrArg G (emb23 r l)).trans (hb r 0 l)).symm
    show k0_pay96 (F := Ideal) _ _ _ _ _ (ix2 r l) = _
    simp only [tile_zero]
    pointwise [k0_pay96, k0_pay94, k0_pay95, k0_pay11]
    rfl
  rcases List.mem_cons.1 hp with rfl | hp
  · obtain ⟨r, l, rfl⟩ : ∃ (r : Fin 256) (l : Fin 128), x = ix2 r l := ix2_of x
    refine Eq.trans ?_ ((congrArg G (emb14 r l)).trans (ht r 3 l)).symm
    show k0_pay53 (F := Ideal) _ _ _ _ _ _ _ _ (ix2 r l) = _
    pointwise [k0_pay53, k0_pay49, k0_pay51, k0_pay52, k0_pay50, k0_pay11]
    rfl
  rcases List.mem_cons.1 hp with rfl | hp
  · obtain ⟨r, l, rfl⟩ : ∃ (r : Fin 256) (l : Fin 128), x = ix2 r l := ix2_of x
    refine Eq.trans ?_ ((congrArg G (emb12 r l)).trans (ht r 2 l)).symm
    show k0_pay48 (F := Ideal) _ _ _ _ _ _ _ _ (ix2 r l) = _
    pointwise [k0_pay48, k0_pay44, k0_pay46, k0_pay47, k0_pay45, k0_pay11]
    rfl
  rcases List.mem_cons.1 hp with rfl | hp
  · obtain ⟨r, l, rfl⟩ : ∃ (r : Fin 256) (l : Fin 128), x = ix2 r l := ix2_of x
    refine Eq.trans ?_ ((congrArg G (emb10 r l)).trans (ht r 1 l)).symm
    show k0_pay43 (F := Ideal) _ _ _ _ _ _ _ _ (ix2 r l) = _
    pointwise [k0_pay43, k0_pay39, k0_pay41, k0_pay42, k0_pay40, k0_pay11]
    rfl
  obtain rfl := List.mem_singleton.1 hp
  obtain ⟨r, l, rfl⟩ : ∃ (r : Fin 256) (l : Fin 128), x = ix2 r l := ix2_of x
  refine Eq.trans ?_ ((congrArg G (emb8 r l)).trans (ht r 0 l)).symm
  show k0_pay38 (F := Ideal) _ _ _ _ _ _ _ _ (ix2 r l) = _
  simp only [tile_zero]
  pointwise [k0_pay38, k0_pay34, k0_pay36, k0_pay37, k0_pay35, k0_pay11]
  rfl

end blocks

end Cert.Kernel2Ideal.In

end
-- ==== Proof.PlainRows.lean ====
/- The row functions of the layer's first call in the plain form of the problem, head by head, and that the tile form
   the kernel computes equals them. -/
module

public import proofs.«01_k».proof.Proof.HeadRows
public import Idealize.ShloMosaic.PureOps.Ideal.Laws
public import Idealize.ShloMosaic.Lib.IdealHost

@[expose] public section

noncomputable section

open Idealize.ShloMosaic Idealize.SL.Sem

namespace Layer

/-- A head of 128 turned by its angles: the halves as pairs. -/
def turnedHead (t : Fin 128 → EReal) (a : Fin 64 → EReal) (l : Fin 128) : EReal :=
  if h : l.val < 64 then t l * Ideal.cos (a ⟨l, h⟩) - t ⟨64 + l, by omega⟩ * Ideal.sin (a ⟨l, h⟩)
  else t l * Ideal.cos (a ⟨l - 64, by omega⟩) + t ⟨l - 64, by omega⟩ * Ideal.sin (a ⟨l - 64, by omega⟩)

/-- The cosines and the signed sines of the angles, for both halves. -/
def cosTile (a : Fin 64 → EReal) (l : Fin 128) : EReal :=
  if h : l.val < 64 then Ideal.cos (a ⟨l, h⟩) else Ideal.cos (a ⟨l - 64, by omega⟩)
def sinTile (a : Fin 64 → EReal) (l : Fin 128) : EReal :=
  if h : l.val < 64 then -Ideal.sin (a ⟨l, h⟩) else Ideal.sin (a ⟨l - 64, by omega⟩)

theorem turned_eq (t : Fin 128 → EReal) (a : Fin 64 → EReal) (l : Fin 128) :
    turned t (cosTile a) (sinTile a) l = turnedHead t a l := by
  unfold turned cosTile sinTile turnedHead
  by_cases h : l.val < 64
  · have e : (⟨(l.val + 128 - 64) % 128, Nat.mod_lt _ (by decide)⟩ : Fin 128) = ⟨64 + l, by omega⟩ := Fin.ext (by show (l.val + 128 - 64) % 128 = 64 + l.val; omega)
    rw [e, dif_pos h, dif_pos h, dif_pos h, mul_neg, sub_eq_add_neg]
  · have e : (⟨(l.val + 128 - 64) % 128, Nat.mod_lt _ (by decide)⟩ : Fin 128) = ⟨l - 64, by omega⟩ := Fin.ext (by show (l.val + 128 - 64) % 128 = l.val - 64; omega)
    rw [e, dif_neg h, dif_neg h, dif_neg h]

/-- A head of 64, normed by its root mean square and scaled by the gain. -/
def headNormed (x g : Fin 64 → EReal) (d : Fin 64) : EReal :=
  x d * Ideal.rsqrt (Ideal.div (∑ k, x k * x k) (Ideal.ofBits FTy.f32 0x42800000#32) + Ideal.ofBits FTy.f32 897988541#32) * g d

/-- A head of 64 turned on its first sixteen lanes. -/
def headTurned (x : Fin 64 → EReal) (a : Fin 8 → EReal) (d : Fin 64) : EReal :=
  if h : d.val < 8 then x d * Ideal.cos (a ⟨d, h⟩) - x ⟨8 + d, by omega⟩ * Ideal.sin (a ⟨d, h⟩)
  else if h' : d.val < 16 then x d * Ideal.cos (a ⟨d - 8, by omega⟩) + x ⟨d - 8, by omega⟩ * Ideal.sin (a ⟨d - 8, by omega⟩)
  else x d

/-- The three tables of the turn of two heads: cosines (one beyond the sixteenth lane), the sines that reach up, and the signed
    sines that reach down. -/
def cosPair (a : Fin 8 → EReal) (l : Fin 128) : EReal :=
  if h : l.val % 64 < 8 then Ideal.cos (a ⟨l % 64, h⟩) else if h' : l.val % 64 < 16 then Ideal.cos (a ⟨l % 64 - 8, by omega⟩) else 1
def upPair (a : Fin 8 → EReal) (l : Fin 128) : EReal :=
  if l.val % 64 < 8 then 0 else if h' : l.val % 64 < 16 then Ideal.sin (a ⟨l % 64 - 8, by omega⟩) else 0
def downPair (a : Fin 8 → EReal) (l : Fin 128) : EReal :=
  if h : l.val % 64 < 8 then -Ideal.sin (a ⟨l % 64, h⟩) else 0

/-- The head a lane of a tile lies in. -/
def headOf (t : Fin 128 → EReal) (l : Fin 128) (d : Fin 64) : EReal := t ⟨l / 64 * 64 + d, by omega⟩

theorem inFirst_eq : ∀ l : Fin 128, inFirst l = if l.val < 64 then 1#1 else 0#1 := by decide

theorem select_inFirst (l : Fin 128) (x y : EReal) : Scalar.select (α := EReal) (inFirst l) x y = if l.val < 64 then x else y := by
  rw [inFirst_eq]
  by_cases h : l.val < 64
  · rw [if_pos h, if_pos h]; rfl
  · rw [if_neg h, if_neg h]; rfl

theorem tileSquares_eq (t : Fin 128 → EReal) (l : Fin 128) : tileSquares t l = ∑ k, headOf t l k * headOf t l k := by
  unfold tileSquares
  simp only [select_inFirst]
  by_cases h : l.val < 64
  · rw [if_pos h]
    refine (Fin.sum_univ_add (a := 64) (b := 64) _).trans ?_
    refine (congrArg₂ (· + ·) (Finset.sum_congr rfl (g := fun k : Fin 64 => headOf t l k * headOf t l k) fun k _ => ?_)
      (Finset.sum_eq_zero fun k _ => ?_)).trans (add_zero _)
    · refine (if_pos (by show k.val < 64; omega)).trans ?_
      unfold headOf
      have e : (Fin.castAdd 64 k : Fin 128) = ⟨l / 64 * 64 + k, by omega⟩ := Fin.ext (by show k.val = l.val / 64 * 64 + k.val; omega)
      exact congrArg (fun z => t z * t z) e
    · exact if_neg (by show ¬ 64 + k.val < 64; omega)
  · rw [if_neg h]
    refine (Fin.sum_univ_add (a := 64) (b := 64) _).trans ?_
    rw [Finset.sum_eq_zero, zero_add]
    · refine Finset.sum_congr rfl fun k _ => ?_
      refine (if_neg (by show ¬ 64 + k.val < 64; omega)).trans ?_
      unfold headOf
      have e : (Fin.natAdd 64 k : Fin 128) = ⟨l / 64 * 64 + k, by omega⟩ := Fin.ext (by show 64 + k.val = l.val / 64 * 64 + k.val; omega)
      exact congrArg (fun z => t z * t z) e
    · intro k _
      exact if_pos (by show k.val < 64; omega)

theorem ofBits_64 : Ideal.ofBits FTy.f32 0x42800000#32 = ((64 : ℝ) : EReal) := by
  simp [Ideal.ofBits, Ideal.ieee, -EReal.coe_mul]; norm_num
theorem ofBits_64th : Ideal.ofBits FTy.f32 1015021568#32 = ((1 / 64 : ℝ) : EReal) := by
  simp [Ideal.ofBits, Ideal.ieee, -EReal.coe_mul]; norm_num

theorem tileNormed_eq (t : Fin 128 → EReal) (g : Fin 64 → EReal) (l : Fin 128) :
    tileNormed t (fun l => g ⟨l % 64, Nat.mod_lt _ (by decide)⟩) l
      = headNormed (headOf t l) g ⟨l % 64, Nat.mod_lt _ (by decide)⟩ := by
  unfold tileNormed headNormed
  rw [tileSquares_eq, ofBits_64, Ideal.div_coe (by norm_num), ofBits_64th]
  have e : headOf t l ⟨l % 64, Nat.mod_lt _ (by decide)⟩ = t l := congrArg t (Fin.ext (Nat.div_add_mod' l.val 64))
  rw [e]

theorem headOf_congr (t : Fin 128 → EReal) (l l' : Fin 128) (h : l.val / 64 = l'.val / 64) : headOf t l = headOf t l' := by
  unfold headOf; simp only [h]

theorem headed_eq (t : Fin 128 → EReal) (g : Fin 64 → EReal) (a : Fin 8 → EReal) (l : Fin 128) :
    headed t (fun l => g ⟨l % 64, Nat.mod_lt _ (by decide)⟩) (cosPair a) (upPair a) (downPair a) l
      = headTurned (headNormed (headOf t l) g) a ⟨l % 64, Nat.mod_lt _ (by decide)⟩ := by
  unfold headed
  simp only [tileNormed_eq]
  unfold cosPair upPair downPair headTurned
  by_cases h : l.val % 64 < 8
  · rw [dif_pos h, if_pos h, dif_pos h, dif_pos h, mul_zero, add_zero, mul_neg, ← sub_eq_add_neg,
      headOf_congr t ⟨(l.val + 128 - 120) % 128, Nat.mod_lt _ (by decide)⟩ l (by show (l.val + 128 - 120) % 128 / 64 = l.val / 64; omega)]
    have e : (⟨(l.val + 128 - 120) % 128 % 64, Nat.mod_lt _ (by decide)⟩ : Fin 64) = ⟨8 + l.val % 64, by omega⟩ := Fin.ext (by show (l.val + 128 - 120) % 128 % 64 = 8 + l.val % 64; omega)
    rw [e]
  · by_cases h' : l.val % 64 < 16
    · rw [dif_neg h, dif_pos h', if_neg h, dif_pos h', dif_neg h, dif_neg h, dif_pos h', mul_zero, add_zero,
        headOf_congr t ⟨(l.val + 128 - 8) % 128, Nat.mod_lt _ (by decide)⟩ l (by show (l.val + 128 - 8) % 128 / 64 = l.val / 64; omega)]
      have e : (⟨(l.val + 128 - 8) % 128 % 64, Nat.mod_lt _ (by decide)⟩ : Fin 64) = ⟨l.val % 64 - 8, by omega⟩ := Fin.ext (by show (l.val + 128 - 8) % 128 % 64 = l.val % 64 - 8; omega)
      rw [e]
    · rw [dif_neg h, dif_neg h', if_neg h, dif_neg h', dif_neg h, dif_neg h, dif_neg h', mul_zero, mul_zero, add_zero, add_zero, mul_one]

/-- A finite nonnegative scale of the gain is one of the turned head. -/
theorem headTurned_scale (x : Fin 64 → EReal) (a : Fin 8 → EReal) (s : EReal) (h0 : 0 ≤ s) (ht : s ≠ ⊤) (d : Fin 64) :
    headTurned (fun d => x d * s) a d = headTurned x a d * s := by
  unfold headTurned
  by_cases h : d.val < 8
  · rw [dif_pos h, dif_pos h, sub_eq_add_neg, sub_eq_add_neg, EReal.right_distrib_of_nonneg_of_ne_top h0 ht, EReal.neg_mul, mul_right_comm, mul_right_comm (x _) s]
  · by_cases h' : d.val < 16
    · rw [dif_neg h, dif_pos h', dif_neg h, dif_pos h', EReal.right_distrib_of_nonneg_of_ne_top h0 ht, mul_right_comm, mul_right_comm (x _) s]
    · rw [dif_neg h, dif_neg h', dif_neg h, dif_neg h']

theorem headNormed_scale (x g : Fin 64 → EReal) (s : EReal) : headNormed x (fun d => g d * s) = fun d => headNormed x g d * s := by
  funext d; unfold headNormed; rw [mul_assoc (_ * _)]

theorem ofBits_scale_nonneg : 0 ≤ Ideal.ofBits FTy.f32 0x3E38AA3B#32 := by
  simp [Ideal.ofBits, Ideal.ieee, -EReal.coe_mul]
theorem ofBits_scale_ne_top : Ideal.ofBits FTy.f32 0x3E38AA3B#32 ≠ ⊤ := by
  simp [Ideal.ofBits, Ideal.ieee, -EReal.coe_mul]

end Layer

end
-- ==== Proof.InTables.lean ====
/- What the host code before the layer's first call prepares: the token rows, the weights, the rotary tables and the
   attention gains, each entry as a function of the arguments. -/
module

public import proofs.«01_k».proof.Proof.InBlock
public import proofs.«01_k».proof.Proof.PlainRows
public import Idealize.ShloMosaic.Lib.ValueLayout
public import Idealize.ShloMosaic.Lib.StableHlo.RunClose

@[expose] public section

noncomputable section

open Idealize.ShloMosaic Idealize.ShloMosaic.TcCoe Idealize.SL.Sem

namespace Layer

/-- The angle of pair `k` at token `s`: the token's place times the base to the power `-2k / width`. -/
def angle (base width : BitVec 32) (s k : Nat) : EReal :=
  FloatOps.sitofp (F := Ideal) FTy.f32 (BitVec.ofNat 32 s) * Ideal.pow (Ideal.ofBits FTy.f32 base)
    (Ideal.div (-FloatOps.sitofp (F := Ideal) FTy.f32 (BitVec.ofNat 32 k) * Ideal.ofBits FTy.f32 1073741824#32) (Ideal.ofBits FTy.f32 width))

/-- The angles of the retention heads and of the attention heads at token `s`. -/
def retAngle (s : Fin 2048) (k : Fin 64) : EReal := angle 1176256512#32 1124073472#32 s k
def attAngle (s : Fin 2048) (k : Fin 8) : EReal := angle 0x48F42400#32 0x41800000#32 s k

end Layer

namespace Cert.Kernel2Ideal.In

open Cert.Kernel2Ideal Cert.Kernel2Ideal.Gen Layer

variable (m : (ℓ : Loc nD τ sig) → Buf (Elt Ideal) ℓ) (c : Dev nD)

theorem V_x (i : Fin 65536) (k : Fin 1024) :
    V m c main_v54 (ix2 i k) = m ((c.tc : Thread nD τ).loc main_arg0) (ix3 ⟨i.val / 2048, by omega⟩ ⟨i.val % 2048, by omega⟩ k) := by
  have e : V m c main_v54 = shapeCast S65536x1024 (m ((c.tc : Thread nD τ).loc main_arg0) : Vec Ideal S32x2048x1024 .f32) shapeCasts_S32x2048x1024_S65536x1024 := by
    unfold V; simp only [hostOps0]; after_results; rfl
  rw [e]
  exact merge_apply (by norm_num) (by norm_num) _ _ i k

theorem V_wg (i : Fin 1024) (k : Fin 2816) : V m c main_v58 (ix2 i k) = m ((c.tc : Thread nD τ).loc main_arg2) (ix3 0 i k) := by
  have e : V m c main_v58 = (truncf .bf16 (shapeCast S1024x2816 (m ((c.tc : Thread nD τ).loc main_arg2) : Vec Ideal S1x1024x2816 .f32) shapeCasts_S1x1024x2816_S1024x2816) bitsLt_bf16_f32 : FVec Ideal S1024x2816 .bf16) := by
    unfold V; simp only [hostOps0]; after_results; rfl
  rw [e]
  exact ValueIdx.shapeCast_1ab_ab_apply _ _ i k

theorem V_wu (i : Fin 1024) (k : Fin 2816) : V m c main_v60 (ix2 i k) = m ((c.tc : Thread nD τ).loc main_arg3) (ix3 0 i k) := by
  have e : V m c main_v60 = (truncf .bf16 (shapeCast S1024x2816 (m ((c.tc : Thread nD τ).loc main_arg3) : Vec Ideal S1x1024x2816 .f32) shapeCasts_S1x1024x2816_S1024x2816) bitsLt_bf16_f32 : FVec Ideal S1024x2816 .bf16) := by
    unfold V; simp only [hostOps0]; after_results; rfl
  rw [e]
  exact ValueIdx.shapeCast_1ab_ab_apply _ _ i k

theorem V_wd (i : Fin 2816) (k : Fin 1024) : V m c main_v62 (ix2 i k) = m ((c.tc : Thread nD τ).loc main_arg4) (ix3 0 i k) := by
  have e : V m c main_v62 = (truncf .bf16 (shapeCast S2816x1024 (m ((c.tc : Thread nD τ).loc main_arg4) : Vec Ideal S1x2816x1024 .f32) shapeCasts_S1x2816x1024_S2816x1024) bitsLt_bf16_f32 : FVec Ideal S2816x1024 .bf16) := by
    unfold V; simp only [hostOps0]; after_results; rfl
  rw [e]
  exact ValueIdx.shapeCast_1ab_ab_apply _ _ i k

theorem V_win (i : Fin 1024) (k : Fin 3584) : V m c main_v66 (ix2 i k) = m ((c.tc : Thread nD τ).loc main_arg6) (ix3 0 i k) := by
  have e : V m c main_v66 = (truncf .bf16 (shapeCast S1024x3584 (m ((c.tc : Thread nD τ).loc main_arg6) : Vec Ideal S1x1024x3584 .f32) shapeCasts_S1x1024x3584_S1024x3584) bitsLt_bf16_f32 : FVec Ideal S1024x3584 .bf16) := by
    unfold V; simp only [hostOps0]; after_results; rfl
  rw [e]
  exact ValueIdx.shapeCast_1ab_ab_apply _ _ i k

theorem V_g1 (k : Fin 1024) : V m c main_v56 (ix2 0 k) = m ((c.tc : Thread nD τ).loc main_arg1) (ix2 0 k) := by
  have e : V m c main_v56 = (broadcastInDim S1x1024 ![1] bcast_S1024_S1x1024_1 (shapeCast S1024 (m ((c.tc : Thread nD τ).loc main_arg1) : Vec Ideal S1x1024 .f32) shapeCasts_S1x1024_S1024) : Vec Ideal S1x1024 .f32) := by
    unfold V; simp only [hostOps0]; after_results; rfl
  rw [e]
  generalize m ((c.tc : Thread nD τ).loc main_arg1) = z
  pointwise

theorem V_g2 (k : Fin 1024) : V m c main_v64 (ix2 0 k) = m ((c.tc : Thread nD τ).loc main_arg5) (ix2 0 k) := by
  have e : V m c main_v64 = (broadcastInDim S1x1024 ![1] bcast_S1024_S1x1024_1 (shapeCast S1024 (m ((c.tc : Thread nD τ).loc main_arg5) : Vec Ideal S1x1024 .f32) shapeCasts_S1x1024_S1024) : Vec Ideal S1x1024 .f32) := by
    unfold V; simp only [hostOps0]; after_results; rfl
  rw [e]
  generalize m ((c.tc : Thread nD τ).loc main_arg5) = z
  pointwise

theorem V_qgain (j : Fin 512) : V m c main_v73 (ix2 0 j)
    = (show EReal from m ((c.tc : Thread nD τ).loc main_arg7) (ix2 0 ⟨j % 64, Nat.mod_lt _ (by decide)⟩)) * Ideal.ofBits FTy.f32 0x3E38AA3B#32 := by
  have e : V m c main_v73 = (broadcastInDim S1x512 ![1] bcast_S512_S1x512_1 (shapeCast S512 (broadcastInDim S8x64 ![0, 1] bcast_S1x64_S8x64_0_1
      (shapeCast S1x64 (mulf (shapeCast S64 (m ((c.tc : Thread nD τ).loc main_arg7) : Vec Ideal S1x64 .f32) shapeCasts_S1x64_S64)
        (broadcastInDim S64 ![] bcast_S_S64 (constant (F := Ideal) S_ .f32 0x3E38AA3B#32))) shapeCasts_S64_S1x64)) shapeCasts_S8x64_S512) : Vec Ideal S1x512 .f32) := by
    unfold V; simp only [hostOps0]; after_results; rfl
  rw [e]
  generalize m ((c.tc : Thread nD τ).loc main_arg7) = z
  pointwise

theorem V_kgain (j : Fin 512) : V m c main_v78 (ix2 0 j)
    = m ((c.tc : Thread nD τ).loc main_arg8) (ix2 0 ⟨j % 64, Nat.mod_lt _ (by decide)⟩) := by
  have e : V m c main_v78 = (broadcastInDim S1x512 ![1] bcast_S512_S1x512_1 (shapeCast S512 (broadcastInDim S8x64 ![0, 1] bcast_S1x64_S8x64_0_1
      (shapeCast S1x64 (shapeCast S64 (m ((c.tc : Thread nD τ).loc main_arg8) : Vec Ideal S1x64 .f32) shapeCasts_S1x64_S64) shapeCasts_S64_S1x64)) shapeCasts_S8x64_S512) : Vec Ideal S1x512 .f32) := by
    unfold V; simp only [hostOps0]; after_results; rfl
  rw [e]
  generalize m ((c.tc : Thread nD τ).loc main_arg8) = z
  pointwise

/-- The tables of angles the host code builds. -/
def angles : Vec Ideal S2048x64 .f32 :=
  mulf (broadcastInDim S2048x64 ![0, 1] bcast_S2048x1_S2048x64_0_1 (broadcastInDim S2048x1 ![0] bcast_S2048_S2048x1_0 (sitofp (F := Ideal) .f32 (iotaInDim S2048 32 0))))
    (broadcastInDim S2048x64 ![0, 1] bcast_S1x64_S2048x64_0_1 (broadcastInDim S1x64 ![1] bcast_S64_S1x64_1
      (Host.powf (broadcastInDim S64 ![] bcast_S_S64 (constant (F := Ideal) S_ .f32 0x461C4000#32))
        (Host.divf (mulf (Host.negf (sitofp (F := Ideal) .f32 (iotaInDim S64 32 0))) (broadcastInDim S64 ![] bcast_S_S64 (constant (F := Ideal) S_ .f32 0x40000000#32)))
          (broadcastInDim S64 ![] bcast_S_S64 (constant (F := Ideal) S_ .f32 0x43000000#32))))))
def headAngles : Vec Ideal S2048x8 .f32 :=
  mulf (broadcastInDim S2048x8 ![0, 1] bcast_S2048x1_S2048x8_0_1 (broadcastInDim S2048x1 ![0] bcast_S2048_S2048x1_0 (sitofp (F := Ideal) .f32 (iotaInDim S2048 32 0))))
    (broadcastInDim S2048x8 ![0, 1] bcast_S1x8_S2048x8_0_1 (broadcastInDim S1x8 ![1] bcast_S8_S1x8_1
      (Host.powf (broadcastInDim S8 ![] bcast_S_S8 (constant (F := Ideal) S_ .f32 0x48F42400#32))
        (Host.divf (mulf (Host.negf (sitofp (F := Ideal) .f32 (iotaInDim S8 32 0))) (broadcastInDim S8 ![] bcast_S_S8 (constant (F := Ideal) S_ .f32 0x40000000#32)))
          (broadcastInDim S8 ![] bcast_S_S8 (constant (F := Ideal) S_ .f32 0x41800000#32))))))

theorem angles_apply (s : Fin 2048) (k : Fin 64) : angles (ix2 s k) = retAngle s k := by
  unfold angles retAngle angle; pointwise
theorem headAngles_apply (s : Fin 2048) (k : Fin 8) : headAngles (ix2 s k) = attAngle s k := by
  unfold headAngles attAngle angle; pointwise

theorem V_cos (s : Fin 2048) (l : Fin 128) : V m c main_v16 (ix2 s l) = cosTile (retAngle s) l := by
  have e : V m c main_v16 = (show Vec Ideal S2048x128 .f32 from concatenate (α := Ideal .f32) S2048x128 1 [⟨S2048x64, Host.cos angles⟩, ⟨S2048x64, Host.cos angles⟩] concatenates_S2048x64_S2048x64_S2048x128_d1) := by
    unfold V; simp only [hostOps0]; after_results; rfl
  have h : retAngle s = fun k => angles (ix2 s k) := funext fun k => (angles_apply s k).symm
  rw [e, h]
  generalize angles = a
  show concatenate _ _ _ _ _ = _
  pointwise
  rfl

theorem V_sin (s : Fin 2048) (l : Fin 128) : V m c main_v20 (ix2 s l) = sinTile (retAngle s) l := by
  have e : V m c main_v20 = (show Vec Ideal S2048x128 .f32 from concatenate (α := Ideal .f32) S2048x128 1 [⟨S2048x64, Host.negf (Host.sin angles)⟩, ⟨S2048x64, Host.sin angles⟩] concatenates_S2048x64_S2048x64_S2048x128_d1) := by
    unfold V; simp only [hostOps0]; after_results; rfl
  have h : retAngle s = fun k => angles (ix2 s k) := funext fun k => (angles_apply s k).symm
  rw [e, h]
  generalize angles = a
  show concatenate _ _ _ _ _ = _
  pointwise
  rfl

/-- A table of one head's lanes laid out for the two heads of a tile. -/
def pairTable (x : Vec Ideal S2048x64 .f32) : Vec Ideal S2048x128 .f32 :=
  shapeCast S2048x128 (broadcastInDim S1x2048x2x64 ![0, 1, 2, 3] bcast_S1x2048x1x64_S1x2048x2x64_0_1_2_3
    (shapeCast S1x2048x1x64 x shapeCasts_S2048x64_S1x2048x1x64)) shapeCasts_S1x2048x2x64_S2048x128
theorem pairTable_apply (x : Vec Ideal S2048x64 .f32) (s : Fin 2048) (l : Fin 128) :
    pairTable x (ix2 s l) = x (ix2 s ⟨l % 64, Nat.mod_lt _ (by decide)⟩) := by
  unfold pairTable; pointwise

/-- The tables of one head. -/
def cosHead (a : Vec Ideal S2048x8 .f32) : Vec Ideal S2048x64 .f32 :=
  concatenate (α := Ideal .f32) S2048x64 1 [⟨S2048x8, Host.cos a⟩, ⟨S2048x8, Host.cos a⟩, ⟨S2048x48, addf (broadcastInDim S2048x48 ![] bcast_S_S2048x48 (constant (F := Ideal) S_ .f32 0x3F800000#32))
    (broadcastInDim S2048x48 ![] bcast_S_S2048x48 (constant (F := Ideal) S_ .f32 0x00000000#32))⟩] concatenates_S2048x8_S2048x8_S2048x48_S2048x64_d1
def downHead (a : Vec Ideal S2048x8 .f32) : Vec Ideal S2048x64 .f32 :=
  concatenate (α := Ideal .f32) S2048x64 1 [⟨S2048x8, Host.negf (Host.sin a)⟩, ⟨S2048x8, broadcastInDim S2048x8 ![] bcast_S_S2048x8 (constant (F := Ideal) S_ .f32 0x00000000#32)⟩,
    ⟨S2048x48, broadcastInDim S2048x48 ![] bcast_S_S2048x48 (constant (F := Ideal) S_ .f32 0x00000000#32)⟩] concatenates_S2048x8_S2048x8_S2048x48_S2048x64_d1
def upHead (a : Vec Ideal S2048x8 .f32) : Vec Ideal S2048x64 .f32 :=
  concatenate (α := Ideal .f32) S2048x64 1 [⟨S2048x8, broadcastInDim S2048x8 ![] bcast_S_S2048x8 (constant (F := Ideal) S_ .f32 0x00000000#32)⟩, ⟨S2048x8, Host.sin a⟩,
    ⟨S2048x48, broadcastInDim S2048x48 ![] bcast_S_S2048x48 (constant (F := Ideal) S_ .f32 0x00000000#32)⟩] concatenates_S2048x8_S2048x8_S2048x48_S2048x64_d1

theorem lanes (d : Nat) : (d - 8 < 8) = (d < 16) := propext (by omega)

theorem V_acos (s : Fin 2048) (l : Fin 128) : V m c main_v47 (ix2 s l) = cosPair (attAngle s) l := by
  have e : V m c main_v47 = pairTable (cosHead headAngles) := by
    unfold V; simp only [hostOps0]; after_results_simp; (try dsimp only [Matrix.cons_val]); (try after_results_simp); rfl
  have h : attAngle s = fun k => headAngles (ix2 s k) := funext fun k => (headAngles_apply s k).symm
  rw [e, h, pairTable_apply]
  unfold cosHead cosPair
  generalize headAngles = a
  pointwise
  simp only [Ideal.ofBits_one_f32, Ideal.ofBits_zero_f32, add_zero, lanes]

theorem V_down (s : Fin 2048) (l : Fin 128) : V m c main_v50 (ix2 s l) = downPair (attAngle s) l := by
  have e : V m c main_v50 = pairTable (downHead headAngles) := by
    unfold V; simp only [hostOps0]; after_results_simp; (try dsimp only [Matrix.cons_val]); (try after_results_simp); rfl
  have h : attAngle s = fun k => headAngles (ix2 s k) := funext fun k => (headAngles_apply s k).symm
  rw [e, h, pairTable_apply]
  unfold downHead downPair
  generalize headAngles = a
  pointwise
  simp only [Ideal.ofBits_one_f32, Ideal.ofBits_zero_f32, add_zero, lanes, dite_eq_ite, ite_self]

theorem V_up (s : Fin 2048) (l : Fin 128) : V m c main_v53 (ix2 s l) = upPair (attAngle s) l := by
  have e : V m c main_v53 = pairTable (upHead headAngles) := by
    unfold V; simp only [hostOps0]; after_results_simp; (try dsimp only [Matrix.cons_val]); (try after_results_simp); rfl
  have h : attAngle s = fun k => headAngles (ix2 s k) := funext fun k => (headAngles_apply s k).symm
  rw [e, h, pairTable_apply]
  unfold upHead upPair
  generalize headAngles = a
  pointwise
  simp only [Ideal.ofBits_one_f32, Ideal.ofBits_zero_f32, add_zero, lanes]
  rfl

end Cert.Kernel2Ideal.In

end
-- ==== Proof.InArray.lean ====
/- The layer's first call: each result array after the run, as one function of the arguments in the plain form of the
   problem. -/
module

public import proofs.«01_k».proof.Proof.InTables

@[expose] public section

noncomputable section

open Idealize.ShloMosaic Idealize.ShloMosaic.TcCoe Idealize.SL.Sem
open Idealize.ShloMosaic.Pipeline (Dat)

namespace Layer

/-- A row of four retention heads turned, in the plain form. -/
def turnedRow (p : Fin 512 → EReal) (a : Fin 64 → EReal) (j : Fin 512) : EReal := turnedHead (tile p (tileOf j)) a (laneOf j)

/-- A row of eight attention heads normed and turned, in the plain form. -/
def headedRow (p : Fin 512 → EReal) (w : Fin 64 → EReal) (a : Fin 8 → EReal) (j : Fin 512) : EReal :=
  headTurned (headNormed (fun d => p ⟨j / 64 * 64 + d, by omega⟩) w) a ⟨j % 64, Nat.mod_lt _ (by decide)⟩

theorem retRow_eq (p : Fin 512 → EReal) (a : Fin 64 → EReal) (j : Fin 512) :
    retRow p (cosTile a) (sinTile a) j = turnedRow p a j := turned_eq _ _ _

theorem attRow_eq (p : Fin 512 → EReal) (w : Fin 64 → EReal) (a : Fin 8 → EReal) (j : Fin 512) :
    attRow p (fun j => w ⟨j % 64, Nat.mod_lt _ (by decide)⟩) (cosPair a) (upPair a) (downPair a) j = headedRow p w a j := by
  unfold attRow headedRow
  have e : tile (fun j : Fin 512 => w ⟨j % 64, Nat.mod_lt _ (by decide)⟩) (tileOf j) = fun l : Fin 128 => w ⟨l % 64, Nat.mod_lt _ (by decide)⟩ := by
    funext l
    exact congrArg w (Fin.ext (by show (128 * (j.val / 128) + l.val) % 64 = l.val % 64; omega))
  have e' : headOf (tile p (tileOf j)) (laneOf j) = fun d : Fin 64 => p ⟨j / 64 * 64 + d, by omega⟩ := by
    funext d
    exact congrArg p (Fin.ext (by show 128 * (j.val / 128) + (j.val % 128 / 64 * 64 + d.val) = j.val / 64 * 64 + d.val; omega))
  have e'' : (⟨(laneOf j).val % 64, Nat.mod_lt _ (by decide)⟩ : Fin 64) = ⟨j % 64, Nat.mod_lt _ (by decide)⟩ :=
    Fin.ext (by show j.val % 128 % 64 = j.val % 64; omega)
  rw [e, headed_eq, e', e'']

/-- A gain scaled by the queries' scale scales the turned row. -/
theorem attRow_scaled (p : Fin 512 → EReal) (w : Fin 64 → EReal) (a : Fin 8 → EReal) (j : Fin 512) :
    attRow p (fun j => w ⟨j % 64, Nat.mod_lt _ (by decide)⟩ * Ideal.ofBits FTy.f32 0x3E38AA3B#32) (cosPair a) (upPair a) (downPair a) j
      = headedRow p w a j * Ideal.ofBits FTy.f32 0x3E38AA3B#32 := by
  refine (attRow_eq p (fun d => w d * Ideal.ofBits FTy.f32 0x3E38AA3B#32) a j).trans ?_
  unfold headedRow
  rw [headNormed_scale, headTurned_scale _ _ _ ofBits_scale_nonneg ofBits_scale_ne_top]

/-- The sequence and the token of a row. -/
def seqOf (i : Fin 65536) : Fin 32 := ⟨i / 2048, by omega⟩
def tokOf (i : Fin 65536) : Fin 2048 := ⟨i % 2048, by omega⟩

end Layer

namespace Cert.Kernel2Ideal.In

open Cert.Kernel2Ideal Cert.Kernel2Ideal.Gen Layer

section results

variable (x0 : Vec Ideal S32x2048x1024 .f32) (x1 : Vec Ideal S1x1024 .f32) (x2 x3 : Vec Ideal S1x1024x2816 .f32)
  (x4 : Vec Ideal S1x2816x1024 .f32) (x5 : Vec Ideal S1x1024 .f32) (x6 : Vec Ideal S1x1024x3584 .f32) (w : Vec Ideal S1x64 .f32)

/-- A token's half step and its input projection, of the arguments. -/
def stepped (b : Fin 32) (s : Fin 2048) (d : Fin 1024) : EReal :=
  halfStep w1024 (fun k => x1 (ix2 0 k)) (fun k j => x2 (ix3 0 k j)) (fun k j => x3 (ix3 0 k j)) (fun k j => x4 (ix3 0 k j))
    (fun k => x0 (ix3 b s k)) d
def projected (b : Fin 32) (s : Fin 2048) (j : Fin 3584) : EReal :=
  projRow (fun k => x1 (ix2 0 k)) (fun k j => x2 (ix3 0 k j)) (fun k j => x3 (ix3 0 k j)) (fun k j => x4 (ix3 0 k j))
    (fun k => x5 (ix2 0 k)) (fun k j => x6 (ix3 0 k j)) (fun k => x0 (ix3 b s k)) j
/-- Its columns from `o` on. -/
def columns (o : Nat) (ho : o ≤ 3072) (b : Fin 32) (s : Fin 2048) (j : Fin 512) : EReal :=
  projected x0 x1 x2 x3 x4 x5 x6 b s ⟨o + j, by omega⟩

/-- The results: the half step, the plain columns, the turned retention rows, and the normed and turned attention rows. -/
def steppedArray : S65536x1024.Idx → EReal := fun y => stepped x0 x1 x2 x3 x4 (seqOf (y 0)) (tokOf (y 0)) (y 1)
def columnArray (o : Nat) (ho : o ≤ 3072) : S65536x512.Idx → EReal := fun y =>
  columns x0 x1 x2 x3 x4 x5 x6 o ho (seqOf (y 0)) (tokOf (y 0)) (y 1)
def turnedArray (o : Nat) (ho : o ≤ 3072) : S65536x512.Idx → EReal := fun y =>
  turnedRow (columns x0 x1 x2 x3 x4 x5 x6 o ho (seqOf (y 0)) (tokOf (y 0))) (retAngle (tokOf (y 0))) (y 1)
def scaledTurnedArray (o : Nat) (ho : o ≤ 3072) : S65536x512.Idx → EReal := fun y =>
  turnedRow (columns x0 x1 x2 x3 x4 x5 x6 o ho (seqOf (y 0)) (tokOf (y 0))) (retAngle (tokOf (y 0))) (y 1) * Ideal.ofBits FTy.f32 0x3DB504F3#32
def headedArray (o : Nat) (ho : o ≤ 3072) : S65536x512.Idx → EReal := fun y =>
  headedRow (columns x0 x1 x2 x3 x4 x5 x6 o ho (seqOf (y 0)) (tokOf (y 0))) (fun d => w (ix2 0 d)) (attAngle (tokOf (y 0))) (y 1)
def scaledHeadedArray (o : Nat) (ho : o ≤ 3072) : S65536x512.Idx → EReal := fun y =>
  headedRow (columns x0 x1 x2 x3 x4 x5 x6 o ho (seqOf (y 0)) (tokOf (y 0))) (fun d => w (ix2 0 d)) (attAngle (tokOf (y 0))) (y 1)
    * Ideal.ofBits FTy.f32 0x3E38AA3B#32

end results

variable (m : (ℓ : Loc nD τ sig) → Buf (Elt Ideal) ℓ) (c : Dev nD)

/-- The blocks' places: the token windows move a tile down per point, the tables come round every four tiles, the weights stay. -/
theorem idx_facts : ∀ t : Fin cfg0.N,
    (win0_0.index t 0 = t.val ∧ win0_0.index t 1 = 0)
    ∧ (win0_14.index t 0 = t.val ∧ win0_14.index t 1 = 0)
    ∧ (win0_15.index t 0 = t.val ∧ win0_15.index t 1 = 0)
    ∧ (win0_16.index t 0 = t.val ∧ win0_16.index t 1 = 0)
    ∧ (win0_17.index t 0 = t.val ∧ win0_17.index t 1 = 0)
    ∧ (win0_18.index t 0 = t.val ∧ win0_18.index t 1 = 0)
    ∧ (win0_19.index t 0 = t.val ∧ win0_19.index t 1 = 0)
    ∧ (win0_20.index t 0 = t.val ∧ win0_20.index t 1 = 0)
    ∧ (win0_21.index t 0 = t.val ∧ win0_21.index t 1 = 0)
    ∧ (win0_7.index t 0 = t.val % 4 ∧ win0_7.index t 1 = 0)
    ∧ (win0_8.index t 0 = t.val % 4 ∧ win0_8.index t 1 = 0)
    ∧ (win0_9.index t 0 = t.val % 4 ∧ win0_9.index t 1 = 0)
    ∧ (win0_10.index t 0 = t.val % 4 ∧ win0_10.index t 1 = 0)
    ∧ (win0_11.index t 0 = t.val % 4 ∧ win0_11.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_12.index t 0 = 0 ∧ win0_12.index t 1 = 0)
    ∧ (win0_13.index t 0 = 0 ∧ win0_13.index t 1 = 0) := by decide +kernel

theorem lt_tiles (t : Fin cfg0.N) : t.val < 128 := t.isLt

/-- Row `ρ` of tile `t` among all rows. -/
def rowAt (t : Fin cfg0.N) (ρ : Fin 512) : Fin 65536 := ⟨512 * t.val + ρ, by have := lt_tiles t; omega⟩
/-- Row `ρ` of the tables' block at tile `t`. -/
def tabAt (t : Fin cfg0.N) (ρ : Fin 512) : Fin 2048 := ⟨512 * (t.val % 4) + ρ, by omega⟩

theorem tabAt_eq (t : Fin cfg0.N) (ρ : Fin 512) : tabAt t ρ = tokOf (rowAt t ρ) :=
  Fin.ext (by show 512 * (t.val % 4) + ρ.val = (512 * t.val + ρ.val) % 2048; omega)

theorem iblk0 (t : Fin cfg0.N) (ρ : Fin 512) (k : Fin 1024) : iblk m c 0 t (ix2 ρ k) = V m c main_v54 (ix2 (rowAt t ρ) k) := by
  show V m c main_v54 ((win0_0.blk t).view.emb (ix2 ρ k)) = _
  congr 1
  funext a
  apply Fin.ext
  refine (win0_0.rect_emb_val_off t (ix2 ρ k) a).trans ?_
  have h := (idx_facts t).1
  fin_cases a
  · show win0_0.index t 0 * 512 + ρ.val = 512 * t.val + ρ.val
    rw [h.1]; omega
  · show win0_0.index t 1 * 1024 + k.val = k.val
    rw [h.2]; omega

theorem iblk1 (t : Fin cfg0.N) : iblk m c 1 t = V m c main_v56 := by
  funext y
  show V m c main_v56 ((win0_1.blk t).view.emb y) = _
  congr 1
  funext a
  exact Fin.ext (win0_1.rect_emb_val_of_index_zero t a (by have h := (idx_facts t).2.2.2.2.2.2.2.2.2.2.2.2.2.2.1; fin_cases a; exacts [h.1, h.2]) y)

theorem iblk2 (t : Fin cfg0.N) : iblk m c 2 t = V m c main_v58 := by
  funext y
  show V m c main_v58 ((win0_2.blk t).view.emb y) = _
  congr 1
  funext a
  exact Fin.ext (win0_2.rect_emb_val_of_index_zero t a (by have h := (idx_facts t).2.2.2.2.2.2.2.2.2.2.2.2.2.2.2.1; fin_cases a; exacts [h.1, h.2]) y)

theorem iblk3 (t : Fin cfg0.N) : iblk m c 3 t = V m c main_v60 := by
  funext y
  show V m c main_v60 ((win0_3.blk t).view.emb y) = _
  congr 1
  funext a
  exact Fin.ext (win0_3.rect_emb_val_of_index_zero t a (by have h := (idx_facts t).2.2.2.2.2.2.2.2.2.2.2.2.2.2.2.2.1; fin_cases a; exacts [h.1, h.2]) y)

theorem iblk4 (t : Fin cfg0.N) : iblk m c 4 t = V m c main_v62 := by
  funext y
  show V m c main_v62 ((win0_4.blk t).view.emb y) = _
  congr 1
  funext a
  exact Fin.ext (win0_4.rect_emb_val_of_index_zero t a (by have h := (idx_facts t).2.2.2.2.2.2.2.2.2.2.2.2.2.2.2.2.2.1; fin_cases a; exacts [h.1, h.2]) y)

theorem iblk5 (t : Fin cfg0.N) : iblk m c 5 t = V m c main_v64 := by
  funext y
  show V m c main_v64 ((win0_5.blk t).view.emb y) = _
  congr 1
  funext a
  exact Fin.ext (win0_5.rect_emb_val_of_index_zero t a (by have h := (idx_facts t).2.2.2.2.2.2.2.2.2.2.2.2.2.2.2.2.2.2.1; fin_cases a; exacts [h.1, h.2]) y)

theorem iblk6 (t : Fin cfg0.N) : iblk m c 6 t = V m c main_v66 := by
  funext y
  show V m c main_v66 ((win0_6.blk t).view.emb y) = _
  congr 1
  funext a
  exact Fin.ext (win0_6.rect_emb_val_of_index_zero t a (by have h := (idx_facts t).2.2.2.2.2.2.2.2.2.2.2.2.2.2.2.2.2.2.2.1; fin_cases a; exacts [h.1, h.2]) y)

theorem iblk12 (t : Fin cfg0.N) : iblk m c 12 t = V m c main_v73 := by
  funext y
  show V m c main_v73 ((win0_12.blk t).view.emb y) = _
  congr 1
  funext a
  exact Fin.ext (win0_12.rect_emb_val_of_index_zero t a (by have h := (idx_facts t).2.2.2.2.2.2.2.2.2.2.2.2.2.2.2.2.2.2.2.2.1; fin_cases a; exacts [h.1, h.2]) y)

theorem iblk13 (t : Fin cfg0.N) : iblk m c 13 t = V m c main_v78 := by
  funext y
  show V m c main_v78 ((win0_13.blk t).view.emb y) = _
  congr 1
  funext a
  exact Fin.ext (win0_13.rect_emb_val_of_index_zero t a (by have h := (idx_facts t).2.2.2.2.2.2.2.2.2.2.2.2.2.2.2.2.2.2.2.2.2; fin_cases a; exacts [h.1, h.2]) y)

theorem iblk7 (t : Fin cfg0.N) (ρ : Fin 512) (l : Fin 128) : iblk m c 7 t (ix2 ρ l) = V m c main_v16 (ix2 (tabAt t ρ) l) := by
  show V m c main_v16 ((win0_7.blk t).view.emb (ix2 ρ l)) = _
  congr 1
  funext a
  apply Fin.ext
  refine (win0_7.rect_emb_val_off t (ix2 ρ l) a).trans ?_
  have h := (idx_facts t).2.2.2.2.2.2.2.2.2.1
  fin_cases a
  · show win0_7.index t 0 * 512 + ρ.val = 512 * (t.val % 4) + ρ.val
    rw [h.1]; omega
  · show win0_7.index t 1 * 128 + l.val = l.val
    rw [h.2]; omega

theorem iblk8 (t : Fin cfg0.N) (ρ : Fin 512) (l : Fin 128) : iblk m c 8 t (ix2 ρ l) = V m c main_v20 (ix2 (tabAt t ρ) l) := by
  show V m c main_v20 ((win0_8.blk t).view.emb (ix2 ρ l)) = _
  congr 1
  funext a
  apply Fin.ext
  refine (win0_8.rect_emb_val_off t (ix2 ρ l) a).trans ?_
  have h := (idx_facts t).2.2.2.2.2.2.2.2.2.2.1
  fin_cases a
  · show win0_8.index t 0 * 512 + ρ.val = 512 * (t.val % 4) + ρ.val
    rw [h.1]; omega
  · show win0_8.index t 1 * 128 + l.val = l.val
    rw [h.2]; omega

theorem iblk9 (t : Fin cfg0.N) (ρ : Fin 512) (l : Fin 128) : iblk m c 9 t (ix2 ρ l) = V m c main_v47 (ix2 (tabAt t ρ) l) := by
  show V m c main_v47 ((win0_9.blk t).view.emb (ix2 ρ l)) = _
  congr 1
  funext a
  apply Fin.ext
  refine (win0_9.rect_emb_val_off t (ix2 ρ l) a).trans ?_
  have h := (idx_facts t).2.2.2.2.2.2.2.2.2.2.2.1
  fin_cases a
  · show win0_9.index t 0 * 512 + ρ.val = 512 * (t.val % 4) + ρ.val
    rw [h.1]; omega
  · show win0_9.index t 1 * 128 + l.val = l.val
    rw [h.2]; omega

theorem iblk10 (t : Fin cfg0.N) (ρ : Fin 512) (l : Fin 128) : iblk m c 10 t (ix2 ρ l) = V m c main_v50 (ix2 (tabAt t ρ) l) := by
  show V m c main_v50 ((win0_10.blk t).view.emb (ix2 ρ l)) = _
  congr 1
  funext a
  apply Fin.ext
  refine (win0_10.rect_emb_val_off t (ix2 ρ l) a).trans ?_
  have h := (idx_facts t).2.2.2.2.2.2.2.2.2.2.2.2.1
  fin_cases a
  · show win0_10.index t 0 * 512 + ρ.val = 512 * (t.val % 4) + ρ.val
    rw [h.1]; omega
  · show win0_10.index t 1 * 128 + l.val = l.val
    rw [h.2]; omega

theorem iblk11 (t : Fin cfg0.N) (ρ : Fin 512) (l : Fin 128) : iblk m c 11 t (ix2 ρ l) = V m c main_v53 (ix2 (tabAt t ρ) l) := by
  show V m c main_v53 ((win0_11.blk t).view.emb (ix2 ρ l)) = _
  congr 1
  funext a
  apply Fin.ext
  refine (win0_11.rect_emb_val_off t (ix2 ρ l) a).trans ?_
  have h := (idx_facts t).2.2.2.2.2.2.2.2.2.2.2.2.2.1
  fin_cases a
  · show win0_11.index t 0 * 512 + ρ.val = 512 * (t.val % 4) + ρ.val
    rw [h.1]; omega
  · show win0_11.index t 1 * 128 + l.val = l.val
    rw [h.2]; omega

theorem halfStep_congr {g g' : Fin 1024 → EReal} {wg wg' wu wu' : Fin 1024 → Fin 2816 → EReal} {wd wd' : Fin 2816 → Fin 1024 → EReal}
    {x x' : Fin 1024 → EReal} (h1 : g = g') (h2 : wg = wg') (h3 : wu = wu') (h4 : wd = wd') (h5 : x = x') :
    halfStep w1024 g wg wu wd x = halfStep w1024 g' wg' wu' wd' x' := by
  subst h1 h2 h3 h4 h5; rfl

theorem attRow_congr {p p' g g' : Fin 512 → EReal} {c c' hi hi' lo lo' : Fin 128 → EReal} {j j' : Fin 512}
    (h1 : p = p') (h2 : g = g') (h3 : c = c') (h4 : hi = hi') (h5 : lo = lo') (h6 : j = j') :
    attRow p g c hi lo j = attRow p' g' c' hi' lo' j' := by
  subst h1 h2 h3 h4 h5 h6; rfl

/-- A block's rows are the half step and the projection of its tokens. -/
theorem step_rows (t : Fin cfg0.N) (ρ : Fin 512) :
    stepAt (iblk m c 0 t) (iblk m c 1 t) (iblk m c 2 t) (iblk m c 3 t) (iblk m c 4 t) ρ
      = stepped (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (seqOf (rowAt t ρ)) (tokOf (rowAt t ρ)) := by
  have h0 : (fun k => iblk m c 0 t (ix2 ρ k)) = fun k => m ((c.tc : Thread nD τ).loc main_arg0) (ix3 (seqOf (rowAt t ρ)) (tokOf (rowAt t ρ)) k) :=
    funext fun k => (iblk0 m c t ρ k).trans (V_x m c _ k)
  have h1 : (fun k => iblk m c 1 t (ix2 0 k)) = fun k => m ((c.tc : Thread nD τ).loc main_arg1) (ix2 0 k) :=
    funext fun k => (congrFun (iblk1 m c t) _).trans (V_g1 m c k)
  have h2 : (fun k j => iblk m c 2 t (ix2 k j)) = fun k j => m ((c.tc : Thread nD τ).loc main_arg2) (ix3 0 k j) :=
    funext fun k => funext fun j => (congrFun (iblk2 m c t) _).trans (V_wg m c k j)
  have h3 : (fun k j => iblk m c 3 t (ix2 k j)) = fun k j => m ((c.tc : Thread nD τ).loc main_arg3) (ix3 0 k j) :=
    funext fun k => funext fun j => (congrFun (iblk3 m c t) _).trans (V_wu m c k j)
  have h4 : (fun k j => iblk m c 4 t (ix2 k j)) = fun k j => m ((c.tc : Thread nD τ).loc main_arg4) (ix3 0 k j) :=
    funext fun k => funext fun j => (congrFun (iblk4 m c t) _).trans (V_wd m c k j)
  exact halfStep_congr h1 h2 h3 h4 h0

theorem proj_rows (t : Fin cfg0.N) (ρ : Fin 512) :
    projAt (iblk m c 0 t) (iblk m c 1 t) (iblk m c 2 t) (iblk m c 3 t) (iblk m c 4 t) (iblk m c 5 t) (iblk m c 6 t) ρ
      = projected (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (seqOf (rowAt t ρ)) (tokOf (rowAt t ρ)) := by
  have h := step_rows m c t ρ
  have h5 : ∀ k, iblk m c 5 t (ix2 0 k) = m ((c.tc : Thread nD τ).loc main_arg5) (ix2 0 k) :=
    fun k => (congrFun (iblk5 m c t) _).trans (V_g2 m c k)
  have h6 : ∀ k j, iblk m c 6 t (ix2 k j) = m ((c.tc : Thread nD τ).loc main_arg6) (ix3 0 k j) :=
    fun k j => (congrFun (iblk6 m c t) _).trans (V_win m c k j)
  funext j
  show (∑ k, normed w1024 (stepAt (iblk m c 0 t) (iblk m c 1 t) (iblk m c 2 t) (iblk m c 3 t) (iblk m c 4 t) ρ)
      (fun k => iblk m c 5 t (ix2 0 k)) k * iblk m c 6 t (ix2 k j) : EReal) = _
  rw [h, show (fun k => iblk m c 5 t (ix2 0 k)) = fun k => m ((c.tc : Thread nD τ).loc main_arg5) (ix2 0 k) from funext h5]
  exact Finset.sum_congr rfl fun k _ => congrArg (_ * ·) (h6 k j)

theorem seg_rows (o : Nat) (ho : o ≤ 3072) (t : Fin cfg0.N) (ρ : Fin 512) :
    seg (iblk m c 0 t) (iblk m c 1 t) (iblk m c 2 t) (iblk m c 3 t) (iblk m c 4 t) (iblk m c 5 t) (iblk m c 6 t) o ho ρ
      = columns (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) o ho (seqOf (rowAt t ρ)) (tokOf (rowAt t ρ)) :=
  funext fun j => congrFun (proj_rows m c t ρ) ⟨o + j, by omega⟩

theorem cos_rows (t : Fin cfg0.N) (ρ : Fin 512) : (fun l : Fin 128 => iblk m c 7 t (ix2 ρ l)) = cosTile (retAngle (tokOf (rowAt t ρ))) :=
  funext fun l => (iblk7 m c t ρ l).trans ((V_cos m c _ l).trans (by rw [tabAt_eq]))
theorem sin_rows (t : Fin cfg0.N) (ρ : Fin 512) : (fun l : Fin 128 => iblk m c 8 t (ix2 ρ l)) = sinTile (retAngle (tokOf (rowAt t ρ))) :=
  funext fun l => (iblk8 m c t ρ l).trans ((V_sin m c _ l).trans (by rw [tabAt_eq]))
theorem acos_rows (t : Fin cfg0.N) (ρ : Fin 512) : (fun l : Fin 128 => iblk m c 9 t (ix2 ρ l)) = cosPair (attAngle (tokOf (rowAt t ρ))) :=
  funext fun l => (iblk9 m c t ρ l).trans ((V_acos m c _ l).trans (by rw [tabAt_eq]))
theorem down_rows (t : Fin cfg0.N) (ρ : Fin 512) : (fun l : Fin 128 => iblk m c 10 t (ix2 ρ l)) = downPair (attAngle (tokOf (rowAt t ρ))) :=
  funext fun l => (iblk10 m c t ρ l).trans ((V_down m c _ l).trans (by rw [tabAt_eq]))
theorem up_rows (t : Fin cfg0.N) (ρ : Fin 512) : (fun l : Fin 128 => iblk m c 11 t (ix2 ρ l)) = upPair (attAngle (tokOf (rowAt t ρ))) :=
  funext fun l => (iblk11 m c t ρ l).trans ((V_up m c _ l).trans (by rw [tabAt_eq]))

/-- Result 0. -/
def array14 : Buf (Elt Ideal) ((c : Thread nD τ).loc main_v79_0) := steppedArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem emb14' (t : Fin cfg0.N) (y : S512x1024.Idx) : ((win0_14.blk t).view.emb y : S65536x1024.Idx) = ix2 (n0 := 65536) (n1 := 1024) (rowAt t (y 0)) (y 1) := by
  funext a
  apply Fin.ext
  refine (win0_14.rect_emb_val_off t y a).trans ?_
  have h := (idx_facts t).2.1
  fin_cases a
  · show win0_14.index t 0 * 512 + (y 0).val = 512 * t.val + (y 0).val
    rw [h.1]; omega
  · show win0_14.index t 1 * 1024 + (y 1).val = (y 1).val
    rw [h.2]; omega

theorem flushed_eq14 (t : Fin cfg0.N) : (dats m 0 c).flushed 14 t = ((cfg0.win 14).blk t).view.read (Elt Ideal) (array14 m c) := by
  rw [flushed14, block14]
  funext y
  show stepBlock _ _ _ _ _ y = array14 m c ((win0_14.blk t).view.emb y)
  rw [emb14']
  exact congrFun (step_rows m c t (y 0)) (y 1)

theorem covers14 (i : S65536x1024.Idx) : ∃ t : Fin cfg0.N, (cfg0.win 14).flush t = true ∧ i ∈ ((cfg0.win 14).blk t).view.set := by
  have h0 : (i 0).val < 65536 := (i 0).isLt
  obtain ⟨t, ht⟩ : ∃ t : Fin cfg0.N, t.val = (i 0).val / 512 := ⟨⟨(i 0).val / 512, show (i 0).val / 512 < 128 by omega⟩, rfl⟩
  refine ⟨t, (by decide +kernel : ∀ t : Fin cfg0.N, win0_14.flush t = true) t, ?_⟩
  have e : (show S65536x1024.Idx from (win0_14.blk t).view.emb (ix2 (n0 := 512) (n1 := 1024) ⟨(i 0).val % 512, by omega⟩ (i 1) : S512x1024.Idx)) = i := by
    refine (emb14' t _).trans ?_
    funext a
    fin_cases a
    · apply Fin.ext
      show 512 * t.val + (i 0).val % 512 = (i 0).val
      omega
    · rfl
  exact Eq.mp (congrArg (· ∈ ((cfg0.win 14).blk t).view.set) e) (View.emb_mem_set _ _)

theorem result_eq14 : (dats m 0 c).arrAt 14 cfg0.N = array14 m c :=
  (dats m 0 c).arrAt_eq_of_cover 14 (array14 m c) (fun t _ => flushed_eq14 m c t) covers14

/-- Result 1. -/
def array15 : Buf (Elt Ideal) ((c : Thread nD τ).loc main_v79_1) := turnedArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) 0 (by decide)

theorem emb15' (t : Fin cfg0.N) (y : S512x512.Idx) : ((win0_15.blk t).view.emb y : S65536x512.Idx) = ix2 (n0 := 65536) (n1 := 512) (rowAt t (y 0)) (y 1) := by
  funext a
  apply Fin.ext
  refine (win0_15.rect_emb_val_off t y a).trans ?_
  have h := (idx_facts t).2.2.1
  fin_cases a
  · show win0_15.index t 0 * 512 + (y 0).val = 512 * t.val + (y 0).val
    rw [h.1]; omega
  · show win0_15.index t 1 * 512 + (y 1).val = (y 1).val
    rw [h.2]; omega

theorem flushed_eq15 (t : Fin cfg0.N) : (dats m 0 c).flushed 15 t = ((cfg0.win 15).blk t).view.read (Elt Ideal) (array15 m c) := by
  rw [flushed15, block15]
  funext y
  show rqBlock _ _ _ _ _ _ _ _ _ y = array15 m c ((win0_15.blk t).view.emb y)
  rw [emb15']
  unfold rqBlock
  erw [seg_rows m c 0 (by decide) t (y 0), cos_rows m c t (y 0), sin_rows m c t (y 0), retRow_eq]
  rfl

theorem covers15 (i : S65536x512.Idx) : ∃ t : Fin cfg0.N, (cfg0.win 15).flush t = true ∧ i ∈ ((cfg0.win 15).blk t).view.set := by
  have h0 : (i 0).val < 65536 := (i 0).isLt
  obtain ⟨t, ht⟩ : ∃ t : Fin cfg0.N, t.val = (i 0).val / 512 := ⟨⟨(i 0).val / 512, show (i 0).val / 512 < 128 by omega⟩, rfl⟩
  refine ⟨t, (by decide +kernel : ∀ t : Fin cfg0.N, win0_15.flush t = true) t, ?_⟩
  have e : (show S65536x512.Idx from (win0_15.blk t).view.emb (ix2 (n0 := 512) (n1 := 512) ⟨(i 0).val % 512, by omega⟩ (i 1) : S512x512.Idx)) = i := by
    refine (emb15' t _).trans ?_
    funext a
    fin_cases a
    · apply Fin.ext
      show 512 * t.val + (i 0).val % 512 = (i 0).val
      omega
    · rfl
  exact Eq.mp (congrArg (· ∈ ((cfg0.win 15).blk t).view.set) e) (View.emb_mem_set _ _)

theorem result_eq15 : (dats m 0 c).arrAt 15 cfg0.N = array15 m c :=
  (dats m 0 c).arrAt_eq_of_cover 15 (array15 m c) (fun t _ => flushed_eq15 m c t) covers15

/-- Result 2. -/
def array16 : Buf (Elt Ideal) ((c : Thread nD τ).loc main_v79_2) := scaledTurnedArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) 512 (by decide)

theorem emb16' (t : Fin cfg0.N) (y : S512x512.Idx) : ((win0_16.blk t).view.emb y : S65536x512.Idx) = ix2 (n0 := 65536) (n1 := 512) (rowAt t (y 0)) (y 1) := by
  funext a
  apply Fin.ext
  refine (win0_16.rect_emb_val_off t y a).trans ?_
  have h := (idx_facts t).2.2.2.1
  fin_cases a
  · show win0_16.index t 0 * 512 + (y 0).val = 512 * t.val + (y 0).val
    rw [h.1]; omega
  · show win0_16.index t 1 * 512 + (y 1).val = (y 1).val
    rw [h.2]; omega

theorem flushed_eq16 (t : Fin cfg0.N) : (dats m 0 c).flushed 16 t = ((cfg0.win 16).blk t).view.read (Elt Ideal) (array16 m c) := by
  rw [flushed16, block16]
  funext y
  show rkBlock _ _ _ _ _ _ _ _ _ y = array16 m c ((win0_16.blk t).view.emb y)
  rw [emb16']
  unfold rkBlock
  erw [seg_rows m c 512 (by decide) t (y 0), cos_rows m c t (y 0), sin_rows m c t (y 0), retRow_eq]
  rfl

theorem covers16 (i : S65536x512.Idx) : ∃ t : Fin cfg0.N, (cfg0.win 16).flush t = true ∧ i ∈ ((cfg0.win 16).blk t).view.set := by
  have h0 : (i 0).val < 65536 := (i 0).isLt
  obtain ⟨t, ht⟩ : ∃ t : Fin cfg0.N, t.val = (i 0).val / 512 := ⟨⟨(i 0).val / 512, show (i 0).val / 512 < 128 by omega⟩, rfl⟩
  refine ⟨t, (by decide +kernel : ∀ t : Fin cfg0.N, win0_16.flush t = true) t, ?_⟩
  have e : (show S65536x512.Idx from (win0_16.blk t).view.emb (ix2 (n0 := 512) (n1 := 512) ⟨(i 0).val % 512, by omega⟩ (i 1) : S512x512.Idx)) = i := by
    refine (emb16' t _).trans ?_
    funext a
    fin_cases a
    · apply Fin.ext
      show 512 * t.val + (i 0).val % 512 = (i 0).val
      omega
    · rfl
  exact Eq.mp (congrArg (· ∈ ((cfg0.win 16).blk t).view.set) e) (View.emb_mem_set _ _)

theorem result_eq16 : (dats m 0 c).arrAt 16 cfg0.N = array16 m c :=
  (dats m 0 c).arrAt_eq_of_cover 16 (array16 m c) (fun t _ => flushed_eq16 m c t) covers16

/-- Result 3. -/
def array17 : Buf (Elt Ideal) ((c : Thread nD τ).loc main_v79_3) := columnArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) 1024 (by decide)

theorem emb17' (t : Fin cfg0.N) (y : S512x512.Idx) : ((win0_17.blk t).view.emb y : S65536x512.Idx) = ix2 (n0 := 65536) (n1 := 512) (rowAt t (y 0)) (y 1) := by
  funext a
  apply Fin.ext
  refine (win0_17.rect_emb_val_off t y a).trans ?_
  have h := (idx_facts t).2.2.2.2.1
  fin_cases a
  · show win0_17.index t 0 * 512 + (y 0).val = 512 * t.val + (y 0).val
    rw [h.1]; omega
  · show win0_17.index t 1 * 512 + (y 1).val = (y 1).val
    rw [h.2]; omega

theorem flushed_eq17 (t : Fin cfg0.N) : (dats m 0 c).flushed 17 t = ((cfg0.win 17).blk t).view.read (Elt Ideal) (array17 m c) := by
  rw [flushed17, block17]
  funext y
  show projBlock _ _ _ _ _ _ _ _ _ y = array17 m c ((win0_17.blk t).view.emb y)
  rw [emb17']
  exact congrFun (seg_rows m c 1024 (by decide) t (y 0)) (y 1)

theorem covers17 (i : S65536x512.Idx) : ∃ t : Fin cfg0.N, (cfg0.win 17).flush t = true ∧ i ∈ ((cfg0.win 17).blk t).view.set := by
  have h0 : (i 0).val < 65536 := (i 0).isLt
  obtain ⟨t, ht⟩ : ∃ t : Fin cfg0.N, t.val = (i 0).val / 512 := ⟨⟨(i 0).val / 512, show (i 0).val / 512 < 128 by omega⟩, rfl⟩
  refine ⟨t, (by decide +kernel : ∀ t : Fin cfg0.N, win0_17.flush t = true) t, ?_⟩
  have e : (show S65536x512.Idx from (win0_17.blk t).view.emb (ix2 (n0 := 512) (n1 := 512) ⟨(i 0).val % 512, by omega⟩ (i 1) : S512x512.Idx)) = i := by
    refine (emb17' t _).trans ?_
    funext a
    fin_cases a
    · apply Fin.ext
      show 512 * t.val + (i 0).val % 512 = (i 0).val
      omega
    · rfl
  exact Eq.mp (congrArg (· ∈ ((cfg0.win 17).blk t).view.set) e) (View.emb_mem_set _ _)

theorem result_eq17 : (dats m 0 c).arrAt 17 cfg0.N = array17 m c :=
  (dats m 0 c).arrAt_eq_of_cover 17 (array17 m c) (fun t _ => flushed_eq17 m c t) covers17

/-- Result 4. -/
def array18 : Buf (Elt Ideal) ((c : Thread nD τ).loc main_v79_4) := columnArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) 1536 (by decide)

theorem emb18' (t : Fin cfg0.N) (y : S512x512.Idx) : ((win0_18.blk t).view.emb y : S65536x512.Idx) = ix2 (n0 := 65536) (n1 := 512) (rowAt t (y 0)) (y 1) := by
  funext a
  apply Fin.ext
  refine (win0_18.rect_emb_val_off t y a).trans ?_
  have h := (idx_facts t).2.2.2.2.2.1
  fin_cases a
  · show win0_18.index t 0 * 512 + (y 0).val = 512 * t.val + (y 0).val
    rw [h.1]; omega
  · show win0_18.index t 1 * 512 + (y 1).val = (y 1).val
    rw [h.2]; omega

theorem flushed_eq18 (t : Fin cfg0.N) : (dats m 0 c).flushed 18 t = ((cfg0.win 18).blk t).view.read (Elt Ideal) (array18 m c) := by
  rw [flushed18, block18]
  funext y
  show projBlock _ _ _ _ _ _ _ _ _ y = array18 m c ((win0_18.blk t).view.emb y)
  rw [emb18']
  exact congrFun (seg_rows m c 1536 (by decide) t (y 0)) (y 1)

theorem covers18 (i : S65536x512.Idx) : ∃ t : Fin cfg0.N, (cfg0.win 18).flush t = true ∧ i ∈ ((cfg0.win 18).blk t).view.set := by
  have h0 : (i 0).val < 65536 := (i 0).isLt
  obtain ⟨t, ht⟩ : ∃ t : Fin cfg0.N, t.val = (i 0).val / 512 := ⟨⟨(i 0).val / 512, show (i 0).val / 512 < 128 by omega⟩, rfl⟩
  refine ⟨t, (by decide +kernel : ∀ t : Fin cfg0.N, win0_18.flush t = true) t, ?_⟩
  have e : (show S65536x512.Idx from (win0_18.blk t).view.emb (ix2 (n0 := 512) (n1 := 512) ⟨(i 0).val % 512, by omega⟩ (i 1) : S512x512.Idx)) = i := by
    refine (emb18' t _).trans ?_
    funext a
    fin_cases a
    · apply Fin.ext
      show 512 * t.val + (i 0).val % 512 = (i 0).val
      omega
    · rfl
  exact Eq.mp (congrArg (· ∈ ((cfg0.win 18).blk t).view.set) e) (View.emb_mem_set _ _)

theorem result_eq18 : (dats m 0 c).arrAt 18 cfg0.N = array18 m c :=
  (dats m 0 c).arrAt_eq_of_cover 18 (array18 m c) (fun t _ => flushed_eq18 m c t) covers18

/-- Result 5. -/
def array19 : Buf (Elt Ideal) ((c : Thread nD τ).loc main_v79_5) := scaledHeadedArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) 2048 (by decide)

theorem emb19' (t : Fin cfg0.N) (y : S512x512.Idx) : ((win0_19.blk t).view.emb y : S65536x512.Idx) = ix2 (n0 := 65536) (n1 := 512) (rowAt t (y 0)) (y 1) := by
  funext a
  apply Fin.ext
  refine (win0_19.rect_emb_val_off t y a).trans ?_
  have h := (idx_facts t).2.2.2.2.2.2.1
  fin_cases a
  · show win0_19.index t 0 * 512 + (y 0).val = 512 * t.val + (y 0).val
    rw [h.1]; omega
  · show win0_19.index t 1 * 512 + (y 1).val = (y 1).val
    rw [h.2]; omega

theorem flushed_eq19 (t : Fin cfg0.N) : (dats m 0 c).flushed 19 t = ((cfg0.win 19).blk t).view.read (Elt Ideal) (array19 m c) := by
  rw [flushed19, block19]
  funext y
  show attBlock _ _ _ _ _ _ _ _ _ _ _ _ _ y = array19 m c ((win0_19.blk t).view.emb y)
  rw [emb19']
  have hg : (fun j : Fin 512 => iblk m c 12 t (ix2 0 j)) = fun j : Fin 512 => (show EReal from m ((c.tc : Thread nD τ).loc main_arg7) (ix2 0 ⟨j % 64, Nat.mod_lt _ (by decide)⟩)) * Ideal.ofBits FTy.f32 0x3E38AA3B#32 :=
    funext fun j => (congrFun (iblk12 m c t) _).trans (V_qgain m c j)
  exact (attRow_congr (seg_rows m c 2048 (by decide) t (y 0)) hg (acos_rows m c t (y 0)) (up_rows m c t (y 0)) (down_rows m c t (y 0)) rfl).trans
    (attRow_scaled _ (fun d => m ((c.tc : Thread nD τ).loc main_arg7) (ix2 0 d)) _ (y 1))

theorem covers19 (i : S65536x512.Idx) : ∃ t : Fin cfg0.N, (cfg0.win 19).flush t = true ∧ i ∈ ((cfg0.win 19).blk t).view.set := by
  have h0 : (i 0).val < 65536 := (i 0).isLt
  obtain ⟨t, ht⟩ : ∃ t : Fin cfg0.N, t.val = (i 0).val / 512 := ⟨⟨(i 0).val / 512, show (i 0).val / 512 < 128 by omega⟩, rfl⟩
  refine ⟨t, (by decide +kernel : ∀ t : Fin cfg0.N, win0_19.flush t = true) t, ?_⟩
  have e : (show S65536x512.Idx from (win0_19.blk t).view.emb (ix2 (n0 := 512) (n1 := 512) ⟨(i 0).val % 512, by omega⟩ (i 1) : S512x512.Idx)) = i := by
    refine (emb19' t _).trans ?_
    funext a
    fin_cases a
    · apply Fin.ext
      show 512 * t.val + (i 0).val % 512 = (i 0).val
      omega
    · rfl
  exact Eq.mp (congrArg (· ∈ ((cfg0.win 19).blk t).view.set) e) (View.emb_mem_set _ _)

theorem result_eq19 : (dats m 0 c).arrAt 19 cfg0.N = array19 m c :=
  (dats m 0 c).arrAt_eq_of_cover 19 (array19 m c) (fun t _ => flushed_eq19 m c t) covers19

/-- Result 6. -/
def array20 : Buf (Elt Ideal) ((c : Thread nD τ).loc main_v79_6) := headedArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) 2560 (by decide)

theorem emb20' (t : Fin cfg0.N) (y : S512x512.Idx) : ((win0_20.blk t).view.emb y : S65536x512.Idx) = ix2 (n0 := 65536) (n1 := 512) (rowAt t (y 0)) (y 1) := by
  funext a
  apply Fin.ext
  refine (win0_20.rect_emb_val_off t y a).trans ?_
  have h := (idx_facts t).2.2.2.2.2.2.2.1
  fin_cases a
  · show win0_20.index t 0 * 512 + (y 0).val = 512 * t.val + (y 0).val
    rw [h.1]; omega
  · show win0_20.index t 1 * 512 + (y 1).val = (y 1).val
    rw [h.2]; omega

theorem flushed_eq20 (t : Fin cfg0.N) : (dats m 0 c).flushed 20 t = ((cfg0.win 20).blk t).view.read (Elt Ideal) (array20 m c) := by
  rw [flushed20, block20]
  funext y
  show attBlock _ _ _ _ _ _ _ _ _ _ _ _ _ y = array20 m c ((win0_20.blk t).view.emb y)
  rw [emb20']
  have hg : (fun j : Fin 512 => iblk m c 13 t (ix2 0 j)) = fun j : Fin 512 => m ((c.tc : Thread nD τ).loc main_arg8) (ix2 0 ⟨j % 64, Nat.mod_lt _ (by decide)⟩) :=
    funext fun j => (congrFun (iblk13 m c t) _).trans (V_kgain m c j)
  exact (attRow_congr (seg_rows m c 2560 (by decide) t (y 0)) hg (acos_rows m c t (y 0)) (up_rows m c t (y 0)) (down_rows m c t (y 0)) rfl).trans
    (attRow_eq _ (fun d => m ((c.tc : Thread nD τ).loc main_arg8) (ix2 0 d)) _ (y 1))

theorem covers20 (i : S65536x512.Idx) : ∃ t : Fin cfg0.N, (cfg0.win 20).flush t = true ∧ i ∈ ((cfg0.win 20).blk t).view.set := by
  have h0 : (i 0).val < 65536 := (i 0).isLt
  obtain ⟨t, ht⟩ : ∃ t : Fin cfg0.N, t.val = (i 0).val / 512 := ⟨⟨(i 0).val / 512, show (i 0).val / 512 < 128 by omega⟩, rfl⟩
  refine ⟨t, (by decide +kernel : ∀ t : Fin cfg0.N, win0_20.flush t = true) t, ?_⟩
  have e : (show S65536x512.Idx from (win0_20.blk t).view.emb (ix2 (n0 := 512) (n1 := 512) ⟨(i 0).val % 512, by omega⟩ (i 1) : S512x512.Idx)) = i := by
    refine (emb20' t _).trans ?_
    funext a
    fin_cases a
    · apply Fin.ext
      show 512 * t.val + (i 0).val % 512 = (i 0).val
      omega
    · rfl
  exact Eq.mp (congrArg (· ∈ ((cfg0.win 20).blk t).view.set) e) (View.emb_mem_set _ _)

theorem result_eq20 : (dats m 0 c).arrAt 20 cfg0.N = array20 m c :=
  (dats m 0 c).arrAt_eq_of_cover 20 (array20 m c) (fun t _ => flushed_eq20 m c t) covers20

/-- Result 7. -/
def array21 : Buf (Elt Ideal) ((c : Thread nD τ).loc main_v79_7) := columnArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) 3072 (by decide)

theorem emb21' (t : Fin cfg0.N) (y : S512x512.Idx) : ((win0_21.blk t).view.emb y : S65536x512.Idx) = ix2 (n0 := 65536) (n1 := 512) (rowAt t (y 0)) (y 1) := by
  funext a
  apply Fin.ext
  refine (win0_21.rect_emb_val_off t y a).trans ?_
  have h := (idx_facts t).2.2.2.2.2.2.2.2.1
  fin_cases a
  · show win0_21.index t 0 * 512 + (y 0).val = 512 * t.val + (y 0).val
    rw [h.1]; omega
  · show win0_21.index t 1 * 512 + (y 1).val = (y 1).val
    rw [h.2]; omega

theorem flushed_eq21 (t : Fin cfg0.N) : (dats m 0 c).flushed 21 t = ((cfg0.win 21).blk t).view.read (Elt Ideal) (array21 m c) := by
  rw [flushed21, block21]
  funext y
  show projBlock _ _ _ _ _ _ _ _ _ y = array21 m c ((win0_21.blk t).view.emb y)
  rw [emb21']
  exact congrFun (seg_rows m c 3072 (by decide) t (y 0)) (y 1)

theorem covers21 (i : S65536x512.Idx) : ∃ t : Fin cfg0.N, (cfg0.win 21).flush t = true ∧ i ∈ ((cfg0.win 21).blk t).view.set := by
  have h0 : (i 0).val < 65536 := (i 0).isLt
  obtain ⟨t, ht⟩ : ∃ t : Fin cfg0.N, t.val = (i 0).val / 512 := ⟨⟨(i 0).val / 512, show (i 0).val / 512 < 128 by omega⟩, rfl⟩
  refine ⟨t, (by decide +kernel : ∀ t : Fin cfg0.N, win0_21.flush t = true) t, ?_⟩
  have e : (show S65536x512.Idx from (win0_21.blk t).view.emb (ix2 (n0 := 512) (n1 := 512) ⟨(i 0).val % 512, by omega⟩ (i 1) : S512x512.Idx)) = i := by
    refine (emb21' t _).trans ?_
    funext a
    fin_cases a
    · apply Fin.ext
      show 512 * t.val + (i 0).val % 512 = (i 0).val
      omega
    · rfl
  exact Eq.mp (congrArg (· ∈ ((cfg0.win 21).blk t).view.set) e) (View.emb_mem_set _ _)

theorem result_eq21 : (dats m 0 c).arrAt 21 cfg0.N = array21 m c :=
  (dats m 0 c).arrAt_eq_of_cover 21 (array21 m c) (fun t _ => flushed_eq21 m c t) covers21

end Cert.Kernel2Ideal.In

end
-- ==== Proof.InReference.lean ====
/- The reference of the layer's first call, read row by row: every result is the array the kernel's run ends with. -/
module

public import proofs.«01_k».proof.Proof.Gen.Reference2Ideal.Read
public import proofs.«01_k».proof.Proof.InArray

@[expose] public section

noncomputable section

open Idealize.ShloMosaic Idealize.ShloMosaic.TcCoe Idealize.SL.Sem

namespace Cert.Reference2Ideal.In

open Cert.Reference2Ideal Cert.Reference2Ideal.Read Layer
open Cert.Kernel2Ideal.In (stepped projected columns steppedArray columnArray turnedArray scaledTurnedArray headedArray scaledHeadedArray)

variable (x0 : Vec Ideal S32x2048x1024 .f32) (x1 : Vec Ideal S1x1024 .f32) (x2 x3 : Vec Ideal S1x1024x2816 .f32)
  (x4 : Vec Ideal S1x2816x1024 .f32) (x5 : Vec Ideal S1x1024 .f32) (x6 : Vec Ideal S1x1024x3584 .f32) (x7 x8 : Vec Ideal S1x64 .f32)

theorem first_normed (b : Fin 32) (s : Fin 2048) (d : Fin 1024) :
    val_main_v13 (F := Ideal) x0 x1 (ix3 b s d) = normed w1024 (fun k => x0 (ix3 b s k)) (fun k => x1 (ix2 0 k)) d := by
  unfold val_main_v13 val_main_v10 val_main_v9 val_main_v8 val_main_v7 val_main_v5 val_main_v3 val_main_v2 val_main_v1
  pointwise [val_main_v12, val_main_v11, val_main_v6, val_main_v4, val_main_v0, val_main_cst, val_main_cst_0, val_main_cst_1]
  rfl

theorem hidden_apply (b : Fin 32) (s : Fin 2048) (j : Fin 2816) :
    val_main_v20 (F := Ideal) x0 x1 x2 x3 (ix3 b s j)
      = hidden (fun k j => x2 (ix3 0 k j)) (fun k j => x3 (ix3 0 k j)) (fun k => val_main_v13 (F := Ideal) x0 x1 (ix3 b s k)) j := by
  unfold val_main_v20 val_main_v19 val_main_v18 val_main_call0_v5 val_main_call0_v3 val_main_call0_v1 val_main_call0_v0 val_main_v17
  generalize val_main_v13 (F := Ideal) x0 x1 = y
  pointwise [val_main_v14, val_main_v15, val_main_call0_v4, val_main_call0_v2, val_main_call0_cst, val_main_call0_cst_0]
  unfold Layer.hidden Ideal.logistic
  rfl

theorem stepped_apply (b : Fin 32) (s : Fin 2048) (d : Fin 1024) :
    val_main_v24 (F := Ideal) x0 x1 x2 x3 x4 (ix3 b s d) = stepped x0 x1 x2 x3 x4 b s d := by
  have h : val_main_v24 (F := Ideal) x0 x1 x2 x3 x4 (ix3 b s d)
      = x0 (ix3 b s d) + Ideal.ofBits FTy.f32 1056964608#32 * ∑ j, val_main_v20 (F := Ideal) x0 x1 x2 x3 (ix3 b s j) * x4 (ix3 0 j d) := by
    unfold val_main_v24 val_main_v23 val_main_v21
    generalize val_main_v20 (F := Ideal) x0 x1 x2 x3 = y
    pointwise [val_main_v22, val_main_v16, val_main_cst_2]
  rw [h]
  simp only [hidden_apply, first_normed]
  rfl

theorem second_normed (b : Fin 32) (s : Fin 2048) (d : Fin 1024) :
    val_main_v38 (F := Ideal) x0 x1 x2 x3 x4 x5 (ix3 b s d)
      = normed w1024 (fun k => val_main_v24 (F := Ideal) x0 x1 x2 x3 x4 (ix3 b s k)) (fun k => x5 (ix2 0 k)) d := by
  unfold val_main_v38 val_main_v35 val_main_v34 val_main_v33 val_main_v32 val_main_v30 val_main_v28 val_main_v27 val_main_v26
  generalize val_main_v24 (F := Ideal) x0 x1 x2 x3 x4 = y
  pointwise [val_main_v37, val_main_v36, val_main_v31, val_main_v29, val_main_v25, val_main_cst_3, val_main_cst_4, val_main_cst_5]
  rfl

theorem projected_apply (b : Fin 32) (s : Fin 2048) (j : Fin 3584) :
    val_main_v40 (F := Ideal) x0 x1 x2 x3 x4 x5 x6 (ix3 b s j) = projected x0 x1 x2 x3 x4 x5 x6 b s j := by
  have h : val_main_v40 (F := Ideal) x0 x1 x2 x3 x4 x5 x6 (ix3 b s j)
      = ∑ k, val_main_v38 (F := Ideal) x0 x1 x2 x3 x4 x5 (ix3 b s k) * x6 (ix3 0 k j) := by
    unfold val_main_v40
    generalize val_main_v38 (F := Ideal) x0 x1 x2 x3 x4 x5 = y
    pointwise [val_main_v39]
  rw [h]
  simp only [second_normed, stepped_apply]
  rfl

theorem result0 (i : Fin 65536) (d : Fin 1024) :
    val_main_v212 (F := Ideal) x0 x1 x2 x3 x4 (ix2 i d) = steppedArray x0 x1 x2 x3 x4 (ix2 i d) := by
  unfold val_main_v212
  refine (merge_apply (by norm_num) (by norm_num) _ _ i d).trans ?_
  exact stepped_apply x0 x1 x2 x3 x4 _ _ d

theorem result3 (i : Fin 65536) (j : Fin 512) :
    val_main_v218 (F := Ideal) x0 x1 x2 x3 x4 x5 x6 (ix2 i j) = columnArray x0 x1 x2 x3 x4 x5 x6 1024 (by decide) (ix2 i j) := by
  unfold val_main_v218 val_main_v217 val_main_v45
  refine Eq.trans ?_ (projected_apply x0 x1 x2 x3 x4 x5 x6 (seqOf i) (tokOf i) ⟨1024 + j, by omega⟩)
  generalize val_main_v40 (F := Ideal) x0 x1 x2 x3 x4 x5 x6 = y
  pointwise
  rfl

theorem result4 (i : Fin 65536) (j : Fin 512) :
    val_main_v219 (F := Ideal) x0 x1 x2 x3 x4 x5 x6 (ix2 i j) = columnArray x0 x1 x2 x3 x4 x5 x6 1536 (by decide) (ix2 i j) := by
  unfold val_main_v219 val_main_v46
  refine Eq.trans ?_ (projected_apply x0 x1 x2 x3 x4 x5 x6 (seqOf i) (tokOf i) ⟨1536 + j, by omega⟩)
  generalize val_main_v40 (F := Ideal) x0 x1 x2 x3 x4 x5 x6 = y
  pointwise
  rfl

theorem result7 (i : Fin 65536) (j : Fin 512) :
    val_main_v225 (F := Ideal) x0 x1 x2 x3 x4 x5 x6 (ix2 i j) = columnArray x0 x1 x2 x3 x4 x5 x6 3072 (by decide) (ix2 i j) := by
  unfold val_main_v225 val_main_v224 val_main_v51
  refine Eq.trans ?_ (projected_apply x0 x1 x2 x3 x4 x5 x6 (seqOf i) (tokOf i) ⟨3072 + j, by omega⟩)
  generalize val_main_v40 (F := Ideal) x0 x1 x2 x3 x4 x5 x6 = y
  pointwise
  rfl

theorem queryAngle (s : Fin 2048) (k : Fin 64) : val_main_v65 (F := Ideal) (ix2 s k) = retAngle s k := by
  unfold val_main_v65 val_main_v64 val_main_v63 val_main_v62 val_main_v61 val_main_v60 val_main_v59 val_main_v58 val_main_v57 val_main_v56 val_main_v55 val_main_v54 val_main_v53 val_main_v52 retAngle angle
  pointwise [val_main_cst_6, val_main_cst_7, val_main_cst_8]

theorem keyAngle (s : Fin 2048) (k : Fin 64) : val_main_v97 (F := Ideal) (ix2 s k) = retAngle s k := by
  unfold val_main_v97 val_main_v96 val_main_v95 val_main_v94 val_main_v93 val_main_v92 val_main_v91 val_main_v90 val_main_v89 val_main_v88 val_main_v87 val_main_v86 val_main_v85 val_main_v84 retAngle angle
  pointwise [val_main_cst_9, val_main_cst_10, val_main_cst_11]

theorem headQueryAngle (s : Fin 2048) (k : Fin 8) : val_main_v145 (F := Ideal) (ix2 s k) = attAngle s k := by
  unfold val_main_v145 val_main_v144 val_main_v143 val_main_v142 val_main_v141 val_main_v140 val_main_v139 val_main_v138 val_main_v137 val_main_v136 val_main_v135 val_main_v134 val_main_v133 val_main_v132 attAngle angle
  pointwise [val_main_cst_16, val_main_cst_17, val_main_cst_18]

theorem headKeyAngle (s : Fin 2048) (k : Fin 8) : val_main_v193 (F := Ideal) (ix2 s k) = attAngle s k := by
  unfold val_main_v193 val_main_v192 val_main_v191 val_main_v190 val_main_v189 val_main_v188 val_main_v187 val_main_v186 val_main_v185 val_main_v184 val_main_v183 val_main_v182 val_main_v181 val_main_v180 attAngle angle
  pointwise [val_main_cst_23, val_main_cst_24, val_main_cst_25]

/-- The row a reshape into heads and back reads is the plain turned row. -/
theorem turnedRow_of (p : Fin 512 → EReal) (a : Fin 64 → EReal) (j : Fin 512) (z : EReal) :
    (if h : j.val % 128 < 64 then p j * Ideal.cos (a ⟨j % 128, h⟩) - p ⟨j / 128 * 128 + (64 + j % 128), by omega⟩ * Ideal.sin (a ⟨j % 128, h⟩)
      else if h' : j.val % 128 - 64 < 64 then p ⟨j / 128 * 128 + (64 + (j % 128 - 64)), by omega⟩ * Ideal.cos (a ⟨j % 128 - 64, h'⟩)
        + p ⟨j / 128 * 128 + (j % 128 - 64), by omega⟩ * Ideal.sin (a ⟨j % 128 - 64, h'⟩) else z) = turnedRow p a j := by
  unfold turnedRow turnedHead tile tileOf laneOf
  have e : ∀ (k : Nat) (hk : k < 512) (k' : Nat) (hk' : k' < 512), k = k' → p ⟨k, hk⟩ = p ⟨k', hk'⟩ := fun _ _ _ _ h => congrArg p (Fin.ext h)
  by_cases h : j.val % 128 < 64
  · rw [dif_pos h, dif_pos h]
    exact congrArg₂ (· - ·) (congrArg (· * _) (e _ j.isLt _ _ (by dsimp only; omega))) (congrArg (· * _) (e _ _ _ _ (by dsimp only; omega)))
  · rw [dif_neg h, dif_neg h, dif_pos (by omega)]
    exact congrArg₂ (· + ·) (congrArg (· * _) (e _ _ _ _ (by dsimp only; omega))) (congrArg (· * _) (e _ _ _ _ (by dsimp only; omega)))

theorem read1 (i : Fin 65536) (j : Fin 512) :
    val_main_v214 (F := Ideal) x0 x1 x2 x3 x4 x5 x6 (ix2 i j)
      = turnedRow (fun j : Fin 512 => val_main_v40 (F := Ideal) x0 x1 x2 x3 x4 x5 x6 (ix3 ⟨i / 2048, by omega⟩ ⟨i % 2048, by omega⟩ ⟨j, by omega⟩))
          (fun k : Fin 64 => val_main_v65 (F := Ideal) (ix2 ⟨i % 2048, by omega⟩ k)) j := by
  unfold val_main_v214 val_main_v213 val_main_v83 val_main_v82 val_main_v81 val_main_v80 val_main_v79 val_main_v78 val_main_v77 val_main_v76 val_main_v75 val_main_v74 val_main_v73 val_main_v72 val_main_v71 val_main_v70 val_main_v42 val_main_v41 val_main_v69 val_main_v67 val_main_v66 val_main_v68
  generalize val_main_v40 (F := Ideal) x0 x1 x2 x3 x4 x5 x6 = y
  generalize val_main_v65 (F := Ideal) = a
  rw [← turnedRow_of _ _ j (y (ix3 ⟨i / 2048, by omega⟩ ⟨i % 2048, by omega⟩ ⟨j, by omega⟩))]
  pointwise
  try rfl

theorem result1 (i : Fin 65536) (j : Fin 512) :
    val_main_v214 (F := Ideal) x0 x1 x2 x3 x4 x5 x6 (ix2 i j) = turnedArray x0 x1 x2 x3 x4 x5 x6 0 (by decide) (ix2 i j) := by
  have hp : (fun j : Fin 512 => val_main_v40 (F := Ideal) x0 x1 x2 x3 x4 x5 x6 (ix3 ⟨i / 2048, by omega⟩ ⟨i % 2048, by omega⟩ ⟨j, by omega⟩))
      = columns x0 x1 x2 x3 x4 x5 x6 0 (by decide) (seqOf i) (tokOf i) := funext fun j => (projected_apply x0 x1 x2 x3 x4 x5 x6 _ _ _).trans
    (congrArg (projected x0 x1 x2 x3 x4 x5 x6 (seqOf i) (tokOf i)) (Fin.ext (Nat.zero_add _).symm))
  have ha : (fun k : Fin 64 => val_main_v65 (F := Ideal) (ix2 ⟨i % 2048, by omega⟩ k)) = retAngle (tokOf i) := funext fun k => queryAngle (tokOf i) k
  rw [read1, hp, ha]
  rfl

theorem read2 (i : Fin 65536) (j : Fin 512) :
    val_main_v216 (F := Ideal) x0 x1 x2 x3 x4 x5 x6 (ix2 i j)
      = turnedRow (fun j : Fin 512 => val_main_v40 (F := Ideal) x0 x1 x2 x3 x4 x5 x6 (ix3 ⟨i / 2048, by omega⟩ ⟨i % 2048, by omega⟩ ⟨512 + j, by omega⟩))
          (fun k : Fin 64 => val_main_v97 (F := Ideal) (ix2 ⟨i % 2048, by omega⟩ k)) j * Ideal.ofBits FTy.f32 0x3DB504F3#32 := by
  unfold val_main_v216 val_main_v215 val_main_v117 val_main_v115 val_main_v114 val_main_v113 val_main_v112 val_main_v111 val_main_v110 val_main_v109 val_main_v108 val_main_v107 val_main_v106 val_main_v105 val_main_v104 val_main_v103 val_main_v102 val_main_v44 val_main_v43 val_main_v101 val_main_v99 val_main_v98 val_main_v100
  generalize val_main_v40 (F := Ideal) x0 x1 x2 x3 x4 x5 x6 = y
  generalize val_main_v97 (F := Ideal) = a
  rw [← turnedRow_of _ _ j (y (ix3 ⟨i / 2048, by omega⟩ ⟨i % 2048, by omega⟩ ⟨512 + j, by omega⟩))]
  pointwise [val_main_v116, val_main_cst_12]
  try rfl

theorem result2 (i : Fin 65536) (j : Fin 512) :
    val_main_v216 (F := Ideal) x0 x1 x2 x3 x4 x5 x6 (ix2 i j) = scaledTurnedArray x0 x1 x2 x3 x4 x5 x6 512 (by decide) (ix2 i j) := by
  have hp : (fun j : Fin 512 => val_main_v40 (F := Ideal) x0 x1 x2 x3 x4 x5 x6 (ix3 ⟨i / 2048, by omega⟩ ⟨i % 2048, by omega⟩ ⟨512 + j, by omega⟩))
      = columns x0 x1 x2 x3 x4 x5 x6 512 (by decide) (seqOf i) (tokOf i) := funext fun j => (projected_apply x0 x1 x2 x3 x4 x5 x6 _ _ _).trans
    (congrArg (projected x0 x1 x2 x3 x4 x5 x6 (seqOf i) (tokOf i)) (Fin.ext rfl))
  have ha : (fun k : Fin 64 => val_main_v97 (F := Ideal) (ix2 ⟨i % 2048, by omega⟩ k)) = retAngle (tokOf i) := funext fun k => keyAngle (tokOf i) k
  rw [read2, hp, ha]
  rfl

theorem normedQuery (b : Fin 32) (s : Fin 2048) (h : Fin 8) :
    (fun d : Fin 64 => val_main_v131 (F := Ideal) x0 x1 x2 x3 x4 x5 x6 x7 (ix4 b s h d))
      = headNormed (fun d => columns x0 x1 x2 x3 x4 x5 x6 2048 (by decide) b s ⟨h * 64 + d, by omega⟩) (fun d => x7 (ix2 0 d)) := by
  have hp : (fun d : Fin 64 => val_main_v40 (F := Ideal) x0 x1 x2 x3 x4 x5 x6 (ix3 b s ⟨2048 + (h * 64 + d), by omega⟩))
      = fun d : Fin 64 => columns x0 x1 x2 x3 x4 x5 x6 2048 (by decide) b s ⟨h * 64 + d, by omega⟩ := funext fun d => projected_apply x0 x1 x2 x3 x4 x5 x6 _ _ _
  rw [← hp]
  funext d
  unfold val_main_v131 val_main_v130 val_main_v129 val_main_v128 val_main_v127 val_main_v126 val_main_v125 val_main_v124 val_main_v123 val_main_v122 val_main_v121 val_main_v120 val_main_v119 val_main_v118 val_main_v48 val_main_v47
  generalize val_main_v40 (F := Ideal) x0 x1 x2 x3 x4 x5 x6 = y
  pointwise [val_main_cst_13, val_main_cst_14, val_main_cst_15]
  rfl

theorem normedKey (b : Fin 32) (s : Fin 2048) (h : Fin 8) :
    (fun d : Fin 64 => val_main_v179 (F := Ideal) x0 x1 x2 x3 x4 x5 x6 x8 (ix4 b s h d))
      = headNormed (fun d => columns x0 x1 x2 x3 x4 x5 x6 2560 (by decide) b s ⟨h * 64 + d, by omega⟩) (fun d => x8 (ix2 0 d)) := by
  have hp : (fun d : Fin 64 => val_main_v40 (F := Ideal) x0 x1 x2 x3 x4 x5 x6 (ix3 b s ⟨2560 + (h * 64 + d), by omega⟩))
      = fun d : Fin 64 => columns x0 x1 x2 x3 x4 x5 x6 2560 (by decide) b s ⟨h * 64 + d, by omega⟩ := funext fun d => projected_apply x0 x1 x2 x3 x4 x5 x6 _ _ _
  rw [← hp]
  funext d
  unfold val_main_v179 val_main_v178 val_main_v177 val_main_v176 val_main_v175 val_main_v174 val_main_v173 val_main_v172 val_main_v171 val_main_v170 val_main_v169 val_main_v168 val_main_v167 val_main_v166 val_main_v50 val_main_v49
  generalize val_main_v40 (F := Ideal) x0 x1 x2 x3 x4 x5 x6 = y
  pointwise [val_main_cst_20, val_main_cst_21, val_main_cst_22]
  rfl

/-- The row a reshape into heads and back reads is the plain turned head. -/
theorem headTurned_of (x : Fin 64 → EReal) (a : Fin 8 → EReal) (d : Fin 64) :
    (if h : d.val < 8 then x d * Ideal.cos (a ⟨d, h⟩) - x ⟨8 + d, by omega⟩ * Ideal.sin (a ⟨d, h⟩)
      else if h' : d.val - 8 < 8 then x ⟨8 + (d - 8), by omega⟩ * Ideal.cos (a ⟨d - 8, h'⟩) + x ⟨d - 8, by omega⟩ * Ideal.sin (a ⟨d - 8, h'⟩)
      else x ⟨16 + (d - 8 - 8), by omega⟩) = headTurned x a d := by
  unfold headTurned
  have e : ∀ (k : Nat) (hk : k < 64) (k' : Nat) (hk' : k' < 64), k = k' → x ⟨k, hk⟩ = x ⟨k', hk'⟩ := fun _ _ _ _ h => congrArg x (Fin.ext h)
  by_cases h : d.val < 8
  · rw [dif_pos h, dif_pos h]
  · by_cases h' : d.val < 16
    · rw [dif_neg h, dif_pos (by omega), dif_neg h, dif_pos h']
      exact congrArg (· + _) (congrArg (· * _) (e _ _ _ d.isLt (by omega)))
    · rw [dif_neg h, dif_neg (by omega), dif_neg h, dif_neg h']
      exact e _ _ _ d.isLt (by omega)

theorem read5 (i : Fin 65536) (j : Fin 512) :
    val_main_v221 (F := Ideal) x0 x1 x2 x3 x4 x5 x6 x7 (ix2 i j)
      = headTurned (fun d : Fin 64 => val_main_v131 (F := Ideal) x0 x1 x2 x3 x4 x5 x6 x7 (ix4 ⟨i / 2048, by omega⟩ ⟨i % 2048, by omega⟩ ⟨j / 64, by omega⟩ d))
          (fun k : Fin 8 => val_main_v145 (F := Ideal) (ix2 ⟨i % 2048, by omega⟩ k)) ⟨j % 64, Nat.mod_lt _ (by decide)⟩ * Ideal.ofBits FTy.f32 0x3E38AA3B#32 := by
  unfold val_main_v221 val_main_v220 val_main_v165 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146
  generalize val_main_v131 (F := Ideal) x0 x1 x2 x3 x4 x5 x6 x7 = y
  generalize val_main_v145 (F := Ideal) = a
  rw [← headTurned_of]
  pointwise [val_main_v164, val_main_cst_19]
  try rfl

theorem result5 (i : Fin 65536) (j : Fin 512) :
    val_main_v221 (F := Ideal) x0 x1 x2 x3 x4 x5 x6 x7 (ix2 i j) = scaledHeadedArray x0 x1 x2 x3 x4 x5 x6 x7 2048 (by decide) (ix2 i j) := by
  have hn := normedQuery x0 x1 x2 x3 x4 x5 x6 x7 ⟨i / 2048, by omega⟩ ⟨i % 2048, by omega⟩ ⟨j / 64, by omega⟩
  have ha : (fun k : Fin 8 => val_main_v145 (F := Ideal) (ix2 ⟨i % 2048, by omega⟩ k)) = attAngle (tokOf i) := funext fun k => headQueryAngle (tokOf i) k
  rw [read5, hn, ha]
  rfl

theorem read6 (i : Fin 65536) (j : Fin 512) :
    val_main_v223 (F := Ideal) x0 x1 x2 x3 x4 x5 x6 x8 (ix2 i j)
      = headTurned (fun d : Fin 64 => val_main_v179 (F := Ideal) x0 x1 x2 x3 x4 x5 x6 x8 (ix4 ⟨i / 2048, by omega⟩ ⟨i % 2048, by omega⟩ ⟨j / 64, by omega⟩ d))
          (fun k : Fin 8 => val_main_v193 (F := Ideal) (ix2 ⟨i % 2048, by omega⟩ k)) ⟨j % 64, Nat.mod_lt _ (by decide)⟩ := by
  unfold val_main_v223 val_main_v222 val_main_v211 val_main_v210 val_main_v209 val_main_v208 val_main_v207 val_main_v206 val_main_v205 val_main_v204 val_main_v203 val_main_v202 val_main_v201 val_main_v200 val_main_v199 val_main_v198 val_main_v197 val_main_v196 val_main_v195 val_main_v194
  generalize val_main_v179 (F := Ideal) x0 x1 x2 x3 x4 x5 x6 x8 = y
  generalize val_main_v193 (F := Ideal) = a
  rw [← headTurned_of]
  pointwise
  try rfl

theorem result6 (i : Fin 65536) (j : Fin 512) :
    val_main_v223 (F := Ideal) x0 x1 x2 x3 x4 x5 x6 x8 (ix2 i j) = headedArray x0 x1 x2 x3 x4 x5 x6 x8 2560 (by decide) (ix2 i j) := by
  have hn := normedKey x0 x1 x2 x3 x4 x5 x6 x8 ⟨i / 2048, by omega⟩ ⟨i % 2048, by omega⟩ ⟨j / 64, by omega⟩
  have ha : (fun k : Fin 8 => val_main_v193 (F := Ideal) (ix2 ⟨i % 2048, by omega⟩ k)) = attAngle (tokOf i) := funext fun k => headKeyAngle (tokOf i) k
  rw [read6, hn, ha]
  rfl

end Cert.Reference2Ideal.In

end
-- ==== Proof.InClaim.lean ====
/- The input call's claims: its frames, its reference's frame, and the agreement of their eight results. -/
module

public import proofs.«01_k».proof.Defs
public import proofs.«01_k».proof.Proof.Gen.Kernel2
public import proofs.«01_k».proof.Proof.Gen.Reference2Ideal.Run
public import proofs.«01_k».proof.Proof.InReference
public import Idealize.ShloMosaic.Lib.Quiescent

@[expose] public section

noncomputable section

namespace Cert.In

open Idealize.ShloMosaic Idealize.ShloMosaic.TcCoe Idealize.SL.Sem

/-- The kernel runs and leaves its arguments and its semaphores, whatever its numbers are. -/
theorem quiet {F : FTy → Type} [FloatOps F] (m : (ℓ : Loc Cert.Kernel2Ideal.nD Cert.Kernel2Ideal.τ Cert.Kernel2Ideal.sig) → Buf (Elt F) ℓ) (ρ : Dev Cert.Kernel2Ideal.nD → PrngReg) :
    θ_run (Cert.Kernel2Ideal.defs (F := F)) (onTc (τ := Cert.Kernel2Ideal.τ) (Cert.Kernel2Ideal.main (F := F))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)) ∧ r.2.sem = fun _ => 0) :=
  (θ_run Cert.Kernel2Ideal.defs _ _).mono (fun _ h => ⟨fun c => (h.1 c).2.2.2.2.2.2.2.2, h.2⟩)
    (θ_run_and (Cert.Kernel2Ideal.In.run_blocks m ρ)
      ((θ_run Cert.Kernel2Ideal.defs _ _).mono (fun _ h => h.2) (Cert.Kernel2Ideal.In.run_main_quiescent m ρ)))

/-- The kernel at the ideal values. -/
theorem frame_ideal : Cert.quiescent_Kernel2Ideal := fun m ρ _ => quiet (F := Ideal) m ρ

set_option maxHeartbeats 4000000 in
/-- The two programs' kernel bodies have the same text. -/
theorem bodies : Cert.Kernel2.defs₀ (F := Bits) = Cert.Kernel2Ideal.defs₀ (F := Bits) := by
  funext p l a
  cases p with
  | tc => exact match l, a with | 0, (_, _) => rfl
  | scScalar _ => rfl
  | scVector _ _ => rfl

set_option maxHeartbeats 4000000 in
/-- So have their host parts. -/
theorem mains : Cert.Kernel2.main (F := Bits) = Cert.Kernel2Ideal.main (F := Bits) := rfl

theorem transport {nD : ℕ} {τ : Topo} {sig : RefSig} {Val : EltTy → Type} {Λ : Labels} {D D' : Defs nD τ sig Val Λ}
    {p p' : (c : Thread nD τ) → Prog (TpuEff nD τ sig Val Λ c.2) PUnit} (hD : D = D') (hp : p = p') {s : MemSt nD τ sig Val}
    {Q : PUnit × MemSt nD τ sig Val → Prop} (h : θ_run D' p' s Q) : θ_run D p s Q := by
  subst hD; subst hp; exact h

/-- The kernel over machine words: the same run. -/
theorem frame_bits : Cert.quiescent_Kernel2 := fun m ρ _ =>
  transport (D := Cert.Kernel2.defs (F := Bits)) (p := onTc (τ := Cert.Kernel2.τ) (Cert.Kernel2.main (F := Bits)))
    (congrArg (Pipeline.defs (Cert.Kernel2.pcfgs (F := Bits))) bodies) (congrArg (onTc (τ := Cert.Kernel2.τ)) mains)
    (quiet (F := Bits) m ρ)

/-- The reference runs and leaves its arguments: it is host code and declares no semaphore. -/
theorem frame_reference : Cert.quiescent_Reference2Ideal := fun m ρ _ =>
  (θ_run Cert.Reference2Ideal.defs _ _).mono
    (fun r h => ⟨fun c => let ⟨_, _, _, _, _, _, _, _, h⟩ := h c; h, Idealize.ShloMosaic.sem_eq_zero_of_no_sems (by decide) r.2⟩)
    (Cert.Reference2Ideal.Value.run (F := Ideal) m ρ)

/-- Result 0 of the reference is the array the kernel leaves, of the same arguments. -/
theorem same0 (x0 x1 x2 x3 x4) : Cert.Reference2Ideal.Read.val_main_v212 (F := Ideal) x0 x1 x2 x3 x4 = Cert.Kernel2Ideal.In.steppedArray x0 x1 x2 x3 x4 := by
  refine funext fun y => ?_
  obtain ⟨i, j, rfl⟩ : ∃ (i : Fin 65536) (j : Fin 1024), y = ix2 i j := ⟨y 0, y 1, by funext a; fin_cases a <;> rfl⟩
  exact Cert.Reference2Ideal.In.result0 x0 x1 x2 x3 x4 i j

/-- Result 1 of the reference is the array the kernel leaves, of the same arguments. -/
theorem same1 (x0 x1 x2 x3 x4 x5 x6) : Cert.Reference2Ideal.Read.val_main_v214 (F := Ideal) x0 x1 x2 x3 x4 x5 x6 = Cert.Kernel2Ideal.In.turnedArray x0 x1 x2 x3 x4 x5 x6 0 (by decide) := by
  refine funext fun y => ?_
  obtain ⟨i, j, rfl⟩ : ∃ (i : Fin 65536) (j : Fin 512), y = ix2 i j := ⟨y 0, y 1, by funext a; fin_cases a <;> rfl⟩
  exact Cert.Reference2Ideal.In.result1 x0 x1 x2 x3 x4 x5 x6 i j

/-- Result 2 of the reference is the array the kernel leaves, of the same arguments. -/
theorem same2 (x0 x1 x2 x3 x4 x5 x6) : Cert.Reference2Ideal.Read.val_main_v216 (F := Ideal) x0 x1 x2 x3 x4 x5 x6 = Cert.Kernel2Ideal.In.scaledTurnedArray x0 x1 x2 x3 x4 x5 x6 512 (by decide) := by
  refine funext fun y => ?_
  obtain ⟨i, j, rfl⟩ : ∃ (i : Fin 65536) (j : Fin 512), y = ix2 i j := ⟨y 0, y 1, by funext a; fin_cases a <;> rfl⟩
  exact Cert.Reference2Ideal.In.result2 x0 x1 x2 x3 x4 x5 x6 i j

/-- Result 3 of the reference is the array the kernel leaves, of the same arguments. -/
theorem same3 (x0 x1 x2 x3 x4 x5 x6) : Cert.Reference2Ideal.Read.val_main_v218 (F := Ideal) x0 x1 x2 x3 x4 x5 x6 = Cert.Kernel2Ideal.In.columnArray x0 x1 x2 x3 x4 x5 x6 1024 (by decide) := by
  refine funext fun y => ?_
  obtain ⟨i, j, rfl⟩ : ∃ (i : Fin 65536) (j : Fin 512), y = ix2 i j := ⟨y 0, y 1, by funext a; fin_cases a <;> rfl⟩
  exact Cert.Reference2Ideal.In.result3 x0 x1 x2 x3 x4 x5 x6 i j

/-- Result 4 of the reference is the array the kernel leaves, of the same arguments. -/
theorem same4 (x0 x1 x2 x3 x4 x5 x6) : Cert.Reference2Ideal.Read.val_main_v219 (F := Ideal) x0 x1 x2 x3 x4 x5 x6 = Cert.Kernel2Ideal.In.columnArray x0 x1 x2 x3 x4 x5 x6 1536 (by decide) := by
  refine funext fun y => ?_
  obtain ⟨i, j, rfl⟩ : ∃ (i : Fin 65536) (j : Fin 512), y = ix2 i j := ⟨y 0, y 1, by funext a; fin_cases a <;> rfl⟩
  exact Cert.Reference2Ideal.In.result4 x0 x1 x2 x3 x4 x5 x6 i j

/-- Result 5 of the reference is the array the kernel leaves, of the same arguments. -/
theorem same5 (x0 x1 x2 x3 x4 x5 x6 x7) : Cert.Reference2Ideal.Read.val_main_v221 (F := Ideal) x0 x1 x2 x3 x4 x5 x6 x7 = Cert.Kernel2Ideal.In.scaledHeadedArray x0 x1 x2 x3 x4 x5 x6 x7 2048 (by decide) := by
  refine funext fun y => ?_
  obtain ⟨i, j, rfl⟩ : ∃ (i : Fin 65536) (j : Fin 512), y = ix2 i j := ⟨y 0, y 1, by funext a; fin_cases a <;> rfl⟩
  exact Cert.Reference2Ideal.In.result5 x0 x1 x2 x3 x4 x5 x6 x7 i j

/-- Result 6 of the reference is the array the kernel leaves, of the same arguments. -/
theorem same6 (x0 x1 x2 x3 x4 x5 x6 x8) : Cert.Reference2Ideal.Read.val_main_v223 (F := Ideal) x0 x1 x2 x3 x4 x5 x6 x8 = Cert.Kernel2Ideal.In.headedArray x0 x1 x2 x3 x4 x5 x6 x8 2560 (by decide) := by
  refine funext fun y => ?_
  obtain ⟨i, j, rfl⟩ : ∃ (i : Fin 65536) (j : Fin 512), y = ix2 i j := ⟨y 0, y 1, by funext a; fin_cases a <;> rfl⟩
  exact Cert.Reference2Ideal.In.result6 x0 x1 x2 x3 x4 x5 x6 x8 i j

/-- Result 7 of the reference is the array the kernel leaves, of the same arguments. -/
theorem same7 (x0 x1 x2 x3 x4 x5 x6) : Cert.Reference2Ideal.Read.val_main_v225 (F := Ideal) x0 x1 x2 x3 x4 x5 x6 = Cert.Kernel2Ideal.In.columnArray x0 x1 x2 x3 x4 x5 x6 3072 (by decide) := by
  refine funext fun y => ?_
  obtain ⟨i, j, rfl⟩ : ∃ (i : Fin 65536) (j : Fin 512), y = ix2 i j := ⟨y 0, y 1, by funext a; fin_cases a <;> rfl⟩
  exact Cert.Reference2Ideal.In.result7 x0 x1 x2 x3 x4 x5 x6 i j

theorem congr0 {x0 x1 x2 x3 x4 y0 y1 y2 y3 y4} (h0 : x0 = y0) (h1 : x1 = y1) (h2 : x2 = y2) (h3 : x3 = y3) (h4 : x4 = y4) : Cert.Kernel2Ideal.In.steppedArray x0 x1 x2 x3 x4 = Cert.Kernel2Ideal.In.steppedArray y0 y1 y2 y3 y4 := by
  subst h0 h1 h2 h3 h4; rfl

theorem congr1 {x0 x1 x2 x3 x4 x5 x6 y0 y1 y2 y3 y4 y5 y6} (h0 : x0 = y0) (h1 : x1 = y1) (h2 : x2 = y2) (h3 : x3 = y3) (h4 : x4 = y4) (h5 : x5 = y5) (h6 : x6 = y6) : Cert.Kernel2Ideal.In.turnedArray x0 x1 x2 x3 x4 x5 x6 0 (by decide) = Cert.Kernel2Ideal.In.turnedArray y0 y1 y2 y3 y4 y5 y6 0 (by decide) := by
  subst h0 h1 h2 h3 h4 h5 h6; rfl

theorem congr2 {x0 x1 x2 x3 x4 x5 x6 y0 y1 y2 y3 y4 y5 y6} (h0 : x0 = y0) (h1 : x1 = y1) (h2 : x2 = y2) (h3 : x3 = y3) (h4 : x4 = y4) (h5 : x5 = y5) (h6 : x6 = y6) : Cert.Kernel2Ideal.In.scaledTurnedArray x0 x1 x2 x3 x4 x5 x6 512 (by decide) = Cert.Kernel2Ideal.In.scaledTurnedArray y0 y1 y2 y3 y4 y5 y6 512 (by decide) := by
  subst h0 h1 h2 h3 h4 h5 h6; rfl

theorem congr3 {x0 x1 x2 x3 x4 x5 x6 y0 y1 y2 y3 y4 y5 y6} (h0 : x0 = y0) (h1 : x1 = y1) (h2 : x2 = y2) (h3 : x3 = y3) (h4 : x4 = y4) (h5 : x5 = y5) (h6 : x6 = y6) : Cert.Kernel2Ideal.In.columnArray x0 x1 x2 x3 x4 x5 x6 1024 (by decide) = Cert.Kernel2Ideal.In.columnArray y0 y1 y2 y3 y4 y5 y6 1024 (by decide) := by
  subst h0 h1 h2 h3 h4 h5 h6; rfl

theorem congr4 {x0 x1 x2 x3 x4 x5 x6 y0 y1 y2 y3 y4 y5 y6} (h0 : x0 = y0) (h1 : x1 = y1) (h2 : x2 = y2) (h3 : x3 = y3) (h4 : x4 = y4) (h5 : x5 = y5) (h6 : x6 = y6) : Cert.Kernel2Ideal.In.columnArray x0 x1 x2 x3 x4 x5 x6 1536 (by decide) = Cert.Kernel2Ideal.In.columnArray y0 y1 y2 y3 y4 y5 y6 1536 (by decide) := by
  subst h0 h1 h2 h3 h4 h5 h6; rfl

theorem congr5 {x0 x1 x2 x3 x4 x5 x6 x7 y0 y1 y2 y3 y4 y5 y6 y7} (h0 : x0 = y0) (h1 : x1 = y1) (h2 : x2 = y2) (h3 : x3 = y3) (h4 : x4 = y4) (h5 : x5 = y5) (h6 : x6 = y6) (h7 : x7 = y7) : Cert.Kernel2Ideal.In.scaledHeadedArray x0 x1 x2 x3 x4 x5 x6 x7 2048 (by decide) = Cert.Kernel2Ideal.In.scaledHeadedArray y0 y1 y2 y3 y4 y5 y6 y7 2048 (by decide) := by
  subst h0 h1 h2 h3 h4 h5 h6 h7; rfl

theorem congr6 {x0 x1 x2 x3 x4 x5 x6 x8 y0 y1 y2 y3 y4 y5 y6 y8} (h0 : x0 = y0) (h1 : x1 = y1) (h2 : x2 = y2) (h3 : x3 = y3) (h4 : x4 = y4) (h5 : x5 = y5) (h6 : x6 = y6) (h8 : x8 = y8) : Cert.Kernel2Ideal.In.headedArray x0 x1 x2 x3 x4 x5 x6 x8 2560 (by decide) = Cert.Kernel2Ideal.In.headedArray y0 y1 y2 y3 y4 y5 y6 y8 2560 (by decide) := by
  subst h0 h1 h2 h3 h4 h5 h6 h8; rfl

theorem congr7 {x0 x1 x2 x3 x4 x5 x6 y0 y1 y2 y3 y4 y5 y6} (h0 : x0 = y0) (h1 : x1 = y1) (h2 : x2 = y2) (h3 : x3 = y3) (h4 : x4 = y4) (h5 : x5 = y5) (h6 : x6 = y6) : Cert.Kernel2Ideal.In.columnArray x0 x1 x2 x3 x4 x5 x6 3072 (by decide) = Cert.Kernel2Ideal.In.columnArray y0 y1 y2 y3 y4 y5 y6 3072 (by decide) := by
  subst h0 h1 h2 h3 h4 h5 h6; rfl

/-- The input call against its reference: each of the eight results is the same function of the arguments, row by row. -/
theorem algebraic : Cert.algebraic_Kernel2Ideal_Reference2Ideal := by
  intro m ρ m' ρ' _ hagree
  refine ⟨fun c => Cert.Kernel2Ideal.In.array14 m c, fun c => Cert.Kernel2Ideal.In.array15 m c, fun c => Cert.Kernel2Ideal.In.array16 m c, fun c => Cert.Kernel2Ideal.In.array17 m c, fun c => Cert.Kernel2Ideal.In.array18 m c, fun c => Cert.Kernel2Ideal.In.array19 m c, fun c => Cert.Kernel2Ideal.In.array20 m c, fun c => Cert.Kernel2Ideal.In.array21 m c, ?_, ?_⟩
  · refine (θ_run Cert.Kernel2Ideal.defs _ _).mono (fun _ h c => ?_) (Cert.Kernel2Ideal.In.run_blocks (F := Ideal) m ρ)
    obtain ⟨h0, h1, h2, h3, h4, h5, h6, h7, h⟩ := h c
    exact ⟨h0.trans (Cert.Kernel2Ideal.In.result_eq14 m c), h1.trans (Cert.Kernel2Ideal.In.result_eq15 m c), h2.trans (Cert.Kernel2Ideal.In.result_eq16 m c), h3.trans (Cert.Kernel2Ideal.In.result_eq17 m c), h4.trans (Cert.Kernel2Ideal.In.result_eq18 m c), h5.trans (Cert.Kernel2Ideal.In.result_eq19 m c), h6.trans (Cert.Kernel2Ideal.In.result_eq20 m c), h7.trans (Cert.Kernel2Ideal.In.result_eq21 m c), h⟩
  refine (θ_run Cert.Reference2Ideal.defs _ _).mono (fun _ h c => ?_) (Cert.Reference2Ideal.Value.run (F := Ideal) m' ρ')
  obtain ⟨h0, h1, h2, h3, h4, h5, h6, h7, h⟩ := h c
  obtain ⟨a0, a1, a2, a3, a4, a5, a6, a7, a8⟩ := hagree c
  refine ⟨h0.trans ?_, h1.trans ?_, h2.trans ?_, h3.trans ?_, h4.trans ?_, h5.trans ?_, h6.trans ?_, h7.trans ?_, h⟩
  · refine ((Cert.Reference2Ideal.Read.val_main_v212_eq (StableHlo.launchContents m' c)).trans (same0 _ _ _ _ _ )).trans ?_
    exact congr0 a0 a1 a2 a3 a4
  · refine ((Cert.Reference2Ideal.Read.val_main_v214_eq (StableHlo.launchContents m' c)).trans (same1 _ _ _ _ _ _ _ )).trans ?_
    exact congr1 a0 a1 a2 a3 a4 a5 a6
  · refine ((Cert.Reference2Ideal.Read.val_main_v216_eq (StableHlo.launchContents m' c)).trans (same2 _ _ _ _ _ _ _ )).trans ?_
    exact congr2 a0 a1 a2 a3 a4 a5 a6
  · refine ((Cert.Reference2Ideal.Read.val_main_v218_eq (StableHlo.launchContents m' c)).trans (same3 _ _ _ _ _ _ _ )).trans ?_
    exact congr3 a0 a1 a2 a3 a4 a5 a6
  · refine ((Cert.Reference2Ideal.Read.val_main_v219_eq (StableHlo.launchContents m' c)).trans (same4 _ _ _ _ _ _ _ )).trans ?_
    exact congr4 a0 a1 a2 a3 a4 a5 a6
  · refine ((Cert.Reference2Ideal.Read.val_main_v221_eq (StableHlo.launchContents m' c)).trans (same5 _ _ _ _ _ _ _ _ )).trans ?_
    exact congr5 a0 a1 a2 a3 a4 a5 a6 a7
  · refine ((Cert.Reference2Ideal.Read.val_main_v223_eq (StableHlo.launchContents m' c)).trans (same6 _ _ _ _ _ _ _ _ )).trans ?_
    exact congr6 a0 a1 a2 a3 a4 a5 a6 a8
  · refine ((Cert.Reference2Ideal.Read.val_main_v225_eq (StableHlo.launchContents m' c)).trans (same7 _ _ _ _ _ _ _ )).trans ?_
    exact congr7 a0 a1 a2 a3 a4 a5 a6

end Cert.In

end
-- ==== Proof.RetRun.lean ====
/- The retention half of the mixers' body: the pieces it leaves in its output block, as one term of the chunk and the head. -/
module

public import proofs.«01_k».proof.Proof.Gen.KernelIdeal.Frame

@[expose] public section

set_option maxRecDepth 16384

noncomputable section

open Idealize.ShloMosaic Idealize.ShloMosaic.TcCoe Idealize.SL.Sem

namespace Cert.KernelIdeal.Ret

open Cert.KernelIdeal Cert.KernelIdeal.Gen

variable {F : FTy → Type} [FloatOps F]

/-- The decayed scores of one chunk. -/
def scores (q k : Vec F S1x256x128 .bf16) (a : Vec F S1x256x256 .f32) : FVec F S256x256 .f32 :=
  mulf (matmul dot_S256x128_S256x128_S256x256_1_1_0_0_n_n none (shapeCast S256x128 q shapeCasts_S1x256x128_S256x128)
    (shapeCast S256x128 k shapeCasts_S1x256x128_S256x128) (constant S256x256 .f32 0#32)) (shapeCast S256x256 a shapeCasts_S1x256x256_S256x256)

/-- What one chunk adds to the state. -/
def increment (k v : Vec F S1x256x128 .bf16) (a : Vec F S1x256x128 .f32) : FVec F S128x128 .f32 :=
  matmul dot_S256x128_S256x128_S128x128_0_0_1_1_n_n none
    (truncf .bf16 (mulf (extf .f32 (shapeCast S256x128 k shapeCasts_S1x256x128_S256x128) bitsLt_bf16_f32)
      (shapeCast S256x128 a shapeCasts_S1x256x128_S256x128)) bitsLt_bf16_f32)
    (shapeCast S256x128 v shapeCasts_S1x256x128_S256x128) (constant S128x128 .f32 0#32)

/-- The state decayed by one chunk. -/
def decayed (s : FVec F S128x128 .f32) (a : Vec F S1x1x128 .f32) : FVec F S128x128 .f32 :=
  mulf s (broadcastTo S128x128 (shapeCast S1x128 a shapeCasts_S1x1x128_S1x128) broadcasts_S1x128_S128x128)

/-- The chunk's own part of the output. -/
def within (s : FVec F S256x256 .f32) (v : Vec F S1x256x128 .bf16) : FVec F S256x128 .f32 :=
  matmul dot_S256x256_S256x128_S256x128_1_0_0_1_n_n none (truncf .bf16 s bitsLt_bf16_f32)
    (shapeCast S256x128 v shapeCasts_S1x256x128_S256x128) (constant S256x128 .f32 0#32)

/-- The state's part of the output. -/
def across (q : Vec F S1x256x128 .bf16) (s : FVec F S128x128 .f32) (a : Vec F S1x256x128 .f32) : FVec F S256x128 .f32 :=
  mulf (matmul dot_S256x128_S128x128_S256x128_1_0_0_1_n_n none (shapeCast S256x128 q shapeCasts_S1x256x128_S256x128)
    (truncf .bf16 s bitsLt_bf16_f32) (constant S256x128 .f32 0#32)) (shapeCast S256x128 a shapeCasts_S1x256x128_S256x128)

/-- The output normed, gated and scaled. -/
def finished (o : FVec F S256x128 .f32) (g : Vec F S1x256x128 .f32) (b : Vec F S1x128 .f32) : Vec F S1x256x128 .bf16 :=
  shapeCast S1x256x128 (truncf .bf16 (mulf (mulf
    (mulf o (broadcastTo S256x128 (rsqrt (addf (divf (shapeCast S256x1 (multiReduction .add [1] S256 (mulf o o) (0#32)
      reduces_S256x128_S256 k0_pay39._proof_2 k0_pay39._proof_3) shapeCasts_S256_S256x1) (broadcast S256x1 (FloatOps.ofBits .f32 1124073472#32)))
      (broadcast S256x1 (FloatOps.ofBits .f32 897988541#32)))) broadcasts_S256x1_S256x128))
    (mulf (shapeCast S256x128 g shapeCasts_S1x256x128_S256x128) (logistic (shapeCast S256x128 g shapeCasts_S1x256x128_S256x128))))
    (broadcastTo S256x128 (shapeCast S1x128 b shapeCasts_S1x128_S1x128) broadcasts_S1x128_S256x128)) bitsLt_bf16_f32) shapeCasts_S256x128_S1x256x128

section chunks

variable (q k v : Fin 8 → Vec F S1x256x128 .bf16) (g : Fin 8 → Vec F S1x256x128 .f32) (b : Vec F S1x128 .f32)
  (ai : Vec F S1x256x256 .f32) (aq ak : Vec F S1x256x128 .f32) (ac : Vec F S1x1x128 .f32)

/-- The state after chunk `n`. -/
def state : (n : ℕ) → n < 8 → FVec F S128x128 .f32
  | 0, h => increment (k ⟨0, h⟩) (v ⟨0, h⟩) ak
  | n + 1, h => addf (decayed (state n (Nat.lt_of_succ_lt h)) ac) (increment (k ⟨n + 1, h⟩) (v ⟨n + 1, h⟩) ak)

/-- Chunk `n` of the output. -/
def chunk : (n : ℕ) → n < 8 → FVec F S256x128 .f32
  | 0, h => within (scores (q ⟨0, h⟩) (k ⟨0, h⟩) ai) (v ⟨0, h⟩)
  | n + 1, h => addf (within (scores (q ⟨n + 1, h⟩) (k ⟨n + 1, h⟩) ai) (v ⟨n + 1, h⟩))
      (across (q ⟨n + 1, h⟩) (state k v ak ac n (Nat.lt_of_succ_lt h)) aq)

end chunks

theorem inb3 {d : Fin 3 → ℕ} {o0 o1 o2 s0 s1 s2 : ℕ} (h0 : o0 + s0 ≤ d 0) (h1 : o1 + s1 ≤ d 1) (h2 : o2 + s2 ≤ d 2) :
    ∀ a : Fin 3, (![o0, o1, o2] : Fin 3 → ℕ) a + (![s0, s1, s2] : Fin 3 → ℕ) a ≤ d a := by
  intro a; fin_cases a <;> assumption

/-- Rows `256 n …`, columns `128 g …` of a block. -/
def rowsRect (g : Fin 2) (n : Fin 8) : LoadRect S1x2048x256 :=
  (Rect.unit (s := S1x2048x256) ![0, 0, 128 * g.val] S1x2048x128.size (inb3 (d := ![1, 2048, 256]) (Nat.le_refl 1) (Nat.le_refl 2048)
    (show 128 * g.val + 128 ≤ 256 by omega))).withinL
    (Rect.unit (s := S1x2048x128) ![0, 256 * n.val, 0] S1x256x128.size (inb3 (d := ![1, 2048, 128]) (Nat.le_refl 1)
      (show 256 * n.val + 256 ≤ 2048 by omega) (Nat.le_refl 128))).toLoadRect (fun _ => rfl)

/-- Head `g`'s piece of a table. -/
def innerRect (g : Fin 2) : LoadRect S2x256x256 :=
  (Rect.unit (s := S2x256x256) ![g.val, 0, 0] S1x256x256.size (inb3 (d := ![2, 256, 256]) (show g.val + 1 ≤ 2 by omega) (Nat.le_refl 256) (Nat.le_refl 256))).withinL
    (Rect.unit (s := S1x256x256) ![0, 0, 0] S1x256x256.size (inb3 (d := ![1, 256, 256]) (Nat.le_refl 1) (Nat.le_refl 256) (Nat.le_refl 256))).toLoadRect (fun _ => rfl)
def decayRect (g : Fin 2) : LoadRect S2x256x128 :=
  (Rect.unit (s := S2x256x128) ![g.val, 0, 0] S1x256x128.size (inb3 (d := ![2, 256, 128]) (show g.val + 1 ≤ 2 by omega) (Nat.le_refl 256) (Nat.le_refl 128))).withinL
    (Rect.unit (s := S1x256x128) ![0, 0, 0] S1x256x128.size (inb3 (d := ![1, 256, 128]) (Nat.le_refl 1) (Nat.le_refl 256) (Nat.le_refl 128))).toLoadRect (fun _ => rfl)
def chunkRect (g : Fin 2) : LoadRect S2x1x128 :=
  (Rect.unit (s := S2x1x128) ![g.val, 0, 0] S1x1x128.size (inb3 (d := ![2, 1, 128]) (show g.val + 1 ≤ 2 by omega) (Nat.le_refl 1) (Nat.le_refl 128))).withinL
    (Rect.unit (s := S1x1x128) ![0, 0, 0] S1x1x128.size (inb3 (d := ![1, 1, 128]) (Nat.le_refl 1) (Nat.le_refl 1) (Nat.le_refl 128))).toLoadRect (fun _ => rfl)
def gainRect (g : Fin 2) : LoadRect S1x256 :=
  (Rect.unit (s := S1x256) ![0, 128 * g.val] S1x128.size (Fin.forall_fin_two.mpr ⟨Nat.le_refl 1, show 128 * g.val + 128 ≤ 256 by omega⟩)).toLoadRect
def outRect (g : Fin 2) (n : Fin 8) : Rect S1x2048x256 :=
  Rect.unit (s := S1x2048x256) ![0, 256 * n.val, 128 * g.val] S1x256x128.size (inb3 (d := ![1, 2048, 256]) (Nat.le_refl 1)
    (show 256 * n.val + 256 ≤ 2048 by omega) (show 128 * g.val + 128 ≤ 256 by omega))

section run

variable (c : Dev nD) (i : grid0.Coords) (a1 : Memref sig .tc .vmem S1x2048x256 .bf16) (h1 : a1.IsWhole)
  (a2 : Memref sig .tc .vmem S1x2048x256 .bf16) (h2 : a2.IsWhole) (a3 : Memref sig .tc .vmem S1x2048x256 .bf16) (h3 : a3.IsWhole)
  (a4 : Memref sig .tc .vmem S1x2048x256 .f32) (h4 : a4.IsWhole) (a5 : Memref sig .tc .vmem S1x256 .f32) (h5 : a5.IsWhole)
  (a6 : Memref sig .tc .vmem S2x256x256 .f32) (h6 : a6.IsWhole) (a7 : Memref sig .tc .vmem S2x256x128 .f32) (h7 : a7.IsWhole)
  (a8 : Memref sig .tc .vmem S2x256x128 .f32) (h8 : a8.IsWhole) (a9 : Memref sig .tc .vmem S2x1x128 .f32) (h9 : a9.IsWhole)
  (b1 : Memref sig .tc .vmem S1x2048x256 .bf16) (g1 : b1.IsWhole) (b2 : Memref sig .tc .vmem S1x2048x256 .bf16) (g2 : b2.IsWhole)
  (b3 : Memref sig .tc .vmem S1x2048x256 .bf16) (g3 : b3.IsWhole) (b4 : Memref sig .tc .vmem S1x256 .f32) (g4 : b4.IsWhole)
  (b5 : Memref sig .tc .vmem S1x2048x256 .bf16) (g5 : b5.IsWhole) (b6 : Memref sig .tc .vmem S1x2048x256 .bf16) (g6 : b6.IsWhole)
  (b7 : Memref sig .tc .vmem S2x2x8x80x256 .bf16) (g7 : b7.IsWhole)
  (x0 x1 x2 : Vec F S1x2048x256 .bf16) (x3 : Vec F S1x2048x256 .f32) (x4 : Vec F S1x256 .f32) (x5 : Vec F S2x256x256 .f32)
  (x6 x7 : Vec F S2x256x128 .f32) (x8 : Vec F S2x1x128 .f32) (x9 x10 x11 : Vec F S1x2048x256 .bf16) (x12 : Vec F S1x256 .f32)

/-- The piece of head `g` and chunk `n`. -/
def piece (g : Fin 2) (n : Fin 8) : Vec F S1x256x128 .bf16 :=
  finished (chunk (fun n => View.readAt (Elt F) a1.view (rowsRect g n) (h1.unread x0)) (fun n => View.readAt (Elt F) a2.view (rowsRect g n) (h2.unread x1))
      (fun n => View.readAt (Elt F) a3.view (rowsRect g n) (h3.unread x2)) (View.readAt (Elt F) a6.view (innerRect g) (h6.unread x5))
      (View.readAt (Elt F) a7.view (decayRect g) (h7.unread x6)) (View.readAt (Elt F) a8.view (decayRect g) (h8.unread x7))
      (View.readAt (Elt F) a9.view (chunkRect g) (h9.unread x8)) n.val n.isLt)
    (View.readAt (Elt F) a4.view (rowsRect g n) (h4.unread x3)) (View.readAt (Elt F) a5.view (gainRect g) (h5.unread x4))

/-- The pieces the body leaves, the last one first. -/
theorem pieces_eq :
    (kernelRun0_A c i a1 h1 a2 h2 a3 h3 a4 h4 a5 h5 a6 h6 a7 h7 a8 h8 a9 h9 b1 g1 b2 g2 b3 g3 b4 g4 b5 g5 b6 g6 b7 g7 x0 x1 x2 x3 x4 x5 x6 x7 x8 x9 x10 x11 x12).1
      = [(1, 7), (1, 6), (1, 5), (1, 4), (1, 3), (1, 2), (1, 1), (1, 0), (0, 7), (0, 6), (0, 5), (0, 4), (0, 3), (0, 2), (0, 1), (0, 0)].map
          fun p : Fin 2 × Fin 8 => ⟨outRect p.1 p.2, piece a1 h1 a2 h2 a3 h3 a4 h4 a5 h5 a6 h6 a7 h7 a8 h8 a9 h9 x0 x1 x2 x3 x4 x5 x6 x7 x8 p.1 p.2⟩ := by
  delta kernelRun0_A
  rfl

end run

end Cert.KernelIdeal.Ret

end
-- ==== Proof.RetMath.lean ====
/- Chunked retention as arithmetic: over the reals, the sums over one chunk plus the decayed state carried from the
   chunks before are the sum over all past tokens. -/
module

public import proofs.«01_k».proof.Proof.Rows

@[expose] public section

noncomputable section

open Idealize.ShloMosaic Idealize.SL.Sem

namespace Layer.Ret

/-- The decay over `x` tokens, the logarithm of the rate being `lg`. -/
def decay (lg : ℝ) (x : ℕ) : ℝ := Real.exp (x * lg)

theorem decay_add (lg : ℝ) (x y : ℕ) : decay lg (x + y) = decay lg x * decay lg y := by
  unfold decay
  rw [← Real.exp_add, ← add_mul, Nat.cast_add]

section sums

variable (lg : ℝ) (q k v : ℕ → Fin 128 → ℝ)

/-- One token's part of the state, as it stands after token `a - 1`. -/
def part (a s : ℕ) (d e : Fin 128) : ℝ := k s d * decay lg (a - 1 - s) * v s e

/-- The state after chunk `n`, as the kernel carries it. -/
def state : ℕ → Fin 128 → Fin 128 → ℝ
  | 0, d, e => ∑ c ∈ Finset.range 256, k c d * decay lg (255 - c) * v c e
  | n + 1, d, e => state n d e * decay lg 256
      + ∑ c ∈ Finset.range 256, k (256 * (n + 1) + c) d * decay lg (255 - c) * v (256 * (n + 1) + c) e

theorem state_eq (n : ℕ) (d e : Fin 128) :
    state lg k v n d e = ∑ s ∈ Finset.range (256 * (n + 1)), part lg k v (256 * (n + 1)) s d e := by
  induction n with
  | zero => rfl
  | succ n ih =>
    rw [state, ih, show 256 * (n + 1 + 1) = 256 * (n + 1) + 256 by omega, Finset.sum_range_add, Finset.sum_mul]
    congr 1
    · refine Finset.sum_congr rfl fun s hs => ?_
      have hs := Finset.mem_range.1 hs
      unfold part
      rw [show 256 * (n + 1) + 256 - 1 - s = (256 * (n + 1) - 1 - s) + 256 by omega, decay_add]
      ring
    · refine Finset.sum_congr rfl fun c hc => ?_
      have hc := Finset.mem_range.1 hc
      unfold part
      rw [show 256 * (n + 1) + 256 - 1 - (256 * (n + 1) + c) = 255 - c by omega]

/-- The score of a query and a key. -/
def score (t s : ℕ) : ℝ := ∑ d, q t d * k s d

/-- The chunk's own part of the output. -/
def own (n r : ℕ) (e : Fin 128) : ℝ := ∑ c ∈ Finset.range 256,
  score q k (256 * n + r) (256 * n + c) * (if c ≤ r then decay lg (r - c) else 0) * v (256 * n + c) e

/-- The output as the kernel forms it. -/
def chunked : ℕ → ℕ → Fin 128 → ℝ
  | 0, r, e => own lg q k v 0 r e
  | n + 1, r, e => own lg q k v (n + 1) r e + (∑ d, q (256 * (n + 1) + r) d * state lg k v n d e) * decay lg (r + 1)

/-- The output as the sum over the past. -/
def whole (t : ℕ) (e : Fin 128) : ℝ := ∑ s ∈ Finset.range 2048,
  v s e * (score q k t s * (if s ≤ t then decay lg (t - s) else 0))

theorem whole_split (n r : ℕ) (hn : n < 8) (hr : r < 256) (e : Fin 128) :
    whole lg q k v (256 * n + r) e
      = ∑ s ∈ Finset.range (256 * n), v s e * (score q k (256 * n + r) s * decay lg (256 * n + r - s)) + own lg q k v n r e := by
  unfold whole
  obtain ⟨m, hm⟩ : ∃ m, 2048 = 256 * n + 256 + m := ⟨2048 - (256 * n + 256), by omega⟩
  rw [hm, Finset.sum_range_add, Finset.sum_range_add]
  have h0 : ∑ x ∈ Finset.range m, v (256 * n + 256 + x) e * (score q k (256 * n + r) (256 * n + 256 + x)
      * (if 256 * n + 256 + x ≤ 256 * n + r then decay lg (256 * n + r - (256 * n + 256 + x)) else 0)) = 0 :=
    Finset.sum_eq_zero fun x _ => by rw [if_neg (by omega), mul_zero, mul_zero]
  rw [h0, add_zero]
  congr 1
  · refine Finset.sum_congr rfl fun s hs => ?_
    have hs := Finset.mem_range.1 hs
    rw [if_pos (by omega)]
  · refine Finset.sum_congr rfl fun c _ => ?_
    rw [show 256 * n + r - (256 * n + c) = r - c by omega]
    by_cases h : c ≤ r
    · rw [if_pos h, if_pos (by omega)]; ring
    · rw [if_neg h, if_neg (by omega)]; ring

/-- The chunked output is the sum over the past. -/
theorem chunked_eq (n r : ℕ) (hn : n < 8) (hr : r < 256) (e : Fin 128) : chunked lg q k v n r e = whole lg q k v (256 * n + r) e := by
  rw [whole_split lg q k v n r hn hr]
  cases n with
  | zero => rw [chunked]; simp
  | succ n =>
    rw [chunked, add_comm]
    congr 1
    simp only [state_eq, Finset.mul_sum, Finset.sum_mul]
    rw [Finset.sum_comm]
    refine Finset.sum_congr rfl fun s hs => ?_
    have hs := Finset.mem_range.1 hs
    unfold score part
    rw [show 256 * (n + 1) + r - s = (256 * (n + 1) - 1 - s) + (r + 1) by omega, decay_add lg (256 * (n + 1) - 1 - s) (r + 1), Finset.sum_mul, Finset.mul_sum]
    refine Finset.sum_congr rfl fun d _ => ?_
    ring

end sums

/-- A finite sum of reals, coerced. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Layer.Ret

end
-- ==== Proof.RetChunk.lean ====
/- The chunks of the retention, read at an entry over the extended reals: with finite queries, keys and values and the
   decay tables as powers of one rate, a chunk of the output is the sum over the past tokens. -/
module

public import proofs.«01_k».proof.Proof.RetRun
public import proofs.«01_k».proof.Proof.RetMath

@[expose] public section

noncomputable section

open Idealize.ShloMosaic Idealize.ShloMosaic.TcCoe Idealize.SL.Sem

namespace Cert.KernelIdeal.Ret

open Cert.KernelIdeal Cert.KernelIdeal.Gen Layer Layer.Ret

theorem scores_apply (q k : Vec Ideal S1x256x128 .bf16) (a : Vec Ideal S1x256x256 .f32) (r c : Fin 256) :
    scores q k a (ix2 r c) = (∑ d : Fin 128, q (ix3 0 r d) * k (ix3 0 c d)) * a (ix3 0 r c) := by
  pointwise [scores]

theorem increment_apply (k v : Vec Ideal S1x256x128 .bf16) (a : Vec Ideal S1x256x128 .f32) (d e : Fin 128) :
    increment k v a (ix2 d e) = ∑ c : Fin 256, k (ix3 0 c d) * a (ix3 0 c d) * v (ix3 0 c e) := by
  pointwise [increment]

theorem decayed_apply (s : FVec Ideal S128x128 .f32) (a : Vec Ideal S1x1x128 .f32) (d e : Fin 128) :
    decayed s a (ix2 d e) = s (ix2 d e) * a (ix3 0 0 e) := by
  pointwise [decayed]

theorem within_apply (s : FVec Ideal S256x256 .f32) (v : Vec Ideal S1x256x128 .bf16) (r : Fin 256) (e : Fin 128) :
    within s v (ix2 r e) = ∑ c : Fin 256, s (ix2 r c) * v (ix3 0 c e) := by
  pointwise [within]

theorem across_apply (q : Vec Ideal S1x256x128 .bf16) (s : FVec Ideal S128x128 .f32) (a : Vec Ideal S1x256x128 .f32) (r : Fin 256) (e : Fin 128) :
    across q s a (ix2 r e) = (∑ d : Fin 128, q (ix3 0 r d) * s (ix2 d e)) * a (ix3 0 r e) := by
  pointwise [across]

theorem finished_apply (o : FVec Ideal S256x128 .f32) (g : Vec Ideal S1x256x128 .f32) (b : Vec Ideal S1x128 .f32) (r : Fin 256) (e : Fin 128) :
    finished o g b (ix3 0 r e) = o (ix2 r e) * invRms (Ideal.ofBits FTy.f32 1124073472#32) (fun l : Fin 128 => o (ix2 r l))
      * (g (ix3 0 r e) * Ideal.logistic (g (ix3 0 r e))) * b (ix2 0 e) := by
  pointwise [finished]
  rfl

section real

variable (lg : ℝ) (Q K W : ℕ → Fin 128 → ℝ)
  (q k v : Fin 8 → Vec Ideal S1x256x128 .bf16) (ai : Vec Ideal S1x256x256 .f32) (aq ak : Vec Ideal S1x256x128 .f32) (ac : Vec Ideal S1x1x128 .f32)
  (hq : ∀ n r d, q n (ix3 0 r d) = ((Q (256 * n.val + r.val) d : ℝ) : EReal)) (hk : ∀ n r d, k n (ix3 0 r d) = ((K (256 * n.val + r.val) d : ℝ) : EReal))
  (hv : ∀ n r d, v n (ix3 0 r d) = ((W (256 * n.val + r.val) d : ℝ) : EReal))
  (hi : ∀ r c, ai (ix3 0 r c) = ((if c.val ≤ r.val then decay lg (r.val - c.val) else 0 : ℝ) : EReal))
  (hd : ∀ r e, aq (ix3 0 r e) = ((decay lg (r.val + 1) : ℝ) : EReal)) (hb : ∀ r e, ak (ix3 0 r e) = ((decay lg (255 - r.val) : ℝ) : EReal))
  (hc : ∀ e, ac (ix3 0 0 e) = ((decay lg 256 : ℝ) : EReal))

include hk hv hb in
theorem increment_real (n : Fin 8) (d e : Fin 128) : increment (k n) (v n) ak (ix2 d e)
    = ((∑ c ∈ Finset.range 256, K (256 * n.val + c) d * decay lg (255 - c) * W (256 * n.val + c) e : ℝ) : EReal) := by
  rw [increment_apply, ← Fin.sum_univ_eq_sum_range (fun c => K (256 * n.val + c) d * decay lg (255 - c) * W (256 * n.val + c) e) 256, coe_sum]
  refine Finset.sum_congr rfl fun c _ => ?_
  rw [hk, hb, hv, EReal.coe_mul, EReal.coe_mul]

include hk hv hb hc in
theorem state_real (n : ℕ) (hn : n < 8) (d e : Fin 128) : state k v ak ac n hn (ix2 d e) = ((Layer.Ret.state lg K W n d e : ℝ) : EReal) := by
  induction n with
  | zero =>
    rw [state, increment_real lg K W k v ak hk hv hb, Layer.Ret.state]
    simp only [Nat.mul_zero, Nat.zero_add]
  | succ n ih =>
    rw [state, Layer.Ret.state, EReal.coe_add, ← increment_real lg K W k v ak hk hv hb ⟨n + 1, hn⟩, EReal.coe_mul, ← ih (by omega), ← hc e, ← decayed_apply]
    rfl

include hq hk hv hi in
theorem own_real (n : Fin 8) (r : Fin 256) (e : Fin 128) : within (scores (q n) (k n) ai) (v n) (ix2 r e)
    = ((own lg Q K W n.val r.val e : ℝ) : EReal) := by
  unfold own
  rw [within_apply, ← Fin.sum_univ_eq_sum_range (fun c => score Q K (256 * n.val + r.val) (256 * n.val + c) * (if c ≤ r.val then decay lg (r.val - c) else 0) * W (256 * n.val + c) e) 256, coe_sum]
  refine Finset.sum_congr rfl fun c _ => ?_
  rw [scores_apply, hv, hi, EReal.coe_mul, EReal.coe_mul]
  congr 2
  unfold score
  rw [coe_sum]
  refine Finset.sum_congr rfl fun d _ => ?_
  rw [hq, hk, EReal.coe_mul]

include hq hk hv hi hd hb hc in
/-- A chunk of the output is the sum over the past tokens. -/
theorem chunk_real (n : ℕ) (hn : n < 8) (r : Fin 256) (e : Fin 128) :
    chunk q k v ai aq ak ac n hn (ix2 r e) = ((whole lg Q K W (256 * n + r.val) e : ℝ) : EReal) := by
  rw [← chunked_eq lg Q K W n r.val hn r.isLt]
  cases n with
  | zero => rw [chunk, own_real lg Q K W q k v ai hq hk hv hi]; rfl
  | succ n =>
    rw [chunk, chunked, EReal.coe_add, ← own_real lg Q K W q k v ai hq hk hv hi ⟨n + 1, hn⟩, EReal.coe_mul, ← hd r e, coe_sum]
    refine congrArg (within (scores (q ⟨n + 1, hn⟩) (k ⟨n + 1, hn⟩) ai) (v ⟨n + 1, hn⟩) (ix2 r e) + ·) ((across_apply _ _ _ _ _).trans (congrArg (· * _) (Finset.sum_congr rfl fun d _ => ?_)))
    rw [hq, state_real lg K W k v ak ac hk hv hb hc, EReal.coe_mul]

end real

end Cert.KernelIdeal.Ret

end
-- ==== Proof.RetBlock.lean ====
/- What one grid point leaves in the retention's output block: per head and token, the sum over the past, normed and gated. -/
module

public import proofs.«01_k».proof.Proof.RetChunk

@[expose] public section

noncomputable section

open Idealize.ShloMosaic Idealize.ShloMosaic.TcCoe Idealize.SL.Sem

namespace Cert.KernelIdeal.Ret

open Cert.KernelIdeal Cert.KernelIdeal.Gen Layer Layer.Ret

/-- Token `r` of chunk `n`, and column `e` of head `g` of a block. -/
def tok (n : Fin 8) (r : Fin 256) : Fin 2048 := ⟨256 * n + r, by omega⟩
def lane (g : Fin 2) (e : Fin 128) : Fin 256 := ⟨128 * g + e, by omega⟩

theorem rows_idx (g : Fin 2) (n : Fin 8) (r : Fin 256) (e : Fin 128) :
    (rowsRect g n).idx (ix3 (n0 := 1) (n1 := 256) (n2 := 128) 0 r e) = ix3 (n0 := 1) (n1 := 2048) (n2 := 256) 0 (tok n r) (lane g e) := by
  funext a
  apply Fin.ext
  fin_cases a
  · rfl
  · show 0 + 256 * n.val + 1 * r.val = 256 * n.val + r.val; omega
  · show 128 * g.val + 0 + 1 * e.val = 128 * g.val + e.val; omega

theorem inner_idx (g : Fin 2) (r c : Fin 256) :
    (innerRect g).idx (ix3 (n0 := 1) (n1 := 256) (n2 := 256) 0 r c) = ix3 (n0 := 2) (n1 := 256) (n2 := 256) g r c := by
  funext a
  apply Fin.ext
  fin_cases a
  · show g.val + 0 + 1 * 0 = g.val; omega
  · show 0 + 0 + 1 * r.val = r.val; omega
  · show 0 + 0 + 1 * c.val = c.val; omega

theorem decay_idx (g : Fin 2) (r : Fin 256) (e : Fin 128) :
    (decayRect g).idx (ix3 (n0 := 1) (n1 := 256) (n2 := 128) 0 r e) = ix3 (n0 := 2) (n1 := 256) (n2 := 128) g r e := by
  funext a
  apply Fin.ext
  fin_cases a
  · show g.val + 0 + 1 * 0 = g.val; omega
  · show 0 + 0 + 1 * r.val = r.val; omega
  · show 0 + 0 + 1 * e.val = e.val; omega

theorem chunk_idx (g : Fin 2) (e : Fin 128) :
    (chunkRect g).idx (ix3 (n0 := 1) (n1 := 1) (n2 := 128) 0 0 e) = ix3 (n0 := 2) (n1 := 1) (n2 := 128) g 0 e := by
  funext a
  apply Fin.ext
  fin_cases a
  · show g.val + 0 + 1 * 0 = g.val; omega
  · rfl
  · show 0 + 0 + 1 * e.val = e.val; omega

theorem gain_idx (g : Fin 2) (e : Fin 128) : (gainRect g).idx (ix2 (n0 := 1) (n1 := 128) 0 e) = ix2 (n0 := 1) (n1 := 256) 0 (lane g e) := by
  funext a
  apply Fin.ext
  fin_cases a
  · rfl
  · show 128 * g.val + 1 * e.val = 128 * g.val + e.val; omega

theorem out_emb (g : Fin 2) (n : Fin 8) (r : Fin 256) (e : Fin 128) :
    (outRect g n).emb (ix3 (n0 := 1) (n1 := 256) (n2 := 128) 0 r e) = ix3 (n0 := 1) (n1 := 2048) (n2 := 256) 0 (tok n r) (lane g e) := by
  funext a
  apply Fin.ext
  fin_cases a
  · rfl
  · show 256 * n.val + 1 * r.val = 256 * n.val + r.val; omega
  · show 128 * g.val + 1 * e.val = 128 * g.val + e.val; omega

/-- A read of a whole input at an entry. -/
theorem load_apply {s : Shape} {e : EltTy} (M : Memref sig .tc .vmem s e) (h : M.IsWhole) (X : Vec Ideal s e) (r : LoadRect s) (y : r.shape.Idx)
    (z : s.Idx) (hz : r.idx y = z) : View.readAt (Elt Ideal) M.view r (h.unread X) y = X z := by
  subst hz
  exact congrFun (Memref.IsWhole.read_unread h X) (r.idx y)

/-- The head and the lane of a block's column. -/
def headOf (j : Fin 256) : Fin 2 := ⟨j / 128, by omega⟩
def colOf (j : Fin 256) : Fin 128 := ⟨j % 128, Nat.mod_lt _ (by decide)⟩

theorem headOf_lane (g : Fin 2) (e : Fin 128) : headOf (lane g e) = g := by
  apply Fin.ext; show (128 * g.val + e.val) / 128 = g.val; omega
theorem colOf_lane (g : Fin 2) (e : Fin 128) : colOf (lane g e) = e := by
  apply Fin.ext; show (128 * g.val + e.val) % 128 = e.val; omega

/-- The output row of one head: the sums over the past normed, gated by the row `gt` and scaled by `b`. -/
def finish (o : Fin 128 → EReal) (gt b : EReal) (e : Fin 128) : EReal :=
  o e * invRms (Ideal.ofBits FTy.f32 1124073472#32) o * (gt * Ideal.logistic gt) * b

theorem finish_congr {o o' : Fin 128 → EReal} {gt gt' b b' : EReal} (ho : ∀ l, o l = o' l) (hg : gt = gt') (hb : b = b') (e : Fin 128) :
    o e * invRms (Ideal.ofBits FTy.f32 1124073472#32) o * (gt * Ideal.logistic gt) * b = finish o' gt' b' e := by
  obtain rfl : o = o' := funext ho
  subst hg hb
  rfl

theorem ix3_of {n0 n1 n2 : Nat} (y : (⟨3, ![n0, n1, n2]⟩ : Shape).Idx) : ∃ (a : Fin n0) (r : Fin n1) (l : Fin n2), y = ix3 a r l :=
  ⟨y 0, y 1, y 2, funext fun a => by fin_cases a <;> rfl⟩

section block

variable (c : Dev nD) (i : grid0.Coords) (a1 : Memref sig .tc .vmem S1x2048x256 .bf16) (h1 : a1.IsWhole)
  (a2 : Memref sig .tc .vmem S1x2048x256 .bf16) (h2 : a2.IsWhole) (a3 : Memref sig .tc .vmem S1x2048x256 .bf16) (h3 : a3.IsWhole)
  (a4 : Memref sig .tc .vmem S1x2048x256 .f32) (h4 : a4.IsWhole) (a5 : Memref sig .tc .vmem S1x256 .f32) (h5 : a5.IsWhole)
  (a6 : Memref sig .tc .vmem S2x256x256 .f32) (h6 : a6.IsWhole) (a7 : Memref sig .tc .vmem S2x256x128 .f32) (h7 : a7.IsWhole)
  (a8 : Memref sig .tc .vmem S2x256x128 .f32) (h8 : a8.IsWhole) (a9 : Memref sig .tc .vmem S2x1x128 .f32) (h9 : a9.IsWhole)
  (b1 : Memref sig .tc .vmem S1x2048x256 .bf16) (g1 : b1.IsWhole) (b2 : Memref sig .tc .vmem S1x2048x256 .bf16) (g2 : b2.IsWhole)
  (b3 : Memref sig .tc .vmem S1x2048x256 .bf16) (g3 : b3.IsWhole) (b4 : Memref sig .tc .vmem S1x256 .f32) (g4 : b4.IsWhole)
  (b5 : Memref sig .tc .vmem S1x2048x256 .bf16) (g5 : b5.IsWhole) (b6 : Memref sig .tc .vmem S1x2048x256 .bf16) (g6 : b6.IsWhole)
  (b7 : Memref sig .tc .vmem S2x2x8x80x256 .bf16) (g7 : b7.IsWhole)
  (x0 x1 x2 : Vec Ideal S1x2048x256 .bf16) (x3 : Vec Ideal S1x2048x256 .f32) (x4 : Vec Ideal S1x256 .f32) (x5 : Vec Ideal S2x256x256 .f32)
  (x6 x7 : Vec Ideal S2x256x128 .f32) (x8 : Vec Ideal S2x1x128 .f32) (x9 x10 x11 : Vec Ideal S1x2048x256 .bf16) (x12 : Vec Ideal S1x256 .f32)
  (lg : Fin 2 → ℝ) (Q K W : Fin 2 → ℕ → Fin 128 → ℝ)
  (hq : ∀ g (t : Fin 2048) d, x0 (ix3 0 t (lane g d)) = ((Q g t.val d : ℝ) : EReal)) (hk : ∀ g (t : Fin 2048) d, x1 (ix3 0 t (lane g d)) = ((K g t.val d : ℝ) : EReal))
  (hv : ∀ g (t : Fin 2048) d, x2 (ix3 0 t (lane g d)) = ((W g t.val d : ℝ) : EReal))
  (hi : ∀ g (r c : Fin 256), x5 (ix3 g r c) = ((if c.val ≤ r.val then decay (lg g) (r.val - c.val) else 0 : ℝ) : EReal))
  (hd : ∀ g (r : Fin 256) (e : Fin 128), x6 (ix3 g r e) = ((decay (lg g) (r.val + 1) : ℝ) : EReal))
  (hb : ∀ g (r : Fin 256) (e : Fin 128), x7 (ix3 g r e) = ((decay (lg g) (255 - r.val) : ℝ) : EReal))
  (hc : ∀ g (e : Fin 128), x8 (ix3 g 0 e) = ((decay (lg g) 256 : ℝ) : EReal))

/-- The block of the output. -/
def block : Vec Ideal S1x2048x256 .bf16 := fun y =>
  finish (fun e => ((whole (lg (headOf (y 2))) (Q (headOf (y 2))) (K (headOf (y 2))) (W (headOf (y 2))) (y 1).val e : ℝ) : EReal))
    (x3 (ix3 0 (y 1) (y 2))) (x4 (ix2 0 (y 2))) (colOf (y 2))

include hq hk hv hi hd hb hc in
theorem piece_apply (g : Fin 2) (n : Fin 8) (r : Fin 256) (e : Fin 128) :
    piece a1 h1 a2 h2 a3 h3 a4 h4 a5 h5 a6 h6 a7 h7 a8 h8 a9 h9 x0 x1 x2 x3 x4 x5 x6 x7 x8 g n (ix3 0 r e)
      = block x3 x4 lg Q K W (ix3 0 (tok n r) (lane g e)) := by
  unfold piece
  have hch : ∀ l, chunk (fun n => View.readAt (Elt Ideal) a1.view (rowsRect g n) (h1.unread x0)) (fun n => View.readAt (Elt Ideal) a2.view (rowsRect g n) (h2.unread x1))
      (fun n => View.readAt (Elt Ideal) a3.view (rowsRect g n) (h3.unread x2)) (View.readAt (Elt Ideal) a6.view (innerRect g) (h6.unread x5))
      (View.readAt (Elt Ideal) a7.view (decayRect g) (h7.unread x6)) (View.readAt (Elt Ideal) a8.view (decayRect g) (h8.unread x7))
      (View.readAt (Elt Ideal) a9.view (chunkRect g) (h9.unread x8)) n.val n.isLt (ix2 r l)
      = ((whole (lg g) (Q g) (K g) (W g) (256 * n.val + r.val) l : ℝ) : EReal) := fun l =>
    chunk_real (lg g) (Q g) (K g) (W g) _ _ _ _ _ _ _
      (fun n r d => (load_apply a1 h1 x0 _ _ _ (rows_idx g n r d)).trans (hq g (tok n r) d)) (fun n r d => (load_apply a2 h2 x1 _ _ _ (rows_idx g n r d)).trans (hk g (tok n r) d))
      (fun n r d => (load_apply a3 h3 x2 _ _ _ (rows_idx g n r d)).trans (hv g (tok n r) d)) (fun r c => (load_apply a6 h6 x5 _ _ _ (inner_idx g r c)).trans (hi g r c))
      (fun r e => (load_apply a7 h7 x6 _ _ _ (decay_idx g r e)).trans (hd g r e)) (fun r e => (load_apply a8 h8 x7 _ _ _ (decay_idx g r e)).trans (hb g r e))
      (fun e => (load_apply a9 h9 x8 _ _ _ (chunk_idx g e)).trans (hc g e)) n.val n.isLt r l
  refine (finished_apply _ _ _ r e).trans ((finish_congr hch (load_apply a4 h4 x3 _ _ _ (rows_idx g n r e)) (load_apply a5 h5 x4 _ _ _ (gain_idx g e)) e).trans ?_)
  show _ = finish (fun e' => ((whole (lg (headOf (lane g e))) (Q (headOf (lane g e))) (K (headOf (lane g e))) (W (headOf (lane g e))) (tok n r).val e' : ℝ) : EReal))
    (x3 (ix3 0 (tok n r) (lane g e))) (x4 (ix2 0 (lane g e))) (colOf (lane g e))
  rw [headOf_lane, colOf_lane]
  rfl

include hq hk hv hi hd hb hc in
theorem block_eq : out0_A_13 c i a1 h1 a2 h2 a3 h3 a4 h4 a5 h5 a6 h6 a7 h7 a8 h8 a9 h9 b1 g1 b2 g2 b3 g3 b4 g4 b5 g5 b6 g6 b7 g7 x0 x1 x2 x3 x4 x5 x6 x7 x8 x9 x10 x11 x12
    = block x3 x4 lg Q K W := by
  funext y
  unfold out0_A_13
  rw [View.read_writes_junk_eq_canon]
  refine View.canon_apply_of_pieces (Val := Elt Ideal) (e := .bf16) (block x3 x4 lg Q K W) _ ?_ y
    (cover0_A_13 c i a1 h1 a2 h2 a3 h3 a4 h4 a5 h5 a6 h6 a7 h7 a8 h8 a9 h9 b1 g1 b2 g2 b3 g3 b4 g4 b5 g5 b6 g6 b7 g7 x0 x1 x2 x3 x4 x5 x6 x7 x8 x9 x10 x11 x12 y)
  rw [pieces_eq]
  intro p hp x
  obtain ⟨⟨g, n⟩, -, rfl⟩ := List.mem_map.1 hp
  obtain ⟨z, r, e, rfl⟩ : ∃ (z : Fin 1) (r : Fin 256) (e : Fin 128), x = ix3 z r e := ix3_of x
  obtain rfl : z = 0 := Subsingleton.elim _ _
  exact (piece_apply a1 h1 a2 h2 a3 h3 a4 h4 a5 h5 a6 h6 a7 h7 a8 h8 a9 h9 x0 x1 x2 x3 x4 x5 x6 x7 x8 lg Q K W hq hk hv hi hd hb hc g n r e).trans
    (congrArg (block x3 x4 lg Q K W) (out_emb g n r e)).symm

end block

end Cert.KernelIdeal.Ret

end
-- ==== Proof.RetTables.lean ====
/- The decay tables of the retention: every entry is a power of the head's rate. -/
module

public import proofs.«01_k».proof.Proof.RetBlock
public import proofs.«01_k».proof.Proof.Gen.KernelIdeal.Value
public import Idealize.ShloMosaic.Lib.ValueLayout

@[expose] public section

noncomputable section

open Idealize.ShloMosaic Idealize.ShloMosaic.TcCoe Idealize.SL.Sem
open Idealize.ShloMosaic.Pipeline (Dat)

namespace Layer.Ret

/-- A small count as a float. -/
theorem count_eq (n : ℕ) (hn : n < 65536) : FloatOps.sitofp (F := Ideal) FTy.f32 (BitVec.ofNat 32 n) = ((n : ℝ) : EReal) := by
  have h : (BitVec.ofNat 32 n).toInt = (n : ℤ) := by
    rw [BitVec.toInt_eq_toNat_of_lt (by rw [BitVec.toNat_ofNat]; omega), BitVec.toNat_ofNat]
    congr 1
    omega
  show (((BitVec.ofNat 32 n).toInt : ℝ) : EReal) = _
  rw [h, Int.cast_natCast]

theorem word_two : Ideal.ofBits FTy.f32 0x40000000#32 = ((2 : ℝ) : EReal) := by
  simp [Ideal.ofBits, Ideal.ieee, -EReal.coe_mul]; norm_num
theorem word_five : Ideal.ofBits FTy.f32 0xC0A00000#32 = ((-5 : ℝ) : EReal) := by
  simp [Ideal.ofBits, Ideal.ieee, -EReal.coe_mul]; norm_num
theorem word_255 : Ideal.ofBits FTy.f32 0x437F0000#32 = ((255 : ℝ) : EReal) := by
  simp [Ideal.ofBits, Ideal.ieee, -EReal.coe_mul]; norm_num
theorem word_256 : Ideal.ofBits FTy.f32 0x43800000#32 = ((256 : ℝ) : EReal) := by
  simp [Ideal.ofBits, Ideal.ieee, -EReal.coe_mul]; norm_num
/-- The logarithm of head `h`'s rate, as both programs compute it. -/
def logRate (h : ℕ) : EReal := Ideal.log (1
  - Ideal.pow (Ideal.ofBits FTy.f32 0x40000000#32) (Ideal.ofBits FTy.f32 0xC0A00000#32 - FloatOps.sitofp (F := Ideal) FTy.f32 (BitVec.ofNat 32 h)))

/-- The same logarithm as a real. -/
def rate (h : ℕ) : ℝ := Real.log (1 - Real.rpow 2 (-5 - h))

theorem logRate_eq (h : ℕ) (hh : h < 65536) : logRate h = ((rate h : ℝ) : EReal) := by
  unfold logRate rate
  rw [count_eq h hh, word_two, word_five, ← EReal.coe_sub]
  show Ideal.log (1 - ((Real.rpow 2 (-5 - h) : ℝ) : EReal)) = _
  rw [← EReal.coe_one, ← EReal.coe_sub]
  have hlt : Real.rpow 2 (-5 - h) < 1 := Real.rpow_lt_one_of_one_lt_of_neg (by norm_num) (by have : (0 : ℝ) ≤ h := Nat.cast_nonneg h; linarith)
  exact if_neg (by linarith)

theorem exp_count (lg : ℝ) (n : ℕ) : Ideal.exp (((n : ℝ) : EReal) * (lg : EReal)) = ((decay lg n : ℝ) : EReal) := by
  rw [← EReal.coe_mul]; rfl

/-- The masked decay between two places. -/
theorem masked_eq (lg : ℝ) (r c : ℕ) (hr : r < 65536) (hc : c < 65536) :
    (Scalar.select (α := EReal) (Ideal.cmp CmpFPredicate.oge (FloatOps.sitofp (F := Ideal) FTy.f32 (BitVec.ofNat 32 r) - FloatOps.sitofp (F := Ideal) FTy.f32 (BitVec.ofNat 32 c)) 0)
      (Ideal.exp (max (FloatOps.sitofp (F := Ideal) FTy.f32 (BitVec.ofNat 32 r) - FloatOps.sitofp (F := Ideal) FTy.f32 (BitVec.ofNat 32 c)) 0 * (lg : EReal))) 0)
      = ((if c ≤ r then decay lg (r - c) else 0 : ℝ) : EReal) := by
  rw [count_eq r hr, count_eq c hc, ← EReal.coe_sub]
  by_cases h : c ≤ r
  · have h' : (0 : EReal) ≤ (((r : ℝ) - (c : ℝ) : ℝ) : EReal) := EReal.coe_nonneg.2 (sub_nonneg.2 (Nat.cast_le.2 h))
    rw [max_eq_left h', ← Nat.cast_sub h, exp_count, if_pos h]
    have : Ideal.cmp CmpFPredicate.oge (((r - c : ℕ) : ℝ) : EReal) 0 = 1#1 := by
      rw [Nat.cast_sub h]; show BitVec.ofBool (decide _) = _; rw [decide_eq_true h']; rfl
    rw [this]; rfl
  · have h' : ¬ (0 : EReal) ≤ (((r : ℝ) - (c : ℝ) : ℝ) : EReal) := by
      rw [EReal.coe_nonneg, sub_nonneg, Nat.cast_le]; exact h
    have : Ideal.cmp CmpFPredicate.oge (((r : ℝ) - (c : ℝ) : ℝ) : EReal) 0 = 0#1 := by
      show BitVec.ofBool (decide _) = _; rw [decide_eq_false h']; rfl
    rw [this, if_neg h]; rfl

end Layer.Ret

namespace Cert.KernelIdeal.Ret

open Cert.KernelIdeal Cert.KernelIdeal.Gen Layer Layer.Ret

/-- The rates' logarithms and the places, as the host computes them. -/
def logs : Vec Ideal S4 .f32 := Host.log (subf (broadcastInDim S4 ![] bcast_S_S4 (constant S_ .f32 0x3F800000#32))
  (Host.powf (broadcastInDim S4 ![] bcast_S_S4 (constant S_ .f32 0x40000000#32))
    (subf (broadcastInDim S4 ![] bcast_S_S4 (constant S_ .f32 0xC0A00000#32)) (sitofp .f32 (iotaInDim S4 32 0)))) : FVec Ideal S4 .f32)
def places : Vec Ideal S256 .f32 := (sitofp .f32 (iotaInDim S256 32 0) : FVec Ideal S256 .f32)
def gaps : Vec Ideal S256x256 .f32 := subf (broadcastInDim S256x256 ![0, 1] bcast_S256x1_S256x256_0_1 (broadcastInDim S256x1 ![0] bcast_S256_S256x1_0 places))
  (broadcastInDim S256x256 ![0, 1] bcast_S1x256_S256x256_0_1 (broadcastInDim S1x256 ![1] bcast_S256_S1x256_1 places) : FVec Ideal S256x256 .f32)

theorem logs_apply (h : Fin 4) : logs (ix1 h) = ((rate h : ℝ) : EReal) := by
  refine Eq.trans ?_ (logRate_eq h.val (by omega))
  unfold logs
  pointwise
  rfl

theorem gaps_apply (r c : Fin 256) : gaps (ix2 r c) = (FloatOps.sitofp (F := Ideal) FTy.f32 (BitVec.ofNat 32 r.val) - FloatOps.sitofp (F := Ideal) FTy.f32 (BitVec.ofNat 32 c.val) : EReal) := by
  unfold gaps places
  pointwise

variable (m : (ℓ : Loc nD τ sig) → Buf (Elt Ideal) ℓ) (c : Dev nD)

theorem V_gain (k : Fin 512) : V m c main_v1 (ix2 0 k) = m ((c.tc : Thread nD τ).loc main_arg4) (ix2 0 k) := by
  have e : V m c main_v1 = (broadcastInDim S1x512 ![1] bcast_S512_S1x512_1 (shapeCast S512 (m ((c.tc : Thread nD τ).loc main_arg4) : Vec Ideal S1x512 .f32) shapeCasts_S1x512_S512) : Vec Ideal S1x512 .f32) := by
    unfold V; simp only [hostOps0, hostOps0_1, hostOps0_2, List.flatten_cons, List.flatten_nil, List.append_nil, List.cons_append, List.nil_append]; after_results; rfl
  rw [e]
  generalize m ((c.tc : Thread nD τ).loc main_arg4) = z
  pointwise

theorem V_inner (h : Fin 4) (r s : Fin 256) : V m c main_v29 (ix3 h r s)
    = ((if s.val ≤ r.val then decay (rate h) (r.val - s.val) else 0 : ℝ) : EReal) := by
  have e : V m c main_v29 = (select (broadcastInDim S4x256x256 ![0, 1, 2] bcast_S1x256x256_S4x256x256_0_1_2 (cmpf .oge (broadcastInDim S1x256x256 ![1, 2] bcast_S256x256_S1x256x256_1_2 gaps : FVec Ideal S1x256x256 .f32)
      (broadcastInDim S1x256x256 ![] bcast_S_S1x256x256 (constant (F := Ideal) S_ .f32 0x00000000#32))))
      (Host.exp (mulf (broadcastInDim S4x256x256 ![0, 1, 2] bcast_S1x256x256_S4x256x256_0_1_2 (broadcastInDim S1x256x256 ![1, 2] bcast_S256x256_S1x256x256_1_2
        (maximumf gaps (broadcastInDim S256x256 ![] bcast_S_S256x256 (constant (F := Ideal) S_ .f32 0x00000000#32)) : FVec Ideal S256x256 .f32)))
        (broadcastInDim S4x256x256 ![0, 1, 2] bcast_S4x1x1_S4x256x256_0_1_2 (broadcastInDim S4x1x1 ![0] bcast_S4_S4x1x1_0 logs)) : FVec Ideal S4x256x256 .f32))
      (broadcastInDim S4x256x256 ![] bcast_S_S4x256x256 (constant (F := Ideal) S_ .f32 0x00000000#32)) : Vec Ideal S4x256x256 .f32) := by
    unfold V; simp only [hostOps0, hostOps0_1, hostOps0_2, List.flatten_cons, List.flatten_nil, List.append_nil, List.cons_append, List.nil_append]; after_results; rfl
  rw [e]
  have hl := logs_apply h
  have hg := gaps_apply r s
  generalize logs = L at hl ⊢
  generalize gaps = G at hg ⊢
  refine Eq.trans ?_ (masked_eq (rate h) r.val s.val (by omega) (by omega))
  pointwise
  rw [hl, hg]

theorem V_query (h : Fin 4) (r : Fin 256) (d : Fin 128) : V m c main_v39 (ix3 h r d) = ((decay (rate h) (r.val + 1) : ℝ) : EReal) := by
  have e : V m c main_v39 = (broadcastInDim S4x256x128 ![0, 1, 2] bcast_S4x256x1_S4x256x128_0_1_2 (broadcastInDim S4x256x1 ![0, 1] bcast_S4x256_S4x256x1_0_1
      (Host.exp (mulf (broadcastInDim S4x256 ![0, 1] bcast_S1x256_S4x256_0_1 (addf (broadcastInDim S1x256 ![1] bcast_S256_S1x256_1 places)
        (broadcastInDim S1x256 ![] bcast_S_S1x256 (constant (F := Ideal) S_ .f32 0x3F800000#32)) : FVec Ideal S1x256 .f32))
        (broadcastInDim S4x256 ![0, 1] bcast_S4x1_S4x256_0_1 (broadcastInDim S4x1 ![0] bcast_S4_S4x1_0 logs)) : FVec Ideal S4x256 .f32))) : Vec Ideal S4x256x128 .f32) := by
    unfold V; simp only [hostOps0, hostOps0_1, hostOps0_2, List.flatten_cons, List.flatten_nil, List.append_nil, List.cons_append, List.nil_append]; after_results; rfl
  rw [e]
  have hl := logs_apply h
  generalize logs = L at hl ⊢
  refine Eq.trans ?_ (exp_count (rate h) (r.val + 1))
  rw [Nat.cast_add, Nat.cast_one, EReal.coe_add, EReal.coe_one, ← count_eq r.val (by omega), ← hl]
  unfold places
  pointwise

theorem V_key (h : Fin 4) (r : Fin 256) (d : Fin 128) : V m c main_v49 (ix3 h r d) = ((decay (rate h) (255 - r.val) : ℝ) : EReal) := by
  have e : V m c main_v49 = (broadcastInDim S4x256x128 ![0, 1, 2] bcast_S4x256x1_S4x256x128_0_1_2 (broadcastInDim S4x256x1 ![0, 1] bcast_S4x256_S4x256x1_0_1
      (Host.exp (mulf (broadcastInDim S4x256 ![0, 1] bcast_S1x256_S4x256_0_1 (subf (broadcastInDim S1x256 ![] bcast_S_S1x256 (constant (F := Ideal) S_ .f32 0x437F0000#32))
        (broadcastInDim S1x256 ![1] bcast_S256_S1x256_1 places) : FVec Ideal S1x256 .f32))
        (broadcastInDim S4x256 ![0, 1] bcast_S4x1_S4x256_0_1 (broadcastInDim S4x1 ![0] bcast_S4_S4x1_0 logs)) : FVec Ideal S4x256 .f32))) : Vec Ideal S4x256x128 .f32) := by
    unfold V; simp only [hostOps0, hostOps0_1, hostOps0_2, List.flatten_cons, List.flatten_nil, List.append_nil, List.cons_append, List.nil_append]; after_results; rfl
  rw [e]
  have hl := logs_apply h
  generalize logs = L at hl ⊢
  refine Eq.trans ?_ (exp_count (rate h) (255 - r.val))
  rw [Nat.cast_sub (by omega), EReal.coe_sub, show (((255 : ℕ) : ℝ) : EReal) = Ideal.ofBits FTy.f32 0x437F0000#32 from word_255.symm, ← count_eq r.val (by omega), ← hl]
  unfold places
  pointwise

theorem V_chunk (h : Fin 4) (d : Fin 128) : V m c main_v55 (ix3 h 0 d) = ((decay (rate h) 256 : ℝ) : EReal) := by
  have e : V m c main_v55 = (broadcastInDim S4x1x128 ![0, 1, 2] bcast_S4x1x1_S4x1x128_0_1_2 (broadcastInDim S4x1x1 ![0, 1] bcast_S4x1_S4x1x1_0_1 (broadcastInDim S4x1 ![0] bcast_S4_S4x1_0
      (Host.exp (mulf (broadcastInDim S4 ![] bcast_S_S4 (constant (F := Ideal) S_ .f32 0x43800000#32)) logs : FVec Ideal S4 .f32)))) : Vec Ideal S4x1x128 .f32) := by
    unfold V; simp only [hostOps0, hostOps0_1, hostOps0_2, List.flatten_cons, List.flatten_nil, List.append_nil, List.cons_append, List.nil_append]; after_results; rfl
  rw [e]
  have hl := logs_apply h
  generalize logs = L at hl ⊢
  refine Eq.trans ?_ (exp_count (rate h) 256)
  rw [show (((256 : ℕ) : ℝ) : EReal) = Ideal.ofBits FTy.f32 0x43800000#32 from word_256.symm, ← hl]
  pointwise

end Cert.KernelIdeal.Ret

end
-- ==== Proof.RetArray.lean ====
/- The retention of the two mixers' call: the array of the first result after the run, as one function of the arguments. -/
module

public import proofs.«01_k».proof.Proof.RetTables

@[expose] public section

noncomputable section

open Idealize.ShloMosaic Idealize.ShloMosaic.TcCoe Idealize.SL.Sem
open Idealize.ShloMosaic.Pipeline (Dat)

namespace Layer.Ret

/-- The head of a feature and the feature's place in its head. -/
def headAt (l : Fin 512) : Fin 4 := ⟨l / 128, by omega⟩
def colAt (l : Fin 512) : Fin 128 := ⟨l % 128, Nat.mod_lt _ (by decide)⟩
def featAt (h : Fin 4) (d : Fin 128) : Fin 512 := ⟨128 * h + d, by omega⟩

/-- A head's tokens as reals, by the token's number. -/
def reals (X : Fin 32 → Fin 2048 → Fin 512 → EReal) (b : Fin 32) (h : Fin 4) (t : ℕ) (d : Fin 128) : ℝ :=
  if ht : t < 2048 then (X b ⟨t, ht⟩ (featAt h d)).toReal else 0

/-- Every entry is a real. -/
def Finite (X : Fin 32 → Fin 2048 → Fin 512 → EReal) : Prop := ∀ b t l, X b t l ≠ ⊤ ∧ X b t l ≠ ⊥

theorem reals_eq {X : Fin 32 → Fin 2048 → Fin 512 → EReal} (hX : Finite X) (b : Fin 32) (h : Fin 4) (t : Fin 2048) (d : Fin 128) :
    X b t (featAt h d) = ((reals X b h t.val d : ℝ) : EReal) := by
  unfold reals
  rw [dif_pos t.isLt]
  exact (EReal.coe_toReal (hX b t _).1 (hX b t _).2).symm

/-- The retention's output at a token and a feature: the head's decayed attention over the past, normalised, gated and scaled. -/
def retained (q k v g : Fin 32 → Fin 2048 → Fin 512 → EReal) (beta : Fin 512 → EReal) (b : Fin 32) (t : Fin 2048) (l : Fin 512) : EReal :=
  Cert.KernelIdeal.Ret.finish (fun e => ((whole (rate (headAt l).val) (reals q b (headAt l)) (reals k b (headAt l)) (reals v b (headAt l)) t.val e : ℝ) : EReal)) (g b t l) (beta l) (colAt l)

end Layer.Ret

namespace Cert.KernelIdeal.Ret

open Cert.KernelIdeal Cert.KernelIdeal.Gen Layer Layer.Ret

/-- The blocks' places: two points per batch entry, each on half of the heads. -/
theorem idx_facts : ∀ t : Fin cfg0.N,
    (win0_0.index t 0 = t.val / 2 ∧ win0_0.index t 1 = 0 ∧ win0_0.index t 2 = t.val % 2)
    ∧ (win0_1.index t 0 = t.val / 2 ∧ win0_1.index t 1 = 0 ∧ win0_1.index t 2 = t.val % 2)
    ∧ (win0_2.index t 0 = t.val / 2 ∧ win0_2.index t 1 = 0 ∧ win0_2.index t 2 = t.val % 2)
    ∧ (win0_3.index t 0 = t.val / 2 ∧ win0_3.index t 1 = 0 ∧ win0_3.index t 2 = t.val % 2)
    ∧ (win0_4.index t 0 = 0 ∧ win0_4.index t 1 = t.val % 2)
    ∧ (win0_5.index t 0 = t.val % 2 ∧ win0_5.index t 1 = 0 ∧ win0_5.index t 2 = 0)
    ∧ (win0_6.index t 0 = t.val % 2 ∧ win0_6.index t 1 = 0 ∧ win0_6.index t 2 = 0)
    ∧ (win0_7.index t 0 = t.val % 2 ∧ win0_7.index t 1 = 0 ∧ win0_7.index t 2 = 0)
    ∧ (win0_8.index t 0 = t.val % 2 ∧ win0_8.index t 1 = 0 ∧ win0_8.index t 2 = 0)
    ∧ (win0_13.index t 0 = t.val / 2 ∧ win0_13.index t 1 = 0 ∧ win0_13.index t 2 = t.val % 2) := by decide +kernel

theorem lt_points (t : Fin cfg0.N) : t.val < 64 := t.isLt

/-- The batch entry and the half of a point, a half's features and its heads. -/
def batchAt (t : Fin cfg0.N) : Fin 32 := ⟨t.val / 2, by have := lt_points t; omega⟩
def wide (t : Fin cfg0.N) (j : Fin 256) : Fin 512 := ⟨256 * (t.val % 2) + j.val, by omega⟩
def headOn (t : Fin cfg0.N) (g : Fin 2) : Fin 4 := ⟨2 * (t.val % 2) + g.val, by omega⟩

theorem wide_lane (t : Fin cfg0.N) (g : Fin 2) (d : Fin 128) : wide t (lane g d) = featAt (headOn t g) d := by
  apply Fin.ext; show 256 * (t.val % 2) + (128 * g.val + d.val) = 128 * (2 * (t.val % 2) + g.val) + d.val; omega
theorem headAt_wide (t : Fin cfg0.N) (j : Fin 256) : headAt (wide t j) = headOn t (headOf j) := by
  apply Fin.ext; show (256 * (t.val % 2) + j.val) / 128 = 2 * (t.val % 2) + j.val / 128; omega
theorem colAt_wide (t : Fin cfg0.N) (j : Fin 256) : colAt (wide t j) = colOf j := by
  apply Fin.ext; show (256 * (t.val % 2) + j.val) % 128 = j.val % 128; omega

theorem finish_sides {o : Fin 128 → EReal} {gt gt' b b' : EReal} (hg : gt = gt') (hb : b = b') (e : Fin 128) : finish o gt b e = finish o gt' b' e := by
  rw [hg, hb]

theorem retained_wide (q k v g : Fin 32 → Fin 2048 → Fin 512 → EReal) (beta : Fin 512 → EReal) (t : Fin cfg0.N) (s : Fin 2048) (j : Fin 256) :
    retained q k v g beta (batchAt t) s (wide t j)
      = finish (fun e => ((whole (rate (headOn t (headOf j)).val) (reals q (batchAt t) (headOn t (headOf j))) (reals k (batchAt t) (headOn t (headOf j)))
          (reals v (batchAt t) (headOn t (headOf j))) s.val e : ℝ) : EReal)) (g (batchAt t) s (wide t j)) (beta (wide t j)) (colOf j) := by
  unfold retained
  rw [headAt_wide, colAt_wide]

variable (m : (ℓ : Loc nD τ sig) → Buf (Elt Ideal) ℓ) (c : Dev nD)

theorem iblk0 (t : Fin cfg0.N) (y : S1x2048x256.Idx) : iblk m c 0 t y = V m c main_arg0 (ix3 (batchAt t) (y 1) (wide t (y 2))) := by
  show V m c main_arg0 ((win0_0.blk t).view.emb y) = _
  congr 1
  funext a
  apply Fin.ext
  refine (win0_0.rect_emb_val_off t y a).trans ?_
  have h := (idx_facts t).1
  have h0 : (y 0).val < 1 := (y 0).isLt
  fin_cases a
  · show win0_0.index t 0 * 1 + (y 0).val = _
    rw [h.1]; show _ = t.val / 2; omega
  · show win0_0.index t 1 * 2048 + (y 1).val = _
    rw [h.2.1]; show _ = (y 1).val; omega
  · show win0_0.index t 2 * 256 + (y 2).val = _
    rw [h.2.2]; show _ = 256 * (t.val % 2) + (y 2).val; omega

theorem iblk1 (t : Fin cfg0.N) (y : S1x2048x256.Idx) : iblk m c 1 t y = V m c main_arg1 (ix3 (batchAt t) (y 1) (wide t (y 2))) := by
  show V m c main_arg1 ((win0_1.blk t).view.emb y) = _
  congr 1
  funext a
  apply Fin.ext
  refine (win0_1.rect_emb_val_off t y a).trans ?_
  have h := (idx_facts t).2.1
  have h0 : (y 0).val < 1 := (y 0).isLt
  fin_cases a
  · show win0_1.index t 0 * 1 + (y 0).val = _
    rw [h.1]; show _ = t.val / 2; omega
  · show win0_1.index t 1 * 2048 + (y 1).val = _
    rw [h.2.1]; show _ = (y 1).val; omega
  · show win0_1.index t 2 * 256 + (y 2).val = _
    rw [h.2.2]; show _ = 256 * (t.val % 2) + (y 2).val; omega

theorem iblk2 (t : Fin cfg0.N) (y : S1x2048x256.Idx) : iblk m c 2 t y = V m c main_arg2 (ix3 (batchAt t) (y 1) (wide t (y 2))) := by
  show V m c main_arg2 ((win0_2.blk t).view.emb y) = _
  congr 1
  funext a
  apply Fin.ext
  refine (win0_2.rect_emb_val_off t y a).trans ?_
  have h := (idx_facts t).2.2.1
  have h0 : (y 0).val < 1 := (y 0).isLt
  fin_cases a
  · show win0_2.index t 0 * 1 + (y 0).val = _
    rw [h.1]; show _ = t.val / 2; omega
  · show win0_2.index t 1 * 2048 + (y 1).val = _
    rw [h.2.1]; show _ = (y 1).val; omega
  · show win0_2.index t 2 * 256 + (y 2).val = _
    rw [h.2.2]; show _ = 256 * (t.val % 2) + (y 2).val; omega

theorem iblk3 (t : Fin cfg0.N) (y : S1x2048x256.Idx) : iblk m c 3 t y = V m c main_arg3 (ix3 (batchAt t) (y 1) (wide t (y 2))) := by
  show V m c main_arg3 ((win0_3.blk t).view.emb y) = _
  congr 1
  funext a
  apply Fin.ext
  refine (win0_3.rect_emb_val_off t y a).trans ?_
  have h := (idx_facts t).2.2.2.1
  have h0 : (y 0).val < 1 := (y 0).isLt
  fin_cases a
  · show win0_3.index t 0 * 1 + (y 0).val = _
    rw [h.1]; show _ = t.val / 2; omega
  · show win0_3.index t 1 * 2048 + (y 1).val = _
    rw [h.2.1]; show _ = (y 1).val; omega
  · show win0_3.index t 2 * 256 + (y 2).val = _
    rw [h.2.2]; show _ = 256 * (t.val % 2) + (y 2).val; omega

theorem iblk4 (t : Fin cfg0.N) (j : Fin 256) : iblk m c 4 t (ix2 (n0 := 1) (n1 := 256) 0 j) = V m c main_v1 (ix2 0 (wide t j)) := by
  show V m c main_v1 ((win0_4.blk t).view.emb (ix2 (n0 := 1) (n1 := 256) 0 j)) = _
  congr 1
  funext a
  apply Fin.ext
  refine (win0_4.rect_emb_val_off t (ix2 (n0 := 1) (n1 := 256) 0 j) a).trans ?_
  have h := (idx_facts t).2.2.2.2.1
  fin_cases a
  · show win0_4.index t 0 * 1 + 0 = _
    rw [h.1]; rfl
  · show win0_4.index t 1 * 256 + j.val = _
    rw [h.2]; show _ = 256 * (t.val % 2) + j.val; omega

theorem iblk5 (t : Fin cfg0.N) (y : S2x256x256.Idx) : iblk m c 5 t y = V m c main_v29 (ix3 (headOn t (y 0)) (y 1) (y 2)) := by
  show V m c main_v29 ((win0_5.blk t).view.emb y) = _
  congr 1
  funext a
  apply Fin.ext
  refine (win0_5.rect_emb_val_off t y a).trans ?_
  have h := (idx_facts t).2.2.2.2.2.1
  fin_cases a
  · show win0_5.index t 0 * 2 + (y 0).val = _
    rw [h.1]; show _ = 2 * (t.val % 2) + (y 0).val; omega
  · show win0_5.index t 1 * 256 + (y 1).val = _
    rw [h.2.1]; show _ = (y 1).val; omega
  · show win0_5.index t 2 * 256 + (y 2).val = _
    rw [h.2.2]; show _ = (y 2).val; omega

theorem iblk6 (t : Fin cfg0.N) (y : S2x256x128.Idx) : iblk m c 6 t y = V m c main_v39 (ix3 (headOn t (y 0)) (y 1) (y 2)) := by
  show V m c main_v39 ((win0_6.blk t).view.emb y) = _
  congr 1
  funext a
  apply Fin.ext
  refine (win0_6.rect_emb_val_off t y a).trans ?_
  have h := (idx_facts t).2.2.2.2.2.2.1
  fin_cases a
  · show win0_6.index t 0 * 2 + (y 0).val = _
    rw [h.1]; show _ = 2 * (t.val % 2) + (y 0).val; omega
  · show win0_6.index t 1 * 256 + (y 1).val = _
    rw [h.2.1]; show _ = (y 1).val; omega
  · show win0_6.index t 2 * 128 + (y 2).val = _
    rw [h.2.2]; show _ = (y 2).val; omega

theorem iblk7 (t : Fin cfg0.N) (y : S2x256x128.Idx) : iblk m c 7 t y = V m c main_v49 (ix3 (headOn t (y 0)) (y 1) (y 2)) := by
  show V m c main_v49 ((win0_7.blk t).view.emb y) = _
  congr 1
  funext a
  apply Fin.ext
  refine (win0_7.rect_emb_val_off t y a).trans ?_
  have h := (idx_facts t).2.2.2.2.2.2.2.1
  fin_cases a
  · show win0_7.index t 0 * 2 + (y 0).val = _
    rw [h.1]; show _ = 2 * (t.val % 2) + (y 0).val; omega
  · show win0_7.index t 1 * 256 + (y 1).val = _
    rw [h.2.1]; show _ = (y 1).val; omega
  · show win0_7.index t 2 * 128 + (y 2).val = _
    rw [h.2.2]; show _ = (y 2).val; omega

theorem iblk8 (t : Fin cfg0.N) (y : S2x1x128.Idx) : iblk m c 8 t y = V m c main_v55 (ix3 (headOn t (y 0)) (y 1) (y 2)) := by
  show V m c main_v55 ((win0_8.blk t).view.emb y) = _
  congr 1
  funext a
  apply Fin.ext
  refine (win0_8.rect_emb_val_off t y a).trans ?_
  have h := (idx_facts t).2.2.2.2.2.2.2.2.1
  fin_cases a
  · show win0_8.index t 0 * 2 + (y 0).val = _
    rw [h.1]; show _ = 2 * (t.val % 2) + (y 0).val; omega
  · show win0_8.index t 1 * 1 + (y 1).val = _
    rw [h.2.1]; show _ = (y 1).val; omega
  · show win0_8.index t 2 * 128 + (y 2).val = _
    rw [h.2.2]; show _ = (y 2).val; omega

theorem emb13 (t : Fin cfg0.N) (y : S1x2048x256.Idx) : ((win0_13.blk t).view.emb y : S32x2048x512.Idx) = ix3 (batchAt t) (y 1) (wide t (y 2)) := by
  funext a
  apply Fin.ext
  refine (win0_13.rect_emb_val_off t y a).trans ?_
  have h := (idx_facts t).2.2.2.2.2.2.2.2.2
  have h0 : (y 0).val < 1 := (y 0).isLt
  fin_cases a
  · show win0_13.index t 0 * 1 + (y 0).val = _
    rw [h.1]; show _ = t.val / 2; omega
  · show win0_13.index t 1 * 2048 + (y 1).val = _
    rw [h.2.1]; show _ = (y 1).val; omega
  · show win0_13.index t 2 * 256 + (y 2).val = _
    rw [h.2.2]; show _ = 256 * (t.val % 2) + (y 2).val; omega

/-- An argument by batch entry, token and feature. -/
def rows (x : Vec Ideal S32x2048x512 .bf16) (b : Fin 32) (t : Fin 2048) (l : Fin 512) : EReal := x (ix3 b t l)
def gates (x : Vec Ideal S32x2048x512 .f32) (b : Fin 32) (t : Fin 2048) (l : Fin 512) : EReal := x (ix3 b t l)
def gains (x : Vec Ideal S1x512 .f32) (l : Fin 512) : EReal := x (ix2 0 l)

/-- The first result as one array. -/
def array : Vec Ideal S32x2048x512 .bf16 := fun i =>
  retained (rows (m ((c.tc : Thread nD τ).loc main_arg0))) (rows (m ((c.tc : Thread nD τ).loc main_arg1))) (rows (m ((c.tc : Thread nD τ).loc main_arg2)))
    (gates (m ((c.tc : Thread nD τ).loc main_arg3))) (gains (m ((c.tc : Thread nD τ).loc main_arg4))) (i 0) (i 1) (i 2)

variable (hq : Finite (rows (m ((c.tc : Thread nD τ).loc main_arg0)))) (hk : Finite (rows (m ((c.tc : Thread nD τ).loc main_arg1))))
  (hv : Finite (rows (m ((c.tc : Thread nD τ).loc main_arg2))))

/-- One window of queries, keys or values as reals. -/
theorem window_real {x : Vec Ideal S32x2048x512 .bf16} (hx : Finite (rows x)) {B : Vec Ideal S1x2048x256 .bf16} (t : Fin cfg0.N)
    (hB : ∀ y : S1x2048x256.Idx, B y = x (ix3 (batchAt t) (y 1) (wide t (y 2)))) (g : Fin 2) (s : Fin 2048) (d : Fin 128) :
    B (ix3 0 s (lane g d)) = ((reals (rows x) (batchAt t) (headOn t g) s.val d : ℝ) : EReal) := by
  refine (hB _).trans ?_
  show x (ix3 (batchAt t) s (wide t (lane g d))) = _
  rw [wide_lane]
  exact reals_eq hx _ _ _ _

include hq hk hv in
theorem flushed_eq (t : Fin cfg0.N) : (dats m 0 c).flushed 13 t = ((cfg0.win 13).blk t).view.read (Elt Ideal) (array m c) := by
  rw [Value.flushed13_A]
  refine (congrArg ((cfg0.win 13).cut (grid0.coords t)) (block_eq c (grid0.coords t) _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (fun g => rate (headOn t g).val) (fun g => reals (rows (m ((c.tc : Thread nD τ).loc main_arg0))) (batchAt t) (headOn t g))
    (fun g => reals (rows (m ((c.tc : Thread nD τ).loc main_arg1))) (batchAt t) (headOn t g)) (fun g => reals (rows (m ((c.tc : Thread nD τ).loc main_arg2))) (batchAt t) (headOn t g))
    (window_real hq t fun y => (iblk0 m c t y).trans (congrFun (V_main_arg0 m c) _))
    (window_real hk t fun y => (iblk1 m c t y).trans (congrFun (V_main_arg1 m c) _))
    (window_real hv t fun y => (iblk2 m c t y).trans (congrFun (V_main_arg2 m c) _))
    (fun g r s => (iblk5 m c t _).trans (V_inner m c _ _ _)) (fun g r e => (iblk6 m c t _).trans (V_query m c _ _ _))
    (fun g r e => (iblk7 m c t _).trans (V_key m c _ _ _)) (fun g e => (iblk8 m c t _).trans (V_chunk m c _ _)))).trans ?_
  funext y
  show block _ _ _ _ _ _ y = array m c ((win0_13.blk t).view.emb y)
  rw [emb13]
  refine Eq.trans ?_ (retained_wide _ _ _ _ _ t (y 1) (y 2)).symm
  unfold block
  refine finish_sides ?_ ?_ _
  · exact (iblk3 m c t (ix3 0 (y 1) (y 2))).trans (congrFun (V_main_arg3 m c) _)
  · exact (iblk4 m c t (y 2)).trans (V_gain m c _)

/-- Every index of the result is in the block of its point. -/
theorem cover (i : S32x2048x512.Idx) : ∃ t : Fin cfg0.N, (cfg0.win 13).flush t = true ∧ i ∈ ((cfg0.win 13).blk t).view.set := by
  have h0 : (i 0).val < 32 := (i 0).isLt
  have h2 : (i 2).val < 512 := (i 2).isLt
  obtain ⟨t, ht⟩ : ∃ t : Fin cfg0.N, t.val = 2 * (i 0).val + (i 2).val / 256 := ⟨⟨2 * (i 0).val + (i 2).val / 256, show _ < 64 by omega⟩, rfl⟩
  obtain ⟨y, hy⟩ : ∃ y : S1x2048x256.Idx, y = ix3 (n0 := 1) (n1 := 2048) (n2 := 256) 0 (i 1) ⟨(i 2).val % 256, by omega⟩ := ⟨_, rfl⟩
  refine ⟨t, (by decide +kernel : ∀ t : Fin cfg0.N, win0_13.flush t = true) t, ?_⟩
  have e : (show S32x2048x512.Idx from (win0_13.blk t).view.emb y) = i := by
    refine (emb13 t y).trans ?_
    subst hy
    funext a
    fin_cases a
    · apply Fin.ext
      show t.val / 2 = (i 0).val
      omega
    · rfl
    · apply Fin.ext
      show 256 * (t.val % 2) + (i 2).val % 256 = (i 2).val
      omega
  exact Eq.mp (congrArg (· ∈ ((cfg0.win 13).blk t).view.set) e) (View.emb_mem_set _ y)

include hq hk hv in
theorem result_eq : (dats m 0 c).arrAt 13 cfg0.N = array m c :=
  (dats m 0 c).arrAt_eq_of_cover 13 (array m c) (fun t _ => flushed_eq m c hq hk hv t) cover

end Cert.KernelIdeal.Ret

end
-- ==== Proof.RetReference.lean ====
/- The retention of the reference, read at a token and a feature. -/
module

public import proofs.«01_k».proof.Proof.Gen.ReferenceIdeal.Read
public import proofs.«01_k».proof.Proof.RetArray

@[expose] public section

noncomputable section

open Idealize.ShloMosaic Idealize.ShloMosaic.TcCoe Idealize.SL.Sem

namespace Cert.ReferenceIdeal.Ret

open Cert.ReferenceIdeal Cert.ReferenceIdeal.Read Layer Layer.Ret

/-- An entry of a four-axis array. -/
abbrev at4 {n0 n1 n2 n3 : ℕ} (i : Fin n0) (j : Fin n1) (k : Fin n2) (l : Fin n3) : Shape.Idx ⟨4, ![n0, n1, n2, n3]⟩ := ix4 i j k l

def rows (x : Vec Ideal S32x2048x512 .bf16) (b : Fin 32) (t : Fin 2048) (l : Fin 512) : EReal := x (ix3 b t l)
def gates (x : Vec Ideal S32x2048x512 .f32) (b : Fin 32) (t : Fin 2048) (l : Fin 512) : EReal := x (ix3 b t l)
def gains (x : Vec Ideal S1x512 .f32) (l : Fin 512) : EReal := x (ix2 0 l)

variable (x0 x1 x2 : Vec Ideal S32x2048x512 .bf16) (x3 : Vec Ideal S32x2048x512 .f32) (x4 : Vec Ideal S1x512 .f32)

theorem logs_apply (h : Fin 4) : val_main_v13 (F := Ideal) (ix1 h) = ((rate h : ℝ) : EReal) := by
  refine Eq.trans ?_ (logRate_eq h.val (by omega))
  pointwise [val_main_v13, val_main_v12, val_main_v11, val_main_v10, val_main_v9, val_main_v8, val_main_v7, val_main_v6, val_main_cst, val_main_cst_0, val_main_cst_1]
  rfl

theorem gaps_apply (t s : Fin 2048) : val_main_v19 (F := Ideal) (ix2 t s)
    = (FloatOps.sitofp (F := Ideal) FTy.f32 (BitVec.ofNat 32 t.val) - FloatOps.sitofp (F := Ideal) FTy.f32 (BitVec.ofNat 32 s.val) : EReal) := by
  pointwise [val_main_v19, val_main_v18, val_main_v17, val_main_v16, val_main_v15, val_main_v14]

theorem decay_apply (h : Fin 4) (t s : Fin 2048) : val_main_v31 (F := Ideal) (ix3 h t s)
    = ((if s.val ≤ t.val then decay (rate h) (t.val - s.val) else 0 : ℝ) : EReal) := by
  refine Eq.trans ?_ (masked_eq (rate h) t.val s.val (by omega) (by omega))
  have hl := logs_apply h
  have hg := gaps_apply t s
  unfold val_main_v31 val_main_v30 val_main_v29 val_main_v28 val_main_v27 val_main_v26 val_main_v25 val_main_v24 val_main_call0_v1 val_main_v22 val_main_v20
  generalize val_main_v13 (F := Ideal) = L at hl ⊢
  generalize val_main_v19 (F := Ideal) = G at hg ⊢
  pointwise [val_main_v21, val_main_v23, val_main_cst_2, val_main_cst_3, val_main_call0_v2, val_main_call0_v0, val_main_cst_4]
  rw [hl, hg, show id (constant (F := Ideal) S_ FTy.f32 0#32) ix0 = (0 : EReal) from Ideal.ofBits_zero_f32]

theorem head_apply (x : Vec Ideal S32x2048x512 .bf16) (b : Fin 32) (t : Fin 2048) (h : Fin 4) (d : Fin 128) :
    val_main_v0 (F := Ideal) x (at4 b t h d) = rows x b t (featAt h d) := by
  rw [val_main_v0_apply]
  unfold rows
  congr 1
  funext a
  apply Fin.ext
  fin_cases a
  · show (((b.val * 2048 + t.val) * 4 + h.val) * 128 + d.val) / 1048576 = b.val; omega
  · show (((b.val * 2048 + t.val) * 4 + h.val) * 128 + d.val) / 512 % 2048 = t.val; omega
  · show (((b.val * 2048 + t.val) * 4 + h.val) * 128 + d.val) % 512 = 128 * h.val + d.val; omega

variable (hq : Finite (rows x0)) (hk : Finite (rows x1)) (hv : Finite (rows x2))

include hq hk in
theorem score_apply (b : Fin 32) (h : Fin 4) (t s : Fin 2048) : val_main_v32 (F := Ideal) x0 x1 (at4 b h t s)
    = ((score (reals (rows x0) b h) (reals (rows x1) b h) t.val s.val : ℝ) : EReal) := by
  rw [val_main_v32_apply]
  unfold score
  rw [coe_sum]
  refine Finset.sum_congr rfl fun d _ => ?_
  have e0 : val_main_v1 (F := Ideal) x0 (lidx_main_v32 (at4 b h t s) d) = ((reals (rows x0) b h t.val d : ℝ) : EReal) :=
    (head_apply x0 b t h d).trans (reals_eq hq b h t d)
  have e1 : val_main_v3 (F := Ideal) x1 (ridx_main_v32 (at4 b h t s) d) = ((reals (rows x1) b h s.val d : ℝ) : EReal) :=
    (head_apply x1 b s h d).trans (reals_eq hk b h s d)
  rw [e0, e1, ← EReal.coe_mul]

theorem spread_apply (b : Fin 32) (h : Fin 4) (t s : Fin 2048) : val_main_v34 (F := Ideal) (at4 b h t s) = val_main_v31 (F := Ideal) (ix3 h t s) := by
  rw [val_main_v34_apply, val_main_v33_apply]
  congr 1
  funext a
  fin_cases a <;> rfl

include hq hk hv in
theorem mixed_apply (b : Fin 32) (t : Fin 2048) (h : Fin 4) (e : Fin 128) : val_main_v37 (F := Ideal) x0 x1 x2 (at4 b t h e)
    = ((whole (rate h) (reals (rows x0) b h) (reals (rows x1) b h) (reals (rows x2) b h) t.val e : ℝ) : EReal) := by
  rw [val_main_v37_apply, val_main_v36_apply]
  unfold whole
  rw [Finset.sum_range, coe_sum]
  refine Finset.sum_congr rfl fun s _ => ?_
  have e0 : val_main_v5 (F := Ideal) x2 (lidx_main_v36 (idx_main_v37 (at4 b t h e)) s) = ((reals (rows x2) b h s.val e : ℝ) : EReal) :=
    (head_apply x2 b s h e).trans (reals_eq hv b h s e)
  have e1 : val_main_v35 (F := Ideal) x0 x1 (ridx_main_v36 (idx_main_v37 (at4 b t h e)) s)
      = ((score (reals (rows x0) b h) (reals (rows x1) b h) t.val s.val : ℝ) : EReal) * ((if s.val ≤ t.val then decay (rate h) (t.val - s.val) else 0 : ℝ) : EReal) := by
    rw [← score_apply x0 x1 hq hk b h t s, ← decay_apply h t s, ← spread_apply b h t s]
    refine (val_main_v35_apply (F := Ideal) x0 x1 _).trans ?_
    have : ridx_main_v36 (idx_main_v37 (at4 b t h e)) s = at4 b h t s := by funext a; fin_cases a <;> rfl
    rw [this]
    rfl
  rw [e0, e1, ← EReal.coe_mul, ← EReal.coe_mul]

theorem normed_apply (b : Fin 32) (t : Fin 2048) (l : Fin 512) : val_main_v48 (F := Ideal) x0 x1 x2 (ix3 b t l)
    = val_main_v37 (F := Ideal) x0 x1 x2 (at4 b t (headAt l) (colAt l))
      * invRms (Ideal.ofBits FTy.f32 1124073472#32) fun e => val_main_v37 (F := Ideal) x0 x1 x2 (at4 b t (headAt l) e) := by
  rw [val_main_v48_apply]
  have hi : idx_main_v48 (ix3 b t l) = at4 b t (headAt l) (colAt l) := by
    funext a
    apply Fin.ext
    fin_cases a
    · show ((b.val * 2048 + t.val) * 512 + l.val) / 1048576 = b.val; omega
    · show ((b.val * 2048 + t.val) * 512 + l.val) / 512 % 2048 = t.val; omega
    · show ((b.val * 2048 + t.val) * 512 + l.val) / 128 % 4 = l.val / 128; omega
    · show ((b.val * 2048 + t.val) * 512 + l.val) % 128 = l.val % 128; omega
  rw [hi, val_main_v47_apply, val_main_v46_apply, val_main_v45_apply, val_main_v44_apply, val_main_v43_apply, val_main_v42_apply, val_main_v41_apply,
    val_main_v40_apply, val_main_v39_apply]
  simp only [val_main_v38_apply]
  have hj : ∀ e, idx_main_v39 (idx_main_v40 (idx_main_v46 (at4 b t (headAt l) (colAt l)))) e = at4 b t (headAt l) e := by
    intro e; funext a; fin_cases a <;> rfl
  simp only [hj]
  generalize val_main_v37 (F := Ideal) x0 x1 x2 = y
  unfold invRms
  refine congrArg (y _ * ·) (congrArg Ideal.rsqrt (congrArg (· + _) (congrArg (Ideal.div · _) ?_)))
  show Ideal.ofBits FTy.f32 0x00000000#32 + _ = _
  rw [Ideal.ofBits_zero_f32, zero_add]
  rfl

include hq hk hv in
theorem result_apply (b : Fin 32) (t : Fin 2048) (l : Fin 512) : val_main_v135 (F := Ideal) x0 x1 x2 x3 x4 (ix3 b t l)
    = retained (rows x0) (rows x1) (rows x2) (gates x3) (gains x4) b t l := by
  have h : val_main_v135 (F := Ideal) x0 x1 x2 x3 x4 (ix3 b t l)
      = val_main_v48 (F := Ideal) x0 x1 x2 (ix3 b t l) * (x3 (ix3 b t l) * Ideal.logistic (x3 (ix3 b t l))) * x4 (ix2 0 l) := by
    unfold val_main_v135 val_main_v54 val_main_v50
    generalize val_main_v48 (F := Ideal) x0 x1 x2 = y
    pointwise [val_main_v53, val_main_v52, val_main_v51, val_main_v49, val_main_call1_v5, val_main_call1_v4, val_main_call1_v3, val_main_call1_v2, val_main_call1_v1, val_main_call1_v0,
      val_main_call1_cst, val_main_call1_cst_0]
    unfold Ideal.logistic
    rfl
  rw [h, normed_apply]
  simp only [mixed_apply x0 x1 x2 hq hk hv]
  rfl

end Cert.ReferenceIdeal.Ret

end
-- ==== Proof.MobaRun.lean ====
/- The block attention half of the mixers' body: the pieces it leaves in its output block, as one term of the query block and the lane group. -/
module

public import proofs.«01_k».proof.Proof.RetRun

@[expose] public section

set_option maxRecDepth 16384

noncomputable section

open Idealize.ShloMosaic Idealize.ShloMosaic.TcCoe Idealize.SL.Sem

namespace Cert.KernelIdeal.Moba

open Cert.KernelIdeal Cert.KernelIdeal.Gen Cert.KernelIdeal.Ret

variable {F : FTy → Type} [FloatOps F]

/-- The lanes of head `h`. -/
def headMask (h : Fin 2) : IVec S256x128 1 :=
  andi (cmpi .sge (iota .tc S256x128 32 [1] iota_S256x128_d1_w32) (broadcast S256x128 (BitVec.ofNat 32 (64 * h.val))))
    (cmpi .slt (iota .tc S256x128 32 [1] iota_S256x128_d1_w32) (broadcast S256x128 (BitVec.ofNat 32 (64 * h.val + 64))))

/-- The queries of one head, zero on the other's lanes. -/
def masked (h : Fin 2) (q : Vec F S1x256x128 .bf16) : FVec F S256x128 .bf16 :=
  select (headMask h) (shapeCast S256x128 q shapeCasts_S1x256x128_S256x128) (broadcast S256x128 (FloatOps.ofBits .bf16 0#16))

/-- The scores of one key block, keys down. -/
def past (k : Vec F S1x256x128 .bf16) (q : FVec F S256x128 .bf16) : FVec F S256x256 .f32 :=
  matmul dot_S256x128_S256x128_S256x256_1_1_0_0_n_n none (shapeCast S256x128 k shapeCasts_S1x256x128_S256x128) q (constant S256x256 .f32 0#32)

/-- The scores of the queries' own block, the later keys left out. -/
def own (k : Vec F S1x256x128 .bf16) (q : FVec F S256x128 .bf16) : FVec F S256x256 .f32 :=
  select k0_pay84 (past k q) (broadcast S256x256 (FloatOps.ofBits .f32 4286578688#32))

/-- The greatest score of each query. -/
def top (s : FVec F S256x256 .f32) : FVec F S1x256 .f32 :=
  shapeCast S1x256 (multiReduction .maximumf [0] S256 s (4286578688#32) reduces_S256x256_S256 k0_pay39._proof_2 k0_pay113._proof_1) shapeCasts_S256_S1x256

def stat (x : FVec F S1x256 .f32) : FVec F S8x256 .f32 :=
  broadcastTo S8x256 (shapeCast S1x256 x shapeCasts_S1x256_S1x256) broadcasts_S1x256_S8x256

/-- The weighted values and the weights' sum of one key block. -/
def summed (v : Vec F S1x1x1x80x256 .bf16) (s : FVec F S256x256 .f32) : FVec F S80x256 .f32 :=
  matmul dot_S80x256_S256x256_S80x256_1_0_0_1_n_n none (shapeCast S80x256 v shapeCasts_S1x1x1x80x256_S80x256)
    (truncf .bf16 (exp2 (subf s (broadcastTo S256x256 (top s) broadcasts_S1x256_S256x256))) bitsLt_bf16_f32) (constant S80x256 .f32 0#32)

/-- The mean keys of the blocks, and what is left of them in the narrow format. -/
def mean (k : Vec F S1x2048x128 .bf16) : FVec F S16x128 .f32 :=
  concatenate S16x128 0 [⟨S8x128, divf (multiReduction .add [1] S8x128 (shapeCast S8x256x128 (extf .f32 (shapeCast S2048x128 k shapeCasts_S1x2048x128_S2048x128) bitsLt_bf16_f32)
      shapeCasts_S2048x128_S8x256x128) (0#32) reduces_S8x256x128_S8x128 k0_pay39._proof_2 k0_pay39._proof_3) (broadcast S8x128 (FloatOps.ofBits .f32 1132462080#32))⟩,
    ⟨S8x128, broadcast S8x128 (FloatOps.ofBits .f32 0#32)⟩] concatenates_S8x128_S8x128_S16x128_d0
def meanHi (k : Vec F S1x2048x128 .bf16) : FVec F S16x128 .bf16 := truncf .bf16 (mean k) bitsLt_bf16_f32
def meanLo (k : Vec F S1x2048x128 .bf16) : FVec F S16x128 .bf16 := truncf .bf16 (subf (mean k) (extf .f32 (meanHi k) bitsLt_bf16_f32)) bitsLt_bf16_f32

def rowId : IVec S16x256 32 := iota .tc S16x256 32 [0] iota_S16x256_d0_w32

/-- The gates of the blocks before block `j`. -/
def gate (k : Vec F S1x2048x128 .bf16) (q : FVec F S256x128 .bf16) (j : ℕ) : FVec F S16x256 .f32 :=
  select (cmpi .slt rowId (broadcast S16x256 (BitVec.ofNat 32 j)))
    (addf (matmul dot_S16x128_S256x128_S16x256_1_1_0_0_n_n none (meanHi k) q (constant S16x256 .f32 0#32))
      (matmul dot_S16x128_S256x128_S16x256_1_1_0_0_n_n none (meanLo k) q (constant S16x256 .f32 0#32)))
    (broadcast S16x256 (FloatOps.ofBits .f32 4286578688#32))

theorem slices_row {m : ℕ} (h : m < 16) : S16x256.Slices ![m, 0] S1x256 :=
  ⟨rfl, Fin.forall_fin_two.mpr ⟨show m + 1 ≤ 16 by omega, show 0 + 256 ≤ 256 by omega⟩⟩

/-- Where block `m` is ahead. -/
def ahead (g : FVec F S16x256 .f32) (m : ℕ) (h : m < 16) : IVec S16x256 32 :=
  extui 32 (ori (cmpf .ogt (broadcastTo S16x256 (extractStridedSlice S1x256 ![m, 0] g (slices_row h)) broadcasts_S1x256_S16x256) g)
    (andi (cmpf .oeq (broadcastTo S16x256 (extractStridedSlice S1x256 ![m, 0] g (slices_row h)) broadcasts_S1x256_S16x256) g)
      (cmpi .sgt rowId (broadcast S16x256 (BitVec.ofNat 32 m))))) natLt_1_32

/-- How many of the first `n` blocks are ahead. -/
def rank (g : FVec F S16x256 .f32) : (n : ℕ) → n ≤ 16 → IVec S16x256 32
  | 0, _ => broadcast S16x256 0#32
  | n + 1, h => addi (rank g n (Nat.le_of_succ_le h)) (ahead g n h)

/-- Where block `n` is kept. -/
def kept (g : FVec F S16x256 .f32) (j : ℕ) (hj : j ≤ 16) (n : ℕ) (h : n < 16) : IVec S8x256 1 :=
  cmpf .ogt (stat (extractStridedSlice S1x256 ![n, 0] (sitofp (F := F) .f32 (extui 32 (cmpi .slt (rank g j hj) (broadcast S16x256 3#32)) natLt_1_32)) (slices_row h)))
    (broadcast S8x256 (FloatOps.ofBits .f32 1056964608#32))

def over (s : Option (IVec S8x256 1)) (x y : FVec F S8x256 .f32) : FVec F S8x256 .f32 :=
  match s with
  | none => x
  | some s => select s x y

section combine

variable (M : ℕ → FVec F S8x256 .f32) (O : ℕ → FVec F S80x256 .f32) (sel : ℕ → Option (IVec S8x256 1)) (Mj : FVec F S8x256 .f32) (Oj : FVec F S80x256 .f32)

/-- The greatest score over the own block and the first `n` blocks. -/
def maxed : ℕ → FVec F S8x256 .f32
  | 0 => Mj
  | n + 1 => maximumf (maxed n) (over (sel n) (M n) (broadcast S8x256 (FloatOps.ofBits .f32 4286578688#32)))

variable (T : FVec F S8x256 .f32)

def weight (n : ℕ) : FVec F S8x256 .f32 := over (sel n) (exp2 (subf (M n) T)) (broadcast S8x256 (FloatOps.ofBits .f32 0#32))

def wide (x : FVec F S8x256 .f32) : FVec F S64x256 .f32 :=
  broadcastTo S64x256 (shapeCast S1x256 (extractStridedSlice S1x256 ![0, 0] x slices_S8x256_o0_0_S1x256) shapeCasts_S1x256_S1x256) broadcasts_S1x256_S64x256
def sums (o : FVec F S80x256 .f32) : FVec F S8x256 .f32 := extractStridedSlice S8x256 ![64, 0] o slices_S80x256_o64_0_S8x256
def values (o : FVec F S80x256 .f32) : FVec F S64x256 .f32 := extractStridedSlice S64x256 ![0, 0] o slices_S80x256_o0_0_S64x256

def total : ℕ → FVec F S8x256 .f32
  | 0 => broadcast S8x256 (FloatOps.ofBits .f32 0#32)
  | n + 1 => addf (total n) (mulf (weight M sel T n) (sums (O n)))
def gathered : ℕ → FVec F S64x256 .f32
  | 0 => broadcast S64x256 (FloatOps.ofBits .f32 0#32)
  | n + 1 => addf (gathered n) (mulf (wide (weight M sel T n)) (values (O n)))

def ratio (j : ℕ) : FVec F S64x256 .f32 :=
  mulf (addf (gathered M O sel T j) (mulf (wide (exp2 (subf Mj T))) (values Oj)))
    (wide (divf (broadcast S8x256 (FloatOps.ofBits .f32 1065353216#32)) (addf (total M O sel T j) (mulf (exp2 (subf Mj T)) (sums Oj)))))

end combine

def normed (r : FVec F S64x256 .f32) : FVec F S64x256 .f32 :=
  mulf r (broadcastTo S64x256 (rsqrt (addf (divf (shapeCast S1x256 (multiReduction .add [0] S256 (mulf r r) (0#32) reduces_S64x256_S256 k0_pay39._proof_2 k0_pay39._proof_3)
    shapeCasts_S256_S1x256) (broadcast S1x256 (FloatOps.ofBits .f32 1115684864#32))) (broadcast S1x256 (FloatOps.ofBits .f32 897988541#32)))) broadcasts_S1x256_S64x256)

def finished (a b : FVec F S64x256 .f32) (beta : Vec F S1x128 .f32) : Vec F S1x256x128 .bf16 :=
  shapeCast S1x256x128 (truncf .bf16 (mulf (transpose S256x128 [1, 0] (concatenate S128x256 0 [⟨S64x256, a⟩, ⟨S64x256, b⟩] concatenates_S64x256_S64x256_S128x256_d0)
    transposes_S128x256_p1_0_S256x128) (broadcastTo S256x128 (shapeCast S1x128 beta shapeCasts_S1x128_S1x128) broadcasts_S1x128_S256x128)) bitsLt_bf16_f32) shapeCasts_S256x128_S1x256x128

section head

variable (h : Fin 2) (q : Vec F S1x256x128 .bf16) (k : ℕ → Vec F S1x256x128 .bf16) (K : Vec F S1x2048x128 .bf16) (v : ℕ → Vec F S1x1x1x80x256 .bf16)

/-- The selection of the blocks: none while there are no more than three. -/
def chosen (j : ℕ) (hj : j ≤ 8) (n : ℕ) : Option (IVec S8x256 1) :=
  match Nat.ble j 3, n with
  | true, _ => none
  | false, n => if hn : n < 16 then some (kept (gate K (masked h q) j) j (Nat.le_trans hj (by decide)) n hn) else none

/-- One head's attention for query block `j`, features down. -/
def attended (j : ℕ) (hj : j ≤ 8) : FVec F S64x256 .f32 :=
  ratio (fun n => stat (top (past (k n) (masked h q)))) (fun n => summed (v n) (past (k n) (masked h q))) (chosen h q K j hj)
    (stat (top (own (k j) (masked h q)))) (summed (v j) (own (k j) (masked h q)))
    (maxed (fun n => stat (top (past (k n) (masked h q)))) (chosen h q K j hj) (stat (top (own (k j) (masked h q)))) j) j

end head

theorem inb5 {d : Fin 5 → ℕ} {o0 o1 o2 o3 o4 s0 s1 s2 s3 s4 : ℕ} (h0 : o0 + s0 ≤ d 0) (h1 : o1 + s1 ≤ d 1) (h2 : o2 + s2 ≤ d 2) (h3 : o3 + s3 ≤ d 3) (h4 : o4 + s4 ≤ d 4) :
    ∀ a : Fin 5, (![o0, o1, o2, o3, o4] : Fin 5 → ℕ) a + (![s0, s1, s2, s3, s4] : Fin 5 → ℕ) a ≤ d a := by
  intro a; fin_cases a <;> assumption

/-- The rows a lane group has in the scratch, and the two stores that fill them. -/
def heldRect (g h : Fin 2) (n : Fin 8) : Rect S2x2x8x80x256 :=
  Rect.unit (s := S2x2x8x80x256) ![g.val, h.val, n.val, 0, 0] S1x1x1x80x256.size (inb5 (d := ![2, 2, 8, 80, 256]) (show g.val + 1 ≤ 2 by omega) (show h.val + 1 ≤ 2 by omega)
    (show n.val + 1 ≤ 8 by omega) (Nat.le_refl 80) (Nat.le_refl 256))
def valueRect (g h : Fin 2) (n : Fin 8) : Rect S2x2x8x80x256 :=
  Rect.unit (s := S2x2x8x80x256) ![g.val, h.val, n.val, 0, 0] S1x1x1x64x256.size (inb5 (d := ![2, 2, 8, 80, 256]) (show g.val + 1 ≤ 2 by omega) (show h.val + 1 ≤ 2 by omega)
    (show n.val + 1 ≤ 8 by omega) (show 0 + 64 ≤ 80 by omega) (Nat.le_refl 256))
def onesRect (g h : Fin 2) (n : Fin 8) : Rect S2x2x8x80x256 :=
  Rect.unit (s := S2x2x8x80x256) ![g.val, h.val, n.val, 64, 0] S1x1x1x16x256.size (inb5 (d := ![2, 2, 8, 80, 256]) (show g.val + 1 ≤ 2 by omega) (show h.val + 1 ≤ 2 by omega)
    (show n.val + 1 ≤ 8 by omega) (show 64 + 16 ≤ 80 by omega) (Nat.le_refl 256))

theorem slices_value (h : Fin 2) (n : Fin 8) : S128x2048.Slices ![64 * h.val, 256 * n.val] S64x256 :=
  ⟨rfl, Fin.forall_fin_two.mpr ⟨show 64 * h.val + 64 ≤ 128 by omega, show 256 * n.val + 256 ≤ 2048 by omega⟩⟩

def stored (v : Vec F S1x2048x128 .bf16) (h : Fin 2) (n : Fin 8) : FVec F S1x1x1x64x256 .bf16 :=
  shapeCast S1x1x1x64x256 (truncf .bf16 (extractStridedSlice S64x256 ![64 * h.val, 256 * n.val]
    (transpose S128x2048 [1, 0] (extf (F := F) .f32 (shapeCast S2048x128 v shapeCasts_S1x2048x128_S2048x128) bitsLt_bf16_f32) transposes_S2048x128_p1_0_S128x2048)
    (slices_value h n)) bitsLt_bf16_f32) shapeCasts_S64x256_S1x1x1x64x256
def ones : FVec F S1x1x1x16x256 .bf16 := shapeCast S1x1x1x16x256 (broadcast S16x256 (FloatOps.ofBits .bf16 16256#16)) shapeCasts_S16x256_S1x1x1x16x256

def places : List (Fin 2 × Fin 2 × Fin 8) :=
  [(1, 1, 7), (1, 1, 6), (1, 1, 5), (1, 1, 4), (1, 1, 3), (1, 1, 2), (1, 1, 1), (1, 1, 0), (1, 0, 7), (1, 0, 6), (1, 0, 5), (1, 0, 4), (1, 0, 3), (1, 0, 2), (1, 0, 1), (1, 0, 0),
   (0, 1, 7), (0, 1, 6), (0, 1, 5), (0, 1, 4), (0, 1, 3), (0, 1, 2), (0, 1, 1), (0, 1, 0), (0, 0, 7), (0, 0, 6), (0, 0, 5), (0, 0, 4), (0, 0, 3), (0, 0, 2), (0, 0, 1), (0, 0, 0)]

def fills (v : Fin 2 → Vec F S1x2048x128 .bf16) : List (View.Piece (Elt F) S2x2x8x80x256 .bf16) :=
  places.flatMap fun p => [⟨onesRect p.1 p.2.1 p.2.2, ones⟩, ⟨valueRect p.1 p.2.1 p.2.2, stored (v p.1) p.2.1 p.2.2⟩]

def groupRect (g : Fin 2) : LoadRect S1x2048x256 :=
  (Rect.unit (s := S1x2048x256) ![0, 0, 128 * g.val] S1x2048x128.size (inb3 (d := ![1, 2048, 256]) (Nat.le_refl 1) (Nat.le_refl 2048)
    (show 128 * g.val + 128 ≤ 256 by omega))).toLoadRect

def blockNo (n : ℕ) : Fin 8 := if h : n < 8 then ⟨n, h⟩ else 0

section run

variable (c : Dev nD) (i : grid0.Coords) (a1 : Memref sig .tc .vmem S1x2048x256 .bf16) (h1 : a1.IsWhole)
  (a2 : Memref sig .tc .vmem S1x2048x256 .bf16) (h2 : a2.IsWhole) (a3 : Memref sig .tc .vmem S1x2048x256 .bf16) (h3 : a3.IsWhole)
  (a4 : Memref sig .tc .vmem S1x2048x256 .f32) (h4 : a4.IsWhole) (a5 : Memref sig .tc .vmem S1x256 .f32) (h5 : a5.IsWhole)
  (a6 : Memref sig .tc .vmem S2x256x256 .f32) (h6 : a6.IsWhole) (a7 : Memref sig .tc .vmem S2x256x128 .f32) (h7 : a7.IsWhole)
  (a8 : Memref sig .tc .vmem S2x256x128 .f32) (h8 : a8.IsWhole) (a9 : Memref sig .tc .vmem S2x1x128 .f32) (h9 : a9.IsWhole)
  (b1 : Memref sig .tc .vmem S1x2048x256 .bf16) (g1 : b1.IsWhole) (b2 : Memref sig .tc .vmem S1x2048x256 .bf16) (g2 : b2.IsWhole)
  (b3 : Memref sig .tc .vmem S1x2048x256 .bf16) (g3 : b3.IsWhole) (b4 : Memref sig .tc .vmem S1x256 .f32) (g4 : b4.IsWhole)
  (b5 : Memref sig .tc .vmem S1x2048x256 .bf16) (g5 : b5.IsWhole) (b6 : Memref sig .tc .vmem S1x2048x256 .bf16) (g6 : b6.IsWhole)
  (b7 : Memref sig .tc .vmem S2x2x8x80x256 .bf16) (g7 : b7.IsWhole)
  (x0 x1 x2 : Vec F S1x2048x256 .bf16) (x3 : Vec F S1x2048x256 .f32) (x4 : Vec F S1x256 .f32) (x5 : Vec F S2x256x256 .f32)
  (x6 x7 : Vec F S2x256x128 .f32) (x8 : Vec F S2x1x128 .f32) (x9 x10 x11 : Vec F S1x2048x256 .bf16) (x12 : Vec F S1x256 .f32)

/-- One head's attention of lane group `g` and query block `j`, over the buffers. -/
def heads (g h : Fin 2) (j : Fin 8) : FVec F S64x256 .f32 :=
  attended h (View.readAt (Elt F) b1.view (outRect g j).toLoadRect (g1.unread x9)) (fun n => View.readAt (Elt F) b2.view (outRect g (blockNo n)).toLoadRect (g2.unread x10))
    (View.readAt (Elt F) b2.view (groupRect g) (g2.unread x10))
    (fun n => b7.view.readCov (fills fun g => View.readAt (Elt F) b3.view (groupRect g) (g3.unread x11)) (heldRect g h (blockNo n)).toLoadRect) j.val (Nat.le_of_lt j.isLt)

/-- The piece of lane group `g` and query block `j`. -/
def piece (g : Fin 2) (j : Fin 8) : Vec F S1x256x128 .bf16 :=
  finished (normed (heads b1 g1 b2 g2 b3 g3 b7 x9 x10 x11 g 0 j)) (normed (heads b1 g1 b2 g2 b3 g3 b7 x9 x10 x11 g 1 j))
    (View.readAt (Elt F) b4.view (gainRect g) (g4.unread x12))

/-- The pieces the body leaves, the last one first. -/
theorem pieces_eq :
    (kernelRun0_A c i a1 h1 a2 h2 a3 h3 a4 h4 a5 h5 a6 h6 a7 h7 a8 h8 a9 h9 b1 g1 b2 g2 b3 g3 b4 g4 b5 g5 b6 g6 b7 g7 x0 x1 x2 x3 x4 x5 x6 x7 x8 x9 x10 x11 x12).2.1
      = [(1, 0), (1, 1), (1, 2), (1, 3), (1, 4), (1, 5), (1, 6), (1, 7), (0, 0), (0, 1), (0, 2), (0, 3), (0, 4), (0, 5), (0, 6), (0, 7)].map
          fun p : Fin 2 × Fin 8 => ⟨outRect p.1 p.2, piece b1 g1 b2 g2 b3 g3 b4 g4 b7 x9 x10 x11 x12 p.1 p.2⟩ := by
  delta kernelRun0_A
  rfl

end run

end Cert.KernelIdeal.Moba

end
-- ==== Proof.MobaMath.lean ====
/- Block attention as arithmetic: each query attends, in base two, to its own block up to itself and to the three past
   blocks of the greatest gates; the weights over a maximum taken per block are the weights over no maximum. -/
module

public import proofs.«01_k».proof.Proof.Rows
public import proofs.«01_k».proof.Proof.RetMath

@[expose] public section

noncomputable section

open Idealize.ShloMosaic Idealize.SL.Sem

namespace Layer.Moba

/-- The base-two exponential. -/
def e2 (x : ℝ) : ℝ := (2 : ℝ) ^ x

theorem e2_pos (x : ℝ) : 0 < e2 x := Real.rpow_pos_of_pos (by norm_num) x
theorem e2_add (x y : ℝ) : e2 (x + y) = e2 x * e2 y := Real.rpow_add (by norm_num) x y

/-- The exponential of a score where it counts. -/
def term (s : ℝ) (p : Prop) [Decidable p] : ℝ := if p then e2 s else 0

theorem term_nonneg (s : ℝ) (p : Prop) [Decidable p] : 0 ≤ term s p := by
  unfold term; split
  · exact (e2_pos s).le
  · exact le_rfl

/-- The exponential of a score less a maximum. -/
theorem exp2_sub (s m : ℝ) : Ideal.exp2 ((s : EReal) - (m : EReal)) = ((e2 s * e2 (-m) : ℝ) : EReal) := by
  rw [← EReal.coe_sub, Ideal.exp2_coe, ← e2_add, ← sub_eq_add_neg]
  rfl
theorem exp2_bot_sub (m : ℝ) : Ideal.exp2 ((⊥ : EReal) - (m : EReal)) = 0 := by
  rw [EReal.bot_sub, Ideal.exp2_bot]

section spec

variable (q k : ℕ → Fin 64 → ℝ) (v : ℕ → Fin 64 → EReal)

def score (t s : ℕ) : ℝ := ∑ d, q t d * k s d

/-- The mean key of a block, and a query's gate of it. -/
def mean (n : ℕ) (d : Fin 64) : ℝ := (∑ c ∈ Finset.range 256, k (256 * n + c) d) / 256
def gate (t n : ℕ) : ℝ := ∑ d, q t d * mean k n d

/-- Block `m` stands before block `n` in the order of the gates, the earlier first where they are equal. -/
def Before (g : ℕ → ℝ) (m n : ℕ) : Prop := g n < g m ∨ (g m = g n ∧ m < n)

open Classical in
/-- How many of the first `j` blocks stand before block `n`. -/
def rank (g : ℕ → ℝ) (j n : ℕ) : ℕ := ((Finset.range j).filter fun m => Before g m n).card

/-- No more than three blocks are all among the first three. -/
theorem rank_few (g : ℕ → ℝ) (j n : ℕ) (hn : n < j) (hj : j ≤ 3) : rank g j n < 3 := by
  classical
  refine lt_of_lt_of_le (Finset.card_lt_card (Finset.filter_ssubset.2 ⟨n, Finset.mem_range.2 hn, ?_⟩)) (by rw [Finset.card_range]; exact hj)
  rintro (h | h)
  · exact lt_irrefl _ h
  · exact lt_irrefl _ h.2

theorem rank_succ (g : ℕ → ℝ) (j n : ℕ) [Decidable (Before g j n)] : rank g (j + 1) n = rank g j n + if Before g j n then 1 else 0 := by
  classical
  unfold rank
  rw [Finset.range_add_one, Finset.filter_insert]
  split
  · rw [Finset.card_insert_of_notMem (by simp)]
  · rfl

/-- The blocks token `t` attends to. -/
def Keeps (t n : ℕ) : Prop := n = t / 256 ∨ (n < t / 256 ∧ rank (gate q k t) (t / 256) n < 3)

open Classical in
/-- The weight of token `s` for token `t`, before the weights are made to sum to one. -/
def weight (t s : ℕ) : ℝ := term (score q k t s) (s ≤ t ∧ Keeps q k t (s / 256))

/-- The attention's output. -/
def attend (t : ℕ) (d : Fin 64) : EReal :=
  ∑ s ∈ Finset.range 2048, ((weight q k t s / ∑ s' ∈ Finset.range 2048, weight q k t s' : ℝ) : EReal) * v s d

end spec

/-- A nonnegative real factor goes into a sum of extended reals. -/
theorem mul_sum_real {ι : Type} (c : ℝ) (hc : 0 ≤ c) (S : Finset ι) (f : ι → EReal) : (c : EReal) * ∑ i ∈ S, f i = ∑ i ∈ S, (c : EReal) * f i := by
  classical
  induction S using Finset.induction_on with
  | empty => simp
  | insert a S ha ih =>
    rw [Finset.sum_insert ha, Finset.sum_insert ha, EReal.left_distrib_of_nonneg_of_ne_top (by exact_mod_cast hc) (EReal.coe_ne_top c), ih]

theorem max_real {x y : EReal} (hx : ∃ a : ℝ, x = a) (hy : y ≠ ⊤) : ∃ a : ℝ, max x y = a := by
  obtain ⟨a, rfl⟩ := hx
  induction y using EReal.rec with
  | bot => exact ⟨a, max_eq_left bot_le⟩
  | top => exact absurd rfl hy
  | coe b =>
    rcases le_total a b with h | h
    · exact ⟨b, max_eq_right (EReal.coe_le_coe_iff.2 h)⟩
    · exact ⟨a, max_eq_left (EReal.coe_le_coe_iff.2 h)⟩

/-- The greatest of finitely many entries below `⊤`, one of them real, is real. -/
theorem fold_max_real {ι : Type} [Fintype ι] (f : ι → EReal) (hf : ∀ i, f i ≠ ⊤) (i : ι) (hi : f i ≠ ⊥) :
    ∃ a : ℝ, Finset.fold max ⊥ f Finset.univ = a := by
  have e : Finset.fold max ⊥ f Finset.univ = Finset.univ.sup f := rfl
  rw [e]
  have h1 : Finset.univ.sup f ≠ ⊤ := by
    refine ne_of_lt ((Finset.sup_lt_iff (by exact bot_lt_top)).2 fun i _ => lt_top_iff_ne_top.2 (hf i))
  have h2 : Finset.univ.sup f ≠ ⊥ := fun h => hi (le_bot_iff.1 (h ▸ Finset.le_sup (f := f) (Finset.mem_univ i)))
  exact ⟨(Finset.univ.sup f).toReal, (EReal.coe_toReal h1 h2).symm⟩

section combine

variable (a : ℕ → ℝ) (ha : ∀ s, 0 ≤ a s) (V : ℕ → EReal)

include ha in
/-- A sum of weighted values over the weights' sum. -/
theorem ratio_eq {S : Finset ℕ} (A : ℝ) (hA : 0 < A) : (∑ s ∈ S, (a s : EReal) * V s) * ((1 / A : ℝ) : EReal) = ∑ s ∈ S, ((a s / A : ℝ) : EReal) * V s := by
  rw [mul_comm, mul_sum_real _ (by positivity)]
  refine Finset.sum_congr rfl fun s _ => ?_
  rw [← mul_assoc, ← EReal.coe_mul]
  congr 2
  ring

end combine

section rows

variable (q k : ℕ → Fin 64 → ℝ) (v : ℕ → Fin 64 → EReal)

/-- A token attends to itself. -/
theorem weight_self (t : ℕ) : weight q k t t = e2 (score q k t t) := by
  unfold weight term
  exact if_pos ⟨le_rfl, Or.inl rfl⟩

theorem weight_nonneg (t s : ℕ) : 0 ≤ weight q k t s := by
  classical
  unfold weight
  exact term_nonneg _ _

theorem sum_weight_pos (t n : ℕ) (h : t < n) : 0 < ∑ s ∈ Finset.range n, weight q k t s :=
  Finset.sum_pos' (fun s _ => weight_nonneg q k t s) ⟨t, Finset.mem_range.2 h, by rw [weight_self]; exact e2_pos _⟩

/-- Later tokens have no weight. -/
theorem weight_later {t s : ℕ} (h : t < s) : weight q k t s = 0 := by
  unfold weight term
  exact if_neg fun h' => absurd h'.1 (by omega)

theorem sum_range_later {M : Type} [AddCommMonoid M] (f : ℕ → M) {m n : ℕ} (h : m ≤ n) (hf : ∀ s, m ≤ s → f s = 0) : ∑ s ∈ Finset.range n, f s = ∑ s ∈ Finset.range m, f s := by
  obtain ⟨d, rfl⟩ := Nat.exists_eq_add_of_le h
  rw [Finset.sum_range_add, Finset.sum_eq_zero (s := Finset.range d) fun x _ => hf _ (by omega), add_zero]

/-- The output from weights scaled by one factor, over the tokens up to a block's end. -/
theorem attend_eq (c : ℝ) (hc : 0 < c) (j r : ℕ) (hj : j < 8) (hr : r < 256) (d : Fin 64) :
    (∑ s ∈ Finset.range (256 * (j + 1)), ((c * weight q k (256 * j + r) s : ℝ) : EReal) * v s d)
        * Ideal.div 1 ((∑ s ∈ Finset.range (256 * (j + 1)), c * weight q k (256 * j + r) s : ℝ) : EReal)
      = attend q k v (256 * j + r) d := by
  have hp := sum_weight_pos q k (256 * j + r) (256 * (j + 1)) (by omega)
  have hl : ∀ s, 256 * (j + 1) ≤ s → weight q k (256 * j + r) s = 0 := fun s hs => weight_later q k (by omega)
  have hA : 0 < ∑ s ∈ Finset.range (256 * (j + 1)), c * weight q k (256 * j + r) s := by
    rw [← Finset.mul_sum]; exact mul_pos hc hp
  have hd : Ideal.div 1 ((∑ s ∈ Finset.range (256 * (j + 1)), c * weight q k (256 * j + r) s : ℝ) : EReal)
      = ((1 / ∑ s ∈ Finset.range (256 * (j + 1)), c * weight q k (256 * j + r) s : ℝ) : EReal) := by
    rw [Ideal.div_coe hA.ne', one_mul]
  rw [hd, ratio_eq (fun s => c * weight q k (256 * j + r) s) (fun s => mul_nonneg hc.le (weight_nonneg q k _ s)) (fun s => v s d) _ hA]
  unfold attend
  rw [sum_range_later (fun s => weight q k (256 * j + r) s) (show 256 * (j + 1) ≤ 2048 by omega) hl,
    sum_range_later (fun s => ((weight q k (256 * j + r) s / _ : ℝ) : EReal) * v s d) (show 256 * (j + 1) ≤ 2048 by omega) fun s hs => by
      rw [hl s hs, zero_div, EReal.coe_zero, zero_mul]]
  refine Finset.sum_congr rfl fun s _ => ?_
  congr 2
  rw [← Finset.mul_sum]
  exact mul_div_mul_left _ _ hc.ne'

end rows

end Layer.Moba

end
-- ==== Proof.MobaRead.lean ====
/- The block attention's stages read at an entry over the extended reals. -/
module

public import proofs.«01_k».proof.Proof.MobaRun
public import proofs.«01_k».proof.Proof.MobaMath
public import Idealize.ShloMosaic.Lib.WordCmp

@[expose] public section

noncomputable section

open Idealize.ShloMosaic Idealize.ShloMosaic.TcCoe Idealize.SL.Sem

namespace Cert.KernelIdeal.Moba

open Cert.KernelIdeal Cert.KernelIdeal.Gen Layer WordCmp

theorem andi_decide (p q : Prop) [Decidable p] [Decidable q] :
    IntOp.andi (BitVec.ofBool (decide p)) (BitVec.ofBool (decide q)) = BitVec.ofBool (decide (p ∧ q)) := by
  by_cases hp : p <;> by_cases hq : q <;> simp [hp, hq] <;> rfl
theorem ori_decide (p q : Prop) [Decidable p] [Decidable q] :
    IntOp.ori (BitVec.ofBool (decide p)) (BitVec.ofBool (decide q)) = BitVec.ofBool (decide (p ∨ q)) := by
  by_cases hp : p <;> by_cases hq : q <;> simp [hp, hq] <;> rfl
theorem select_decide {α : Type} (p : Prop) [Decidable p] (x y : α) : Scalar.select (BitVec.ofBool (decide p)) x y = if p then x else y := by
  by_cases hp : p <;> simp [hp] <;> rfl

theorem word_bot : Ideal.ofBits FTy.f32 4286578688#32 = ⊥ := by simp [Ideal.ofBits, Ideal.ieee]
theorem word_half : Ideal.ofBits FTy.f32 1056964608#32 = ((1 / 2 : ℝ) : EReal) := by
  simp [Ideal.ofBits, Ideal.ieee, -EReal.coe_mul]; norm_num
theorem word_256 : Ideal.ofBits FTy.f32 1132462080#32 = ((256 : ℝ) : EReal) := by
  simp [Ideal.ofBits, Ideal.ieee, -EReal.coe_mul]; norm_num
theorem word_two : Ideal.ofBits FTy.f32 1073741824#32 = ((2 : ℝ) : EReal) := by
  simp [Ideal.ofBits, Ideal.ieee, -EReal.coe_mul]; norm_num

/-- A bit read as a number is above one half when it is set. -/
theorem above_half (b : BitVec 1) : BitVec.ofBool (decide (Ideal.ofBits FTy.f32 1056964608#32 < FloatOps.sitofp (F := Ideal) FTy.f32 (BitVec.setWidth 32 b))) = b := by
  rw [word_half]
  obtain rfl | rfl : b = 0#1 ∨ b = 1#1 := by revert b; decide
  · rw [show (FloatOps.sitofp (F := Ideal) FTy.f32 (BitVec.setWidth 32 0#1) : EReal) = ((0 : ℝ) : EReal) by simp [FloatOps.sitofp]]
    rw [decide_eq_false (by rw [EReal.coe_lt_coe_iff]; norm_num)]; rfl
  · rw [show (FloatOps.sitofp (F := Ideal) FTy.f32 (BitVec.setWidth 32 1#1) : EReal) = ((1 : ℝ) : EReal) by simp [FloatOps.sitofp]]
    rw [decide_eq_true (by rw [EReal.coe_lt_coe_iff]; norm_num)]; rfl

theorem past_apply (k : Vec Ideal S1x256x128 .bf16) (q : FVec Ideal S256x128 .bf16) (c r : Fin 256) :
    past k q (ix2 c r) = ∑ l : Fin 128, k (ix3 0 c l) * q (ix2 r l) := by
  pointwise [past]

theorem masked_apply (h : Fin 2) (q : Vec Ideal S1x256x128 .bf16) (r : Fin 256) (l : Fin 128) :
    masked h q (ix2 r l) = if 64 * h.val ≤ l.val ∧ l.val < 64 * h.val + 64 then q (ix3 0 r l) else 0 := by
  pointwise [masked, headMask]
  have h2 := h.isLt
  have hl := l.isLt
  rw [cmpi_sge_ofNat (by omega) (by omega), cmpi_slt_ofNat (by omega) (by omega), andi_decide, select_decide]

theorem own_apply (k : Vec Ideal S1x256x128 .bf16) (q : FVec Ideal S256x128 .bf16) (c r : Fin 256) :
    own k q (ix2 c r) = if c.val ≤ r.val then past k q (ix2 c r) else ⊥ := by
  unfold own
  generalize past k q = s
  pointwise [k0_pay84]
  rw [cmpi_sle_ofNat (by omega) (by omega), select_decide, word_bot]

theorem top_apply (s : FVec Ideal S256x256 .f32) (r : Fin 256) :
    top s (ix2 0 r) = Finset.fold max ⊥ (fun c => s (ix2 c r)) Finset.univ := by
  pointwise [top]
  rw [word_bot]

theorem stat_apply (x : FVec Ideal S1x256 .f32) (i : Fin 8) (r : Fin 256) : stat x (ix2 i r) = x (ix2 0 r) := by
  pointwise [stat]

theorem summed_apply (v : Vec Ideal S1x1x1x80x256 .bf16) (s : FVec Ideal S256x256 .f32) (i : Fin 80) (r : Fin 256) :
    summed v s (ix2 i r) = ∑ c : Fin 256, v (ix5 0 0 0 i c) * Ideal.exp2 (s (ix2 c r) - top s (ix2 0 r)) := by
  unfold summed
  generalize top s = m
  pointwise []
  rfl

theorem mean_apply (k : Vec Ideal S1x2048x128 .bf16) (n : Fin 8) (l : Fin 128) :
    mean k (ix2 ⟨n.val, by omega⟩ l) = Ideal.div (∑ c : Fin 256, k (ix3 0 ⟨256 * n.val + c.val, by omega⟩ l)) (Ideal.ofBits FTy.f32 1132462080#32) := by
  pointwise [mean]
  refine congrArg (Ideal.div · _) (Finset.sum_congr rfl fun c _ => ?_)
  congr 2
  exact Fin.ext (congrArg (· + c.val) (Nat.mul_comm _ _))

theorem gate_apply (k : Vec Ideal S1x2048x128 .bf16) (q : FVec Ideal S256x128 .bf16) (j : ℕ) (hj : j ≤ 16) (n : Fin 16) (r : Fin 256) :
    gate k q j (ix2 n r) = if n.val < j then ∑ l : Fin 128, mean k (ix2 n l) * q (ix2 r l) + ∑ l : Fin 128, (mean k (ix2 n l) - mean k (ix2 n l)) * q (ix2 r l) else ⊥ := by
  unfold gate meanLo meanHi
  generalize mean k = a
  pointwise [rowId]
  rw [cmpi_slt_ofNat (by omega) (by omega), select_decide, word_bot]

theorem ahead_apply (g : FVec Ideal S16x256 .f32) (m : ℕ) (h : m < 16) (n : Fin 16) (r : Fin 256) :
    ahead g m h (ix2 n r) = BitVec.ofNat 32 (if g (ix2 n r) < g (ix2 ⟨m, h⟩ r) ∨ (g (ix2 ⟨m, h⟩ r) = g (ix2 n r) ∧ m < n.val) then 1 else 0) := by
  pointwise [ahead, rowId]
  rw [cmpi_sgt_ofNat (by omega) (by omega), andi_decide, ori_decide]
  split
  · next h => rw [decide_eq_true h]; rfl
  · next h => rw [decide_eq_false h]; rfl

theorem kept_apply (g : FVec Ideal S16x256 .f32) (j : ℕ) (hj : j ≤ 16) (n : ℕ) (h : n < 16) (i : Fin 8) (r : Fin 256) :
    kept g j hj n h (ix2 i r) = IntOp.cmpi .slt (rank g j hj (ix2 ⟨n, h⟩ r)) 3#32 := by
  unfold kept
  generalize rank g j hj = a
  pointwise [stat]
  exact above_half _

theorem wide_apply (x : FVec Ideal S8x256 .f32) (d : Fin 64) (r : Fin 256) : wide x (ix2 d r) = x (ix2 0 r) := by
  pointwise [wide]
theorem sums_apply (o : FVec Ideal S80x256 .f32) (i : Fin 8) (r : Fin 256) : sums o (ix2 i r) = o (ix2 ⟨64 + i.val, by omega⟩ r) := by
  pointwise [sums]
theorem values_apply (o : FVec Ideal S80x256 .f32) (d : Fin 64) (r : Fin 256) : values o (ix2 d r) = o (ix2 ⟨d.val, by omega⟩ r) := by
  pointwise [values]

theorem normed_apply (o : FVec Ideal S64x256 .f32) (d : Fin 64) (r : Fin 256) :
    normed o (ix2 d r) = o (ix2 d r) * invRms (Ideal.ofBits FTy.f32 1115684864#32) fun e : Fin 64 => o (ix2 e r) := by
  pointwise [normed]
  rfl

theorem joined_apply (a b : FVec Ideal S64x256 .f32) (beta : Vec Ideal S1x128 .f32) (r : Fin 256) (e : Fin 128) :
    finished a b beta (ix3 0 r e)
      = (if h : e.val < 64 then a (ix2 ⟨e.val, h⟩ r) else b (ix2 ⟨e.val - 64, by omega⟩ r)) * beta (ix2 0 e) := by
  pointwise [finished]

/-- The lane of a head's feature. -/
def laneAt (h : Fin 2) (d : Fin 64) : Fin 128 := ⟨64 * h + d, by omega⟩

theorem finished_apply (a : Fin 2 → FVec Ideal S64x256 .f32) (beta : Vec Ideal S1x128 .f32) (r : Fin 256) (h : Fin 2) (d : Fin 64) :
    finished (a 0) (a 1) beta (ix3 0 r (laneAt h d)) = a h (ix2 d r) * beta (ix2 0 (laneAt h d)) := by
  refine (joined_apply _ _ _ _ _).trans (congrArg (· * _) ?_)
  have hd := d.isLt
  match h with
  | 0 => exact (dif_pos (show 64 * 0 + d.val < 64 by omega)).trans (congrArg (fun i => a 0 (ix2 i r)) (Fin.ext (show 64 * 0 + d.val = d.val by omega)))
  | 1 => exact (dif_neg (show ¬ 64 * 1 + d.val < 64 by omega)).trans (congrArg (fun i => a 1 (ix2 i r)) (Fin.ext (show 64 * 1 + d.val - 64 = d.val by omega)))

end Cert.KernelIdeal.Moba

end
-- ==== Proof.MobaHead.lean ====
/- One head of the block attention over the extended reals: with finite queries and keys, what a query block's rows
   hold is the attention's output at the block's tokens. -/
module

public import proofs.«01_k».proof.Proof.MobaRead

@[expose] public section

set_option maxRecDepth 16384

noncomputable section

open Idealize.ShloMosaic Idealize.ShloMosaic.TcCoe Idealize.SL.Sem

namespace Cert.KernelIdeal.Moba

open Cert.KernelIdeal Cert.KernelIdeal.Gen Layer WordCmp
open Layer.Ret (coe_sum)
open Layer.Moba (e2 e2_pos e2_add term score exp2_sub exp2_bot_sub mul_sum_real max_real fold_max_real)

/-- The scratch row of a feature, and the first of the rows of ones. -/
def rowAt (d : Fin 64) : Fin 80 := ⟨d.val, Nat.lt_of_lt_of_le d.isLt (by decide)⟩
def lastRow : Fin 80 := ⟨64, by decide⟩

/-- A sum over the lanes of which only one head's count. -/
theorem lane_sum (h : Fin 2) (f : Fin 128 → EReal) (hf : ∀ l : Fin 128, ¬ (64 * h.val ≤ l.val ∧ l.val < 64 * h.val + 64) → f l = 0) :
    ∑ l, f l = ∑ d : Fin 64, f (laneAt h d) := by
  refine (Finset.sum_of_injOn (laneAt h) ?_ ?_ ?_ ?_).symm
  · intro a _ b _ hab
    have := congrArg Fin.val hab
    exact Fin.ext (by unfold laneAt at this; simp only at this; omega)
  · exact fun _ _ => Finset.mem_coe.2 (Finset.mem_univ _)
  · intro l _ hl
    refine hf l fun hl' => hl ⟨⟨l.val - 64 * h.val, by omega⟩, Finset.mem_coe.2 (Finset.mem_univ _), Fin.ext ?_⟩
    show 64 * h.val + (l.val - 64 * h.val) = l.val
    omega
  · exact fun _ _ => rfl

theorem masked_lane (h : Fin 2) (q : Vec Ideal S1x256x128 .bf16) (r : Fin 256) (d : Fin 64) : masked h q (ix2 r (laneAt h d)) = q (ix3 0 r (laneAt h d)) := by
  rw [masked_apply, if_pos]
  have := d.isLt
  exact ⟨show 64 * h.val ≤ 64 * h.val + d.val by omega, show 64 * h.val + d.val < 64 * h.val + 64 by omega⟩

theorem lane_dot (h : Fin 2) (q : Vec Ideal S1x256x128 .bf16) (x : Fin 128 → EReal) (r : Fin 256) :
    ∑ l : Fin 128, x l * masked h q (ix2 r l) = ∑ d : Fin 64, x (laneAt h d) * q (ix3 0 r (laneAt h d)) := by
  rw [lane_sum h]
  · exact Finset.sum_congr rfl fun d _ => by rw [masked_lane]
  · intro l hl
    rw [masked_apply, if_neg hl, mul_zero]

/-- One block's weighted values and the weights' sum, the scores being `σ` where `P` and `⊥` elsewhere, and the maximum `m`. -/
theorem summed_real (v : Vec Ideal S1x1x1x80x256 .bf16) (s : FVec Ideal S256x256 .f32) (r : Fin 256) (σ : ℕ → ℝ) (P : ℕ → Prop) [DecidablePred P] (m : ℝ)
    (hs : ∀ c : Fin 256, s (ix2 c r) = if P c.val then ((σ c.val : ℝ) : EReal) else ⊥) (hm : top s (ix2 0 r) = (m : EReal))
    (x : ℕ → EReal) (i : Fin 80) (hx : ∀ c : Fin 256, v (ix5 0 0 0 i c) = x c.val) :
    summed v s (ix2 i r) = ∑ c ∈ Finset.range 256, ((e2 (-m) * term (σ c) (P c) : ℝ) : EReal) * x c := by
  rw [summed_apply, Finset.sum_range]
  refine Finset.sum_congr rfl fun c _ => ?_
  rw [hx, hm, hs, mul_comm]
  refine congrArg (· * x c.val) ?_
  unfold term
  split
  · rw [exp2_sub, mul_comm]
  · rw [exp2_bot_sub, mul_zero, EReal.coe_zero]

theorem scale_sum (m T : ℝ) (τ : ℕ → ℝ) (x : ℕ → EReal) :
    ((e2 m * e2 (-T) : ℝ) : EReal) * ∑ c ∈ Finset.range 256, ((e2 (-m) * τ c : ℝ) : EReal) * x c = ∑ c ∈ Finset.range 256, ((e2 (-T) * τ c : ℝ) : EReal) * x c := by
  rw [mul_sum_real _ (mul_pos (e2_pos _) (e2_pos _)).le]
  refine Finset.sum_congr rfl fun c _ => ?_
  rw [← mul_assoc, ← EReal.coe_mul]
  congr 2
  have h : e2 m * e2 (-m) = 1 := by
    rw [← e2_add, add_neg_cancel]; unfold e2; exact Real.rpow_zero 2
  linear_combination (e2 (-T) * τ c) * h

theorem rise_apply (x y : FVec Ideal S8x256 .f32) (i : S8x256.Idx) : (exp2 (subf x y) : FVec Ideal S8x256 .f32) i = Ideal.exp2 (x i - y i) := rfl

section head

variable (h : Fin 2) (q : Vec Ideal S1x256x128 .bf16) (k : ℕ → Vec Ideal S1x256x128 .bf16) (A : Vec Ideal S1x2048x128 .bf16) (v : ℕ → Vec Ideal S1x1x1x80x256 .bf16)
  (Q K : ℕ → Fin 64 → ℝ) (V : ℕ → Fin 64 → EReal) (j : ℕ) (r : Fin 256)
  (hq : ∀ (r : Fin 256) d, q (ix3 0 r (laneAt h d)) = ((Q (256 * j + r.val) d : ℝ) : EReal))
  (hk : ∀ n, n < 8 → ∀ (c : Fin 256) d, k n (ix3 0 c (laneAt h d)) = ((K (256 * n + c.val) d : ℝ) : EReal))
  (hA : ∀ (s : Fin 2048) d, A (ix3 0 s (laneAt h d)) = ((K s.val d : ℝ) : EReal))
  (hv : ∀ n, n < 8 → ∀ (c : Fin 256) (d : Fin 64), v n (ix5 0 0 0 (rowAt d) c) = V (256 * n + c.val) d)
  (ho : ∀ n, n < 8 → ∀ (c : Fin 256), v n (ix5 0 0 0 lastRow c) = 1)

include hq hk in
theorem past_real (n : ℕ) (hn : n < 8) (c : Fin 256) :
    past (k n) (masked h q) (ix2 c r) = ((score Q K (256 * j + r.val) (256 * n + c.val) : ℝ) : EReal) := by
  rw [past_apply, lane_dot h q (fun l => k n (ix3 0 c l))]
  unfold score
  rw [coe_sum]
  refine Finset.sum_congr rfl fun d _ => ?_
  rw [hq, hk n hn, mul_comm, EReal.coe_mul]

include hq hk in
theorem past_top (n : ℕ) (hn : n < 8) : ∃ m : ℝ, top (past (k n) (masked h q)) (ix2 0 r) = m := by
  rw [top_apply]
  refine fold_max_real _ (fun c => ?_) 0 ?_ <;> rw [past_real h q k Q K j r hq hk n hn]
  · exact EReal.coe_ne_top _
  · exact EReal.coe_ne_bot _

include hq hk in
theorem own_real (hj : j < 8) (c : Fin 256) : own (k j) (masked h q) (ix2 c r)
    = if c.val ≤ r.val then ((score Q K (256 * j + r.val) (256 * j + c.val) : ℝ) : EReal) else ⊥ := by
  rw [own_apply, past_real h q k Q K j r hq hk j hj]

include hq hk in
theorem own_top (hj : j < 8) : ∃ m : ℝ, top (own (k j) (masked h q)) (ix2 0 r) = m := by
  rw [top_apply]
  refine fold_max_real _ (fun c => ?_) r ?_ <;> rw [own_real h q k Q K j r hq hk hj]
  · split
    · exact EReal.coe_ne_top _
    · exact bot_ne_top
  · rw [if_pos le_rfl]
    exact EReal.coe_ne_bot _

include hA in
theorem mean_real (n : Fin 8) (d : Fin 64) : mean A (ix2 ⟨n.val, by omega⟩ (laneAt h d)) = ((Layer.Moba.mean K n.val d : ℝ) : EReal) := by
  unfold Layer.Moba.mean
  rw [mean_apply, word_256, Ideal.div_coe (by norm_num), div_eq_mul_one_div (∑ c ∈ Finset.range 256, K (256 * n.val + c) d), EReal.coe_mul, Finset.sum_range, coe_sum]
  refine congrArg (· * _) (Finset.sum_congr rfl fun c _ => ?_)
  exact hA _ _

include hq hA in
theorem gate_real (hj : j < 8) (n : ℕ) (hn : n < j) : gate A (masked h q) j (ix2 ⟨n, by omega⟩ r) = ((Layer.Moba.gate Q K (256 * j + r.val) n : ℝ) : EReal) := by
  rw [gate_apply _ _ _ (by omega), if_pos hn, lane_dot h q (fun l => mean A (ix2 ⟨n, by omega⟩ l)),
    lane_dot h q (fun l => mean A (ix2 ⟨n, by omega⟩ l) - mean A (ix2 ⟨n, by omega⟩ l))]
  have hm := mean_real h A K hA ⟨n, by omega⟩
  unfold Layer.Moba.gate
  rw [coe_sum, Finset.sum_eq_zero (s := Finset.univ) (f := fun d : Fin 64 => (mean A (ix2 ⟨n, by omega⟩ (laneAt h d)) - mean A (ix2 ⟨n, by omega⟩ (laneAt h d))) * q (ix3 0 r (laneAt h d))), add_zero]
  · refine Finset.sum_congr rfl fun d _ => ?_
    rw [hq, hm, mul_comm, EReal.coe_mul]
  · intro d _
    rw [hm, ← EReal.coe_sub, sub_self, EReal.coe_zero, zero_mul]

include hq hA in
theorem rank_real (hj : j < 8) (n : ℕ) (hn : n < j) (i : ℕ) (hi : i ≤ 16) (hij : i ≤ j) :
    rank (gate A (masked h q) j) i hi (ix2 ⟨n, by omega⟩ r) = BitVec.ofNat 32 (Layer.Moba.rank (Layer.Moba.gate Q K (256 * j + r.val)) i n) := by
  classical
  induction i with
  | zero => rfl
  | succ i ih =>
    rw [Layer.Moba.rank_succ, BitVec.ofNat_add, ← ih (by omega) (by omega)]
    refine congrArg (rank (gate A (masked h q) j) i (by omega) (ix2 ⟨n, by omega⟩ r) + ·) ?_
    rw [ahead_apply, gate_real h q A Q K j r hq hA hj n hn, gate_real h q A Q K j r hq hA hj i (by omega)]
    unfold Layer.Moba.Before
    simp only [EReal.coe_lt_coe_iff, EReal.coe_eq_coe_iff]
    refine congrArg _ ?_
    split_ifs <;> rfl

include hq hA in
theorem chosen_real (hj : j < 8) (n : ℕ) (hn : n < j) (x y : FVec Ideal S8x256 .f32) :
    over (chosen h q A j (Nat.le_of_lt hj) n) x y (ix2 0 r)
      = if Layer.Moba.rank (Layer.Moba.gate Q K (256 * j + r.val)) j n < 3 then x (ix2 0 r) else y (ix2 0 r) := by
  unfold chosen
  rcases hb : Nat.ble j 3 with _ | _
  · have h16 : n < 16 := by omega
    simp only [dif_pos h16]
    show Scalar.select (kept (gate A (masked h q) j) j _ n h16 (ix2 0 r)) (x (ix2 0 r)) (y (ix2 0 r)) = _
    have hr : Layer.Moba.rank (Layer.Moba.gate Q K (256 * j + r.val)) j n ≤ j := by
      classical
      unfold Layer.Moba.rank
      exact (Finset.card_filter_le _ _).trans (Finset.card_range j).le
    rw [kept_apply, rank_real h q A Q K j r hq hA hj n hn j (by omega) le_rfl, cmpi_slt_ofNat (by omega) (by omega), select_decide]
  · rw [if_pos (Layer.Moba.rank_few _ j n hn (Nat.le_of_ble_eq_true hb))]
    rfl

include hq hk hA in
theorem maxed_real (hj : j < 8) (n : ℕ) (hn : n ≤ j) :
    ∃ T : ℝ, maxed (fun n => stat (top (past (k n) (masked h q)))) (chosen h q A j (Nat.le_of_lt hj)) (stat (top (own (k j) (masked h q)))) n (ix2 0 r) = T := by
  induction n with
  | zero =>
    obtain ⟨m, hm⟩ := own_top h q k Q K j r hq hk hj
    exact ⟨m, (stat_apply _ _ _).trans hm⟩
  | succ n ih =>
    refine max_real (ih (by omega)) ?_
    rw [chosen_real h q A Q K j r hq hA hj n (by omega)]
    split
    · obtain ⟨m, hm⟩ := past_top h q k Q K j r hq hk n (by omega)
      rw [show (fun n => stat (top (past (k n) (masked h q)))) n (ix2 0 r) = (m : EReal) from (stat_apply _ _ _).trans hm]
      exact EReal.coe_ne_top _
    · show (Ideal.ofBits FTy.f32 4286578688#32 : EReal) ≠ ⊤
      rw [word_bot]
      exact bot_ne_top

/-- The weight of a token of a past block. -/
theorem weight_past (n : ℕ) (hn : n < j) (c : ℕ) (hc : c < 256) : Layer.Moba.weight Q K (256 * j + r.val) (256 * n + c)
    = if Layer.Moba.rank (Layer.Moba.gate Q K (256 * j + r.val)) j n < 3 then e2 (score Q K (256 * j + r.val) (256 * n + c)) else 0 := by
  classical
  unfold Layer.Moba.weight term
  have e1 : (256 * j + r.val) / 256 = j := by omega
  have e2 : (256 * n + c) / 256 = n := by omega
  unfold Layer.Moba.Keeps
  rw [e1, e2]
  split
  · next h => rcases h.2 with h' | h'
              · omega
              · rw [if_pos h'.2]
  · next h => rw [if_neg fun h' => h ⟨by omega, Or.inr ⟨hn, h'⟩⟩]

theorem weight_own (c : ℕ) (hc : c < 256) : Layer.Moba.weight Q K (256 * j + r.val) (256 * j + c) = term (score Q K (256 * j + r.val) (256 * j + c)) (c ≤ r.val) := by
  classical
  unfold Layer.Moba.weight term
  have e1 : (256 * j + r.val) / 256 = j := by omega
  have e2 : (256 * j + c) / 256 = j := by omega
  unfold Layer.Moba.Keeps
  rw [e1, e2]
  split
  · next h => rw [if_pos (by omega)]
  · next h => rw [if_neg fun h' => h ⟨by omega, Or.inl rfl⟩]

section parts

variable (T : FVec Ideal S8x256 .f32) (T' : ℝ) (hT : T (ix2 0 r) = (T' : EReal))

include hq hk hA hT in
/-- A past block's part, of values `x` a row `i` of the scratch holds. -/
theorem part_past (hj : j < 8) (n : ℕ) (hn : n < j) (x : ℕ → EReal) (i : Fin 80) (hx : ∀ c : Fin 256, v n (ix5 0 0 0 i c) = x (256 * n + c.val)) :
    weight (fun n => stat (top (past (k n) (masked h q)))) (chosen h q A j (Nat.le_of_lt hj)) T n (ix2 0 r) * summed (v n) (past (k n) (masked h q)) (ix2 i r)
      = ∑ c ∈ Finset.range 256, ((e2 (-T') * Layer.Moba.weight Q K (256 * j + r.val) (256 * n + c) : ℝ) : EReal) * x (256 * n + c) := by
  obtain ⟨m, hm⟩ := past_top h q k Q K j r hq hk n (by omega)
  unfold weight
  rw [chosen_real h q A Q K j r hq hA hj n hn, summed_real (v n) _ r (fun c => score Q K (256 * j + r.val) (256 * n + c)) (fun _ => True) m
    (fun c => (past_real h q k Q K j r hq hk n (by omega) c).trans (if_pos trivial).symm) hm (fun c => x (256 * n + c)) i hx]
  by_cases hs : Layer.Moba.rank (Layer.Moba.gate Q K (256 * j + r.val)) j n < 3
  · rw [if_pos hs]
    have he : (exp2 (subf (stat (top (past (k n) (masked h q)))) T) : FVec Ideal S8x256 .f32) (ix2 0 r) = ((e2 m * e2 (-T') : ℝ) : EReal) := by
      rw [rise_apply, stat_apply, hm, hT, exp2_sub]
    rw [he, scale_sum]
    refine Finset.sum_congr rfl fun c hc => ?_
    rw [weight_past Q K j r n hn c (Finset.mem_range.1 hc), if_pos hs]
    unfold term
    rw [if_pos trivial]
  · rw [if_neg hs]
    have hz : (broadcast S8x256 (FloatOps.ofBits .f32 0#32) : FVec Ideal S8x256 .f32) (ix2 0 r) = (0 : EReal) := Ideal.ofBits_zero_f32
    rw [hz, zero_mul]
    refine (Finset.sum_eq_zero fun c hc => ?_).symm
    rw [weight_past Q K j r n hn c (Finset.mem_range.1 hc), if_neg hs, mul_zero, EReal.coe_zero, zero_mul]

include hq hk hT in
/-- The own block's part. -/
theorem part_own (hj : j < 8) (x : ℕ → EReal) (i : Fin 80) (hx : ∀ c : Fin 256, v j (ix5 0 0 0 i c) = x (256 * j + c.val)) :
    (exp2 (subf (stat (top (own (k j) (masked h q)))) T) : FVec Ideal S8x256 .f32) (ix2 0 r) * summed (v j) (own (k j) (masked h q)) (ix2 i r)
      = ∑ c ∈ Finset.range 256, ((e2 (-T') * Layer.Moba.weight Q K (256 * j + r.val) (256 * j + c) : ℝ) : EReal) * x (256 * j + c) := by
  obtain ⟨m, hm⟩ := own_top h q k Q K j r hq hk hj
  rw [summed_real (v j) _ r (fun c => score Q K (256 * j + r.val) (256 * j + c)) (fun c => c ≤ r.val) m (own_real h q k Q K j r hq hk hj) hm (fun c => x (256 * j + c)) i hx]
  have he : (exp2 (subf (stat (top (own (k j) (masked h q)))) T) : FVec Ideal S8x256 .f32) (ix2 0 r) = ((e2 m * e2 (-T') : ℝ) : EReal) := by
    rw [rise_apply, stat_apply, hm, hT, exp2_sub]
  rw [he, scale_sum]
  refine Finset.sum_congr rfl fun c hc => ?_
  rw [weight_own Q K j r c (Finset.mem_range.1 hc)]

include hq hk hA hT ho in
theorem total_real (hj : j < 8) (n : ℕ) (hn : n ≤ j) :
    total (fun n => stat (top (past (k n) (masked h q)))) (fun n => summed (v n) (past (k n) (masked h q))) (chosen h q A j (Nat.le_of_lt hj)) T n (ix2 0 r)
      = ∑ s ∈ Finset.range (256 * n), ((e2 (-T') * Layer.Moba.weight Q K (256 * j + r.val) s : ℝ) : EReal) * 1 := by
  induction n with
  | zero => exact Ideal.ofBits_zero_f32
  | succ n ih =>
    rw [show 256 * (n + 1) = 256 * n + 256 by omega, Finset.sum_range_add, ← ih (by omega),
      ← part_past h q k A v Q K j r hq hk hA T T' hT hj n (by omega) (fun _ => 1) lastRow (ho n (by omega))]
    exact congrArg (_ + _ * ·) (sums_apply _ _ _)

include hq hk hA hT hv in
theorem gathered_real (hj : j < 8) (d : Fin 64) (n : ℕ) (hn : n ≤ j) :
    gathered (fun n => stat (top (past (k n) (masked h q)))) (fun n => summed (v n) (past (k n) (masked h q))) (chosen h q A j (Nat.le_of_lt hj)) T n (ix2 d r)
      = ∑ s ∈ Finset.range (256 * n), ((e2 (-T') * Layer.Moba.weight Q K (256 * j + r.val) s : ℝ) : EReal) * V s d := by
  induction n with
  | zero => exact Ideal.ofBits_zero_f32
  | succ n ih =>
    rw [show 256 * (n + 1) = 256 * n + 256 by omega, Finset.sum_range_add, ← ih (by omega),
      ← part_past h q k A v Q K j r hq hk hA T T' hT hj n (by omega) (fun s => V s d) (rowAt d) (fun c => hv n (by omega) c d)]
    exact congrArg₂ (fun a b => _ + a * b) (wide_apply _ _ _) (values_apply _ _ _)

end parts

theorem ratio_apply (M : ℕ → FVec Ideal S8x256 .f32) (O : ℕ → FVec Ideal S80x256 .f32) (sel : ℕ → Option (IVec S8x256 1)) (Mj : FVec Ideal S8x256 .f32)
    (Oj : FVec Ideal S80x256 .f32) (T : FVec Ideal S8x256 .f32) (j : ℕ) (d : Fin 64) (r : Fin 256) :
    ratio M O sel Mj Oj T j (ix2 d r)
      = (gathered M O sel T j (ix2 d r) + (exp2 (subf Mj T) : FVec Ideal S8x256 .f32) (ix2 0 r) * Oj (ix2 (rowAt d) r))
        * Ideal.div 1 (total M O sel T j (ix2 0 r) + (exp2 (subf Mj T) : FVec Ideal S8x256 .f32) (ix2 0 r) * Oj (ix2 lastRow r)) := by
  unfold ratio
  generalize gathered M O sel T j = G
  generalize total M O sel T j = D
  generalize (exp2 (subf Mj T) : FVec Ideal S8x256 .f32) = e
  pointwise [wide, values, sums]
  rfl

include hq hk hA hv ho in
theorem ratio_real (hj : j < 8) (T : FVec Ideal S8x256 .f32) (T' : ℝ) (hT : T (ix2 0 r) = (T' : EReal)) (d : Fin 64) :
    ratio (fun n => stat (top (past (k n) (masked h q)))) (fun n => summed (v n) (past (k n) (masked h q))) (chosen h q A j (Nat.le_of_lt hj))
      (stat (top (own (k j) (masked h q)))) (summed (v j) (own (k j) (masked h q))) T j (ix2 d r) = Layer.Moba.attend Q K V (256 * j + r.val) d := by
  rw [ratio_apply, gathered_real h q k A v Q K V j r hq hk hA hv T T' hT hj d j le_rfl, total_real h q k A v Q K j r hq hk hA ho T T' hT hj j le_rfl,
    part_own h q k v Q K j r hq hk T T' hT hj (fun s => V s d) (rowAt d) (fun c => hv j hj c d),
    part_own h q k v Q K j r hq hk T T' hT hj (fun _ => 1) lastRow (ho j hj),
    ← Finset.sum_range_add (fun s => ((e2 (-T') * Layer.Moba.weight Q K (256 * j + r.val) s : ℝ) : EReal) * V s d),
    ← Finset.sum_range_add (fun s => ((e2 (-T') * Layer.Moba.weight Q K (256 * j + r.val) s : ℝ) : EReal) * 1)]
  simp only [mul_one, ← coe_sum]
  exact Layer.Moba.attend_eq Q K V (e2 (-T')) (e2_pos _) j r.val hj r.isLt d

include hq hk hA hv ho in
/-- A row of the head's attention is the attention's output at the row's token. -/
theorem attended_real (hj : j < 8) (d : Fin 64) : attended h q k A v j (Nat.le_of_lt hj) (ix2 d r) = Layer.Moba.attend Q K V (256 * j + r.val) d := by
  obtain ⟨T', hT⟩ := maxed_real h q k A Q K j r hq hk hA hj j le_rfl
  exact ratio_real h q k A v Q K V j r hq hk hA hv ho hj _ T' hT d

end head

end Cert.KernelIdeal.Moba

end
-- ==== Proof.MobaBlock.lean ====
/- What one grid point leaves in the block attention's output block: per head and token, the attention's output, normed and scaled. -/
module

public import proofs.«01_k».proof.Proof.MobaHead
public import proofs.«01_k».proof.Proof.RetBlock

@[expose] public section

noncomputable section

open Idealize.ShloMosaic Idealize.ShloMosaic.TcCoe Idealize.SL.Sem

namespace Layer.Moba

/-- A token's output row normed by its root mean square and scaled by `b`. -/
def finish (o : Fin 64 → EReal) (b : EReal) (d : Fin 64) : EReal := o d * invRms (Ideal.ofBits FTy.f32 1115684864#32) o * b

end Layer.Moba

namespace Cert.KernelIdeal.Moba

open Cert.KernelIdeal Cert.KernelIdeal.Gen Layer Cert.KernelIdeal.Ret
open Layer.Moba (attend)

theorem group_idx (g : Fin 2) (s : Fin 2048) (l : Fin 128) :
    (groupRect g).idx (ix3 (n0 := 1) (n1 := 2048) (n2 := 128) 0 s l) = ix3 (n0 := 1) (n1 := 2048) (n2 := 256) 0 s (lane g l) := by
  funext a
  apply Fin.ext
  fin_cases a
  · rfl
  · show 0 + 1 * s.val = s.val; omega
  · show 128 * g.val + 1 * l.val = 128 * g.val + l.val; omega

theorem held_idx (g h : Fin 2) (n : Fin 8) (i : Fin 80) (c : Fin 256) :
    (heldRect g h n).toLoadRect.idx (ix5 (n0 := 1) (n1 := 1) (n2 := 1) (n3 := 80) (n4 := 256) 0 0 0 i c) = ix5 (n0 := 2) (n1 := 2) (n2 := 8) (n3 := 80) (n4 := 256) g h n i c := by
  funext a
  apply Fin.ext
  fin_cases a
  · show g.val + 1 * 0 = g.val; omega
  · show h.val + 1 * 0 = h.val; omega
  · show n.val + 1 * 0 = n.val; omega
  · show 0 + 1 * i.val = i.val; omega
  · show 0 + 1 * c.val = c.val; omega

theorem value_emb (g h : Fin 2) (n : Fin 8) (i : Fin 64) (c : Fin 256) :
    (valueRect g h n).emb (ix5 (n0 := 1) (n1 := 1) (n2 := 1) (n3 := 64) (n4 := 256) 0 0 0 i c) = ix5 (n0 := 2) (n1 := 2) (n2 := 8) (n3 := 80) (n4 := 256) g h n (rowAt i) c := by
  funext a
  apply Fin.ext
  fin_cases a
  · show g.val + 1 * 0 = g.val; omega
  · show h.val + 1 * 0 = h.val; omega
  · show n.val + 1 * 0 = n.val; omega
  · show 0 + 1 * i.val = i.val; omega
  · show 0 + 1 * c.val = c.val; omega

theorem ones_emb (g h : Fin 2) (n : Fin 8) (i : Fin 16) (c : Fin 256) :
    (onesRect g h n).emb (ix5 (n0 := 1) (n1 := 1) (n2 := 1) (n3 := 16) (n4 := 256) 0 0 0 i c) = ix5 (n0 := 2) (n1 := 2) (n2 := 8) (n3 := 80) (n4 := 256) g h n ⟨64 + i.val, by omega⟩ c := by
  funext a
  apply Fin.ext
  fin_cases a
  · show g.val + 1 * 0 = g.val; omega
  · show h.val + 1 * 0 = h.val; omega
  · show n.val + 1 * 0 = n.val; omega
  · show 64 + 1 * i.val = 64 + i.val; omega
  · show 0 + 1 * c.val = c.val; omega

theorem stored_apply (v : Vec Ideal S1x2048x128 .bf16) (h : Fin 2) (n : Fin 8) (d : Fin 64) (c : Fin 256) :
    stored v h n (ix5 0 0 0 d c) = v (ix3 0 (tok n c) (laneAt h d)) := by
  pointwise [stored]
  rfl

theorem ones_apply (d : Fin 16) (c : Fin 256) : ones (F := Ideal) (ix5 0 0 0 d c) = 1 := by
  pointwise [ones]

theorem ix5_of {n0 n1 n2 n3 n4 : Nat} (y : (⟨5, ![n0, n1, n2, n3, n4]⟩ : Shape).Idx) :
    ∃ (a : Fin n0) (b : Fin n1) (c : Fin n2) (d : Fin n3) (e : Fin n4), y = ix5 a b c d e :=
  ⟨y 0, y 1, y 2, y 3, y 4, funext fun a => by fin_cases a <;> rfl⟩

/-- The scratch once it is filled. -/
def held (v : Fin 2 → Vec Ideal S1x2048x128 .bf16) : Vec Ideal S2x2x8x80x256 .bf16 := fun y =>
  if h : (y 3).val < 64 then v (y 0) (ix3 0 (tok (y 2) (y 4)) (laneAt (y 1) ⟨(y 3).val, h⟩)) else 1

theorem held_value (v : Fin 2 → Vec Ideal S1x2048x128 .bf16) (g h : Fin 2) (n : Fin 8) (d : Fin 64) (c : Fin 256) :
    held v (ix5 g h n (rowAt d) c) = v g (ix3 0 (tok n c) (laneAt h d)) := dif_pos d.isLt
theorem held_one (v : Fin 2 → Vec Ideal S1x2048x128 .bf16) (g h : Fin 2) (n : Fin 8) (i : Fin 16) (c : Fin 256) :
    held v (ix5 g h n ⟨64 + i.val, by omega⟩ c) = 1 := dif_neg (show ¬ 64 + i.val < 64 by omega)

theorem mem_rect {s : Shape} (r : Rect s) (x : r.shape.Idx) : r.emb x ∈ r.set := by
  rw [← Rect.map_emb_univ]
  exact Finset.mem_map_of_mem _ (Finset.mem_univ x)

theorem all_places (p : Fin 2 × Fin 2 × Fin 8) : p ∈ places := by revert p; decide

theorem fills_apply (v : Fin 2 → Vec Ideal S1x2048x128 .bf16) (g h : Fin 2) (n : Fin 8) (i : Fin 80) (c : Fin 256) :
    View.canon (fills v) (ix5 g h n i c) = held v (ix5 g h n i c) := by
  refine View.canon_apply_of_pieces (Val := Elt Ideal) (e := .bf16) (held v) _ ?_ _ ?_
  · intro p hp x
    obtain ⟨⟨g, h, n⟩, -, hp⟩ := List.mem_flatMap.1 hp
    rcases List.mem_cons.1 hp with rfl | hp
    · obtain ⟨a0, a1, a2, d, c, rfl⟩ : ∃ (a0 a1 a2 : Fin 1) (d : Fin 16) (c : Fin 256), x = ix5 a0 a1 a2 d c := ix5_of x
      obtain rfl : a0 = 0 := Subsingleton.elim _ _
      obtain rfl : a1 = 0 := Subsingleton.elim _ _
      obtain rfl : a2 = 0 := Subsingleton.elim _ _
      exact (ones_apply d c).trans ((congrArg (held v) (ones_emb g h n d c)).trans (held_one v g h n d c)).symm
    · obtain rfl := List.mem_singleton.1 hp
      obtain ⟨a0, a1, a2, d, c, rfl⟩ : ∃ (a0 a1 a2 : Fin 1) (d : Fin 64) (c : Fin 256), x = ix5 a0 a1 a2 d c := ix5_of x
      obtain rfl : a0 = 0 := Subsingleton.elim _ _
      obtain rfl : a1 = 0 := Subsingleton.elim _ _
      obtain rfl : a2 = 0 := Subsingleton.elim _ _
      exact (stored_apply (v g) h n d c).trans ((congrArg (held v) (value_emb g h n d c)).trans (held_value v g h n d c)).symm
  · by_cases hi : i.val < 64
    · refine ⟨⟨valueRect g h n, stored (v g) h n⟩, List.mem_flatMap.2 ⟨(g, h, n), all_places _, List.mem_cons_of_mem _ (List.mem_singleton.2 rfl)⟩, ?_⟩
      exact (value_emb g h n ⟨i.val, hi⟩ c) ▸ mem_rect _ _
    · refine ⟨⟨onesRect g h n, ones (F := Ideal)⟩, List.mem_flatMap.2 ⟨(g, h, n), all_places _, List.mem_cons.2 (Or.inl rfl)⟩, ?_⟩
      have e : (⟨64 + (i.val - 64), by omega⟩ : Fin 80) = i := Fin.ext (show 64 + (i.val - 64) = i.val by omega)
      have := (ones_emb g h n ⟨i.val - 64, by omega⟩ c)
      rw [e] at this
      exact this ▸ mem_rect _ _

section block

variable (c : Dev nD) (i : grid0.Coords) (a1 : Memref sig .tc .vmem S1x2048x256 .bf16) (h1 : a1.IsWhole)
  (a2 : Memref sig .tc .vmem S1x2048x256 .bf16) (h2 : a2.IsWhole) (a3 : Memref sig .tc .vmem S1x2048x256 .bf16) (h3 : a3.IsWhole)
  (a4 : Memref sig .tc .vmem S1x2048x256 .f32) (h4 : a4.IsWhole) (a5 : Memref sig .tc .vmem S1x256 .f32) (h5 : a5.IsWhole)
  (a6 : Memref sig .tc .vmem S2x256x256 .f32) (h6 : a6.IsWhole) (a7 : Memref sig .tc .vmem S2x256x128 .f32) (h7 : a7.IsWhole)
  (a8 : Memref sig .tc .vmem S2x256x128 .f32) (h8 : a8.IsWhole) (a9 : Memref sig .tc .vmem S2x1x128 .f32) (h9 : a9.IsWhole)
  (b1 : Memref sig .tc .vmem S1x2048x256 .bf16) (g1 : b1.IsWhole) (b2 : Memref sig .tc .vmem S1x2048x256 .bf16) (g2 : b2.IsWhole)
  (b3 : Memref sig .tc .vmem S1x2048x256 .bf16) (g3 : b3.IsWhole) (b4 : Memref sig .tc .vmem S1x256 .f32) (g4 : b4.IsWhole)
  (b5 : Memref sig .tc .vmem S1x2048x256 .bf16) (g5 : b5.IsWhole) (b6 : Memref sig .tc .vmem S1x2048x256 .bf16) (g6 : b6.IsWhole)
  (b7 : Memref sig .tc .vmem S2x2x8x80x256 .bf16) (g7 : b7.IsWhole)
  (x0 x1 x2 : Vec Ideal S1x2048x256 .bf16) (x3 : Vec Ideal S1x2048x256 .f32) (x4 : Vec Ideal S1x256 .f32) (x5 : Vec Ideal S2x256x256 .f32)
  (x6 x7 : Vec Ideal S2x256x128 .f32) (x8 : Vec Ideal S2x1x128 .f32) (x9 x10 x11 : Vec Ideal S1x2048x256 .bf16) (x12 : Vec Ideal S1x256 .f32)
  (Q K : Fin 2 → Fin 2 → ℕ → Fin 64 → ℝ) (V : Fin 2 → Fin 2 → ℕ → Fin 64 → EReal)
  (hq : ∀ g h (t : Fin 2048) d, x9 (ix3 0 t (lane g (laneAt h d))) = ((Q g h t.val d : ℝ) : EReal))
  (hk : ∀ g h (t : Fin 2048) d, x10 (ix3 0 t (lane g (laneAt h d))) = ((K g h t.val d : ℝ) : EReal))
  (hv : ∀ g h (t : Fin 2048) d, x11 (ix3 0 t (lane g (laneAt h d))) = V g h t.val d)

/-- The head of a lane and the feature in it. -/
def sideOf (l : Fin 128) : Fin 2 := ⟨l / 64, by omega⟩
def featOf (l : Fin 128) : Fin 64 := ⟨l % 64, Nat.mod_lt _ (by decide)⟩

theorem sideOf_lane (h : Fin 2) (d : Fin 64) : sideOf (laneAt h d) = h := by
  apply Fin.ext; show (64 * h.val + d.val) / 64 = h.val; omega
theorem featOf_lane (h : Fin 2) (d : Fin 64) : featOf (laneAt h d) = d := by
  apply Fin.ext; show (64 * h.val + d.val) % 64 = d.val; omega
theorem laneAt_of (l : Fin 128) : laneAt (sideOf l) (featOf l) = l := by
  apply Fin.ext; show 64 * (l.val / 64) + l.val % 64 = l.val; omega

/-- The block of the output. -/
def block : Vec Ideal S1x2048x256 .bf16 := fun y =>
  Layer.Moba.finish (attend (Q (headOf (y 2)) (sideOf (colOf (y 2)))) (K (headOf (y 2)) (sideOf (colOf (y 2)))) (V (headOf (y 2)) (sideOf (colOf (y 2)))) (y 1).val)
    (x12 (ix2 0 (y 2))) (featOf (colOf (y 2)))

theorem tok_no (n : ℕ) (hn : n < 8) (c : Fin 256) : (tok (blockNo n) c).val = 256 * n + c.val := by
  unfold blockNo
  rw [dif_pos hn]
  rfl

theorem rows_read (M : Memref sig .tc .vmem S1x2048x256 .bf16) (hM : M.IsWhole) (X : Vec Ideal S1x2048x256 .bf16) (g : Fin 2) (n : Fin 8) (r : Fin 256) (l : Fin 128) :
    View.readAt (Elt Ideal) M.view (outRect g n).toLoadRect (hM.unread X) (ix3 0 r l) = X (ix3 0 (tok n r) (lane g l)) :=
  load_apply M hM X _ _ _ (out_emb g n r l)

theorem scratch_read (g h : Fin 2) (n : Fin 8) (i : Fin 80) (e : Fin 256) :
    b7.view.readCov (fills fun g => View.readAt (Elt Ideal) b3.view (groupRect g) (g3.unread x11)) (heldRect g h n).toLoadRect (ix5 0 0 0 i e)
      = held (fun g => View.readAt (Elt Ideal) b3.view (groupRect g) (g3.unread x11)) (ix5 g h n i e) := by
  rw [View.readCov_eq_canon']
  exact (congrArg (View.canon _) (held_idx g h n i e)).trans (fills_apply _ g h n i e)

include hq hk hv in
theorem heads_apply (g h : Fin 2) (j : Fin 8) (d : Fin 64) (r : Fin 256) :
    heads b1 g1 b2 g2 b3 g3 b7 x9 x10 x11 g h j (ix2 d r) = attend (Q g h) (K g h) (V g h) (256 * j.val + r.val) d := by
  unfold heads
  refine attended_real h _ _ _ _ (Q g h) (K g h) (V g h) j.val r ?_ ?_ ?_ ?_ ?_ j.isLt d
  · exact fun r d => (rows_read b1 g1 x9 g j r _).trans (hq g h (tok j r) d)
  · exact fun n hn c d => (rows_read b2 g2 x10 g (blockNo n) c _).trans ((hk g h (tok (blockNo n) c) d).trans (congrArg (fun t => ((K g h t d : ℝ) : EReal)) (tok_no n hn c)))
  · exact fun s d => (load_apply b2 g2 x10 _ _ _ (group_idx g s (laneAt h d))).trans (hk g h s d)
  · exact fun n hn c d => (scratch_read b3 g3 b7 x11 g h (blockNo n) (rowAt d) c).trans ((held_value _ g h (blockNo n) d c).trans
      ((load_apply b3 g3 x11 _ _ _ (group_idx g (tok (blockNo n) c) (laneAt h d))).trans ((hv g h (tok (blockNo n) c) d).trans (congrArg (fun t => V g h t d) (tok_no n hn c)))))
  · exact fun n hn c => (scratch_read b3 g3 b7 x11 g h (blockNo n) lastRow c).trans (held_one _ g h (blockNo n) 0 c)

include hq hk hv in
theorem piece_apply (g : Fin 2) (j : Fin 8) (r : Fin 256) (h : Fin 2) (d : Fin 64) :
    piece b1 g1 b2 g2 b3 g3 b4 g4 b7 x9 x10 x11 x12 g j (ix3 0 r (laneAt h d)) = block x12 Q K V (ix3 0 (tok j r) (lane g (laneAt h d))) := by
  unfold piece
  refine (finished_apply (fun h => normed (heads b1 g1 b2 g2 b3 g3 b7 x9 x10 x11 g h j)) _ r h d).trans ?_
  show normed (heads b1 g1 b2 g2 b3 g3 b7 x9 x10 x11 g h j) (ix2 d r) * _
    = Layer.Moba.finish (attend (Q (headOf (lane g (laneAt h d))) (sideOf (colOf (lane g (laneAt h d))))) (K (headOf (lane g (laneAt h d))) (sideOf (colOf (lane g (laneAt h d)))))
        (V (headOf (lane g (laneAt h d))) (sideOf (colOf (lane g (laneAt h d))))) (tok j r).val)
      (x12 (ix2 0 (lane g (laneAt h d)))) (featOf (colOf (lane g (laneAt h d))))
  rw [headOf_lane, colOf_lane, sideOf_lane, featOf_lane, normed_apply]
  have hh : ∀ e : Fin 64, heads b1 g1 b2 g2 b3 g3 b7 x9 x10 x11 g h j (ix2 e r) = attend (Q g h) (K g h) (V g h) (tok j r).val e :=
    fun e => heads_apply b1 g1 b2 g2 b3 g3 b7 x9 x10 x11 Q K V hq hk hv g h j e r
  simp only [hh]
  unfold Layer.Moba.finish
  exact congrArg (_ * ·) (load_apply b4 g4 x12 _ _ _ (gain_idx g (laneAt h d)))

include hq hk hv in
theorem block_eq : out0_A_14 c i a1 h1 a2 h2 a3 h3 a4 h4 a5 h5 a6 h6 a7 h7 a8 h8 a9 h9 b1 g1 b2 g2 b3 g3 b4 g4 b5 g5 b6 g6 b7 g7 x0 x1 x2 x3 x4 x5 x6 x7 x8 x9 x10 x11 x12
    = block x12 Q K V := by
  funext y
  unfold out0_A_14
  rw [View.read_writes_junk_eq_canon]
  refine View.canon_apply_of_pieces (Val := Elt Ideal) (e := .bf16) (block x12 Q K V) _ ?_ y
    (cover0_A_14 c i a1 h1 a2 h2 a3 h3 a4 h4 a5 h5 a6 h6 a7 h7 a8 h8 a9 h9 b1 g1 b2 g2 b3 g3 b4 g4 b5 g5 b6 g6 b7 g7 x0 x1 x2 x3 x4 x5 x6 x7 x8 x9 x10 x11 x12 y)
  rw [pieces_eq]
  intro p hp x
  obtain ⟨⟨g, n⟩, -, rfl⟩ := List.mem_map.1 hp
  obtain ⟨z, r, e, rfl⟩ : ∃ (z : Fin 1) (r : Fin 256) (e : Fin 128), x = ix3 z r e := ix3_of x
  obtain rfl : z = 0 := Subsingleton.elim _ _
  have h := piece_apply b1 g1 b2 g2 b3 g3 b4 g4 b7 x9 x10 x11 x12 Q K V hq hk hv g n r (sideOf e) (featOf e)
  rw [laneAt_of] at h
  exact h.trans (congrArg (block x12 Q K V) (out_emb g n r e)).symm

end block

end Cert.KernelIdeal.Moba

end
-- ==== Proof.MobaArray.lean ====
/- The attention of the two mixers' call: the array of the second result after the run, as one function of the arguments. -/
module

public import proofs.«01_k».proof.Proof.RetArray
public import proofs.«01_k».proof.Proof.MobaBlock

@[expose] public section

noncomputable section

open Idealize.ShloMosaic Idealize.ShloMosaic.TcCoe Idealize.SL.Sem
open Idealize.ShloMosaic.Pipeline (Dat)
open Layer.Ret (Finite)

namespace Layer.Moba

/-- The head of a feature and the feature's place in its head. -/
def headAt (l : Fin 512) : Fin 8 := ⟨l / 64, by omega⟩
def colAt (l : Fin 512) : Fin 64 := ⟨l % 64, Nat.mod_lt _ (by decide)⟩
def featAt (h : Fin 8) (d : Fin 64) : Fin 512 := ⟨64 * h + d, by omega⟩

/-- A head's tokens by the token's number: as reals, and as they are. -/
def reals (X : Fin 32 → Fin 2048 → Fin 512 → EReal) (b : Fin 32) (h : Fin 8) (t : ℕ) (d : Fin 64) : ℝ :=
  if ht : t < 2048 then (X b ⟨t, ht⟩ (featAt h d)).toReal else 0
def vals (X : Fin 32 → Fin 2048 → Fin 512 → EReal) (b : Fin 32) (h : Fin 8) (t : ℕ) (d : Fin 64) : EReal :=
  if ht : t < 2048 then X b ⟨t, ht⟩ (featAt h d) else 0

theorem reals_eq {X : Fin 32 → Fin 2048 → Fin 512 → EReal} (hX : Finite X) (b : Fin 32) (h : Fin 8) (t : Fin 2048) (d : Fin 64) :
    X b t (featAt h d) = ((reals X b h t.val d : ℝ) : EReal) := by
  unfold reals
  rw [dif_pos t.isLt]
  exact (EReal.coe_toReal (hX b t _).1 (hX b t _).2).symm

theorem vals_eq (X : Fin 32 → Fin 2048 → Fin 512 → EReal) (b : Fin 32) (h : Fin 8) (t : Fin 2048) (d : Fin 64) :
    X b t (featAt h d) = vals X b h t.val d := by
  unfold vals
  rw [dif_pos t.isLt]

/-- The attention's output at a token and a feature: the head's attention over the kept blocks, normed and scaled. -/
def attended (q k v : Fin 32 → Fin 2048 → Fin 512 → EReal) (beta : Fin 512 → EReal) (b : Fin 32) (t : Fin 2048) (l : Fin 512) : EReal :=
  finish (attend (reals q b (headAt l)) (reals k b (headAt l)) (vals v b (headAt l)) t.val) (beta l) (colAt l)

end Layer.Moba

namespace Cert.KernelIdeal.MobaOut

open Cert.KernelIdeal Cert.KernelIdeal.Gen Layer Layer.Moba
open Cert.KernelIdeal.Ret (batchAt wide lane lt_points rows gains headOf colOf)
open Cert.KernelIdeal.Moba (sideOf featOf laneAt block block_eq)

/-- The blocks' places: two points per batch entry, each on half of the heads. -/
theorem idx_facts : ∀ t : Fin cfg0.N,
    (win0_9.index t 0 = t.val / 2 ∧ win0_9.index t 1 = 0 ∧ win0_9.index t 2 = t.val % 2)
    ∧ (win0_10.index t 0 = t.val / 2 ∧ win0_10.index t 1 = 0 ∧ win0_10.index t 2 = t.val % 2)
    ∧ (win0_11.index t 0 = t.val / 2 ∧ win0_11.index t 1 = 0 ∧ win0_11.index t 2 = t.val % 2)
    ∧ (win0_12.index t 0 = 0 ∧ win0_12.index t 1 = t.val % 2)
    ∧ (win0_14.index t 0 = t.val / 2 ∧ win0_14.index t 1 = 0 ∧ win0_14.index t 2 = t.val % 2) := by decide +kernel

/-- The head a point's group and side hold. -/
def headOn (t : Fin cfg0.N) (g h : Fin 2) : Fin 8 := ⟨4 * (t.val % 2) + 2 * g.val + h.val, by omega⟩

theorem wide_lane (t : Fin cfg0.N) (g h : Fin 2) (d : Fin 64) : wide t (lane g (laneAt h d)) = featAt (headOn t g h) d := by
  apply Fin.ext; show 256 * (t.val % 2) + (128 * g.val + (64 * h.val + d.val)) = 64 * (4 * (t.val % 2) + 2 * g.val + h.val) + d.val; omega
theorem headAt_wide (t : Fin cfg0.N) (j : Fin 256) : headAt (wide t j) = headOn t (headOf j) (sideOf (colOf j)) := by
  apply Fin.ext; show (256 * (t.val % 2) + j.val) / 64 = 4 * (t.val % 2) + 2 * (j.val / 128) + j.val % 128 / 64; omega
theorem colAt_wide (t : Fin cfg0.N) (j : Fin 256) : colAt (wide t j) = featOf (colOf j) := by
  apply Fin.ext; show (256 * (t.val % 2) + j.val) % 64 = j.val % 128 % 64; omega

theorem attended_wide (q k v : Fin 32 → Fin 2048 → Fin 512 → EReal) (beta : Fin 512 → EReal) (t : Fin cfg0.N) (s : Fin 2048) (j : Fin 256) :
    attended q k v beta (batchAt t) s (wide t j)
      = Layer.Moba.finish (attend (reals q (batchAt t) (headOn t (headOf j) (sideOf (colOf j)))) (reals k (batchAt t) (headOn t (headOf j) (sideOf (colOf j))))
          (vals v (batchAt t) (headOn t (headOf j) (sideOf (colOf j)))) s.val) (beta (wide t j)) (featOf (colOf j)) := by
  unfold attended
  rw [headAt_wide, colAt_wide]

variable (m : (ℓ : Loc nD τ sig) → Buf (Elt Ideal) ℓ) (c : Dev nD)

theorem V_scale (k : Fin 512) : V m c main_v3 (ix2 0 k) = m ((c.tc : Thread nD τ).loc main_arg8) (ix2 0 k) := by
  have e : V m c main_v3 = (broadcastInDim S1x512 ![1] bcast_S512_S1x512_1 (shapeCast S512 (m ((c.tc : Thread nD τ).loc main_arg8) : Vec Ideal S1x512 .f32) shapeCasts_S1x512_S512) : Vec Ideal S1x512 .f32) := by
    unfold V; simp only [hostOps0, hostOps0_1, hostOps0_2, List.flatten_cons, List.flatten_nil, List.append_nil, List.cons_append, List.nil_append]; after_results; rfl
  rw [e]
  generalize m ((c.tc : Thread nD τ).loc main_arg8) = z
  pointwise

theorem iblk9 (t : Fin cfg0.N) (y : S1x2048x256.Idx) : iblk m c 9 t y = V m c main_arg5 (ix3 (batchAt t) (y 1) (wide t (y 2))) := by
  show V m c main_arg5 ((win0_9.blk t).view.emb y) = _
  congr 1
  funext a
  apply Fin.ext
  refine (win0_9.rect_emb_val_off t y a).trans ?_
  have h := (idx_facts t).1
  have h0 : (y 0).val < 1 := (y 0).isLt
  fin_cases a
  · show win0_9.index t 0 * 1 + (y 0).val = _
    rw [h.1]; show _ = t.val / 2; omega
  · show win0_9.index t 1 * 2048 + (y 1).val = _
    rw [h.2.1]; show _ = (y 1).val; omega
  · show win0_9.index t 2 * 256 + (y 2).val = _
    rw [h.2.2]; show _ = 256 * (t.val % 2) + (y 2).val; omega

theorem iblk10 (t : Fin cfg0.N) (y : S1x2048x256.Idx) : iblk m c 10 t y = V m c main_arg6 (ix3 (batchAt t) (y 1) (wide t (y 2))) := by
  show V m c main_arg6 ((win0_10.blk t).view.emb y) = _
  congr 1
  funext a
  apply Fin.ext
  refine (win0_10.rect_emb_val_off t y a).trans ?_
  have h := (idx_facts t).2.1
  have h0 : (y 0).val < 1 := (y 0).isLt
  fin_cases a
  · show win0_10.index t 0 * 1 + (y 0).val = _
    rw [h.1]; show _ = t.val / 2; omega
  · show win0_10.index t 1 * 2048 + (y 1).val = _
    rw [h.2.1]; show _ = (y 1).val; omega
  · show win0_10.index t 2 * 256 + (y 2).val = _
    rw [h.2.2]; show _ = 256 * (t.val % 2) + (y 2).val; omega

theorem iblk11 (t : Fin cfg0.N) (y : S1x2048x256.Idx) : iblk m c 11 t y = V m c main_arg7 (ix3 (batchAt t) (y 1) (wide t (y 2))) := by
  show V m c main_arg7 ((win0_11.blk t).view.emb y) = _
  congr 1
  funext a
  apply Fin.ext
  refine (win0_11.rect_emb_val_off t y a).trans ?_
  have h := (idx_facts t).2.2.1
  have h0 : (y 0).val < 1 := (y 0).isLt
  fin_cases a
  · show win0_11.index t 0 * 1 + (y 0).val = _
    rw [h.1]; show _ = t.val / 2; omega
  · show win0_11.index t 1 * 2048 + (y 1).val = _
    rw [h.2.1]; show _ = (y 1).val; omega
  · show win0_11.index t 2 * 256 + (y 2).val = _
    rw [h.2.2]; show _ = 256 * (t.val % 2) + (y 2).val; omega

theorem iblk12 (t : Fin cfg0.N) (j : Fin 256) : iblk m c 12 t (ix2 (n0 := 1) (n1 := 256) 0 j) = V m c main_v3 (ix2 0 (wide t j)) := by
  show V m c main_v3 ((win0_12.blk t).view.emb (ix2 (n0 := 1) (n1 := 256) 0 j)) = _
  congr 1
  funext a
  apply Fin.ext
  refine (win0_12.rect_emb_val_off t (ix2 (n0 := 1) (n1 := 256) 0 j) a).trans ?_
  have h := (idx_facts t).2.2.2.1
  fin_cases a
  · show win0_12.index t 0 * 1 + 0 = _
    rw [h.1]; rfl
  · show win0_12.index t 1 * 256 + j.val = _
    rw [h.2]; show _ = 256 * (t.val % 2) + j.val; omega

theorem emb14 (t : Fin cfg0.N) (y : S1x2048x256.Idx) : ((win0_14.blk t).view.emb y : S32x2048x512.Idx) = ix3 (batchAt t) (y 1) (wide t (y 2)) := by
  funext a
  apply Fin.ext
  refine (win0_14.rect_emb_val_off t y a).trans ?_
  have h := (idx_facts t).2.2.2.2
  have h0 : (y 0).val < 1 := (y 0).isLt
  fin_cases a
  · show win0_14.index t 0 * 1 + (y 0).val = _
    rw [h.1]; show _ = t.val / 2; omega
  · show win0_14.index t 1 * 2048 + (y 1).val = _
    rw [h.2.1]; show _ = (y 1).val; omega
  · show win0_14.index t 2 * 256 + (y 2).val = _
    rw [h.2.2]; show _ = 256 * (t.val % 2) + (y 2).val; omega

/-- The second result as one array. -/
def array : Vec Ideal S32x2048x512 .bf16 := fun i =>
  attended (rows (m ((c.tc : Thread nD τ).loc main_arg5))) (rows (m ((c.tc : Thread nD τ).loc main_arg6))) (rows (m ((c.tc : Thread nD τ).loc main_arg7)))
    (gains (m ((c.tc : Thread nD τ).loc main_arg8))) (i 0) (i 1) (i 2)

variable (hq : Finite (rows (m ((c.tc : Thread nD τ).loc main_arg5)))) (hk : Finite (rows (m ((c.tc : Thread nD τ).loc main_arg6))))

/-- One window of queries or keys as reals. -/
theorem window_real {x : Vec Ideal S32x2048x512 .bf16} (hx : Finite (rows x)) {B : Vec Ideal S1x2048x256 .bf16} (t : Fin cfg0.N)
    (hB : ∀ y : S1x2048x256.Idx, B y = x (ix3 (batchAt t) (y 1) (wide t (y 2)))) (g h : Fin 2) (s : Fin 2048) (d : Fin 64) :
    B (ix3 0 s (lane g (laneAt h d))) = ((reals (rows x) (batchAt t) (headOn t g h) s.val d : ℝ) : EReal) := by
  refine (hB _).trans ?_
  show x (ix3 (batchAt t) s (wide t (lane g (laneAt h d)))) = _
  rw [wide_lane]
  exact reals_eq hx _ _ _ _

/-- One window of values. -/
theorem window_vals {x : Vec Ideal S32x2048x512 .bf16} {B : Vec Ideal S1x2048x256 .bf16} (t : Fin cfg0.N)
    (hB : ∀ y : S1x2048x256.Idx, B y = x (ix3 (batchAt t) (y 1) (wide t (y 2)))) (g h : Fin 2) (s : Fin 2048) (d : Fin 64) :
    B (ix3 0 s (lane g (laneAt h d))) = vals (rows x) (batchAt t) (headOn t g h) s.val d := by
  refine (hB _).trans ?_
  show x (ix3 (batchAt t) s (wide t (lane g (laneAt h d)))) = _
  rw [wide_lane]
  exact vals_eq (rows x) _ _ _ _

include hq hk in
theorem flushed_eq (t : Fin cfg0.N) : (dats m 0 c).flushed 14 t = ((cfg0.win 14).blk t).view.read (Elt Ideal) (array m c) := by
  rw [Value.flushed14_A]
  refine (congrArg ((cfg0.win 14).cut (grid0.coords t)) (block_eq c (grid0.coords t) _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (fun g h => reals (rows (m ((c.tc : Thread nD τ).loc main_arg5))) (batchAt t) (headOn t g h))
    (fun g h => reals (rows (m ((c.tc : Thread nD τ).loc main_arg6))) (batchAt t) (headOn t g h))
    (fun g h => vals (rows (m ((c.tc : Thread nD τ).loc main_arg7))) (batchAt t) (headOn t g h))
    (window_real hq t fun y => (iblk9 m c t y).trans (congrFun (V_main_arg5 m c) _))
    (window_real hk t fun y => (iblk10 m c t y).trans (congrFun (V_main_arg6 m c) _))
    (window_vals t fun y => (iblk11 m c t y).trans (congrFun (V_main_arg7 m c) _)))).trans ?_
  funext y
  show block _ _ _ _ y = array m c ((win0_14.blk t).view.emb y)
  rw [emb14]
  refine Eq.trans ?_ (attended_wide _ _ _ _ t (y 1) (y 2)).symm
  unfold block
  exact congrArg (fun z => Layer.Moba.finish _ z _) ((iblk12 m c t (y 2)).trans (V_scale m c _))

/-- Every index of the result is in the block of its point. -/
theorem cover (i : S32x2048x512.Idx) : ∃ t : Fin cfg0.N, (cfg0.win 14).flush t = true ∧ i ∈ ((cfg0.win 14).blk t).view.set := by
  have h0 : (i 0).val < 32 := (i 0).isLt
  have h2 : (i 2).val < 512 := (i 2).isLt
  obtain ⟨t, ht⟩ : ∃ t : Fin cfg0.N, t.val = 2 * (i 0).val + (i 2).val / 256 := ⟨⟨2 * (i 0).val + (i 2).val / 256, show _ < 64 by omega⟩, rfl⟩
  obtain ⟨y, hy⟩ : ∃ y : S1x2048x256.Idx, y = ix3 (n0 := 1) (n1 := 2048) (n2 := 256) 0 (i 1) ⟨(i 2).val % 256, by omega⟩ := ⟨_, rfl⟩
  refine ⟨t, (by decide +kernel : ∀ t : Fin cfg0.N, win0_14.flush t = true) t, ?_⟩
  have e : (show S32x2048x512.Idx from (win0_14.blk t).view.emb y) = i := by
    refine (emb14 t y).trans ?_
    subst hy
    funext a
    fin_cases a
    · apply Fin.ext
      show t.val / 2 = (i 0).val
      omega
    · rfl
    · apply Fin.ext
      show 256 * (t.val % 2) + (i 2).val % 256 = (i 2).val
      omega
  exact Eq.mp (congrArg (· ∈ ((cfg0.win 14).blk t).view.set) e) (View.emb_mem_set _ y)

include hq hk in
theorem result_eq : (dats m 0 c).arrAt 14 cfg0.N = array m c :=
  (dats m 0 c).arrAt_eq_of_cover 14 (array m c) (fun t _ => flushed_eq m c hq hk t) cover

end Cert.KernelIdeal.MobaOut

end
-- ==== Proof.MobaSort.lean ====
/- The blocks a stable sort by descending gate puts first: the place of a block is the number of blocks that stand before it. -/
module

public import Idealize.ShloMosaic.Lib.SortFacts
public import proofs.«01_k».proof.Proof.MobaMath

@[expose] public section

noncomputable section

open Idealize.ShloMosaic

namespace Layer.Moba

section order
variable {n : ℕ} (f : Fin n → EReal)

/-- `a` stands before `b`: a greater key, or the same key at an earlier place. -/
def First (a b : Fin n) : Prop := f b < f a ∨ (f a = f b ∧ a < b)

theorem first_irrefl (a : Fin n) : ¬ First f a a := fun h => h.elim (lt_irrefl _) fun h => lt_irrefl _ h.2

theorem first_asymm {a b : Fin n} (h : First f a b) : ¬ First f b a := by
  rintro (h2 | ⟨e2, h2⟩)
  · rcases h with h1 | ⟨e1, h1⟩
    · exact lt_asymm h1 h2
    · exact h2.ne e1
  · rcases h with h1 | ⟨e1, h1⟩
    · exact h1.ne e2
    · exact lt_asymm h1 h2

/-- The comparison the sort asks. -/
abbrev ask (a b : Fin n) : Bool := decide (f b < f a)

theorem insert_first (a : Fin n) (l : List (Fin n)) (ha : ∀ b ∈ l, a < b) (hl : l.Pairwise (First f)) : (insertBefore (ask f) a l).Pairwise (First f) := by
  induction l with
  | nil => exact List.pairwise_singleton _ _
  | cons b l ih =>
    obtain ⟨hb, hl'⟩ := List.pairwise_cons.1 hl
    unfold insertBefore
    split
    · next h =>
      have hab : f a < f b := of_decide_eq_true h
      refine List.pairwise_cons.2 ⟨fun x hx => ?_, ih (fun x hx => ha x (List.mem_cons_of_mem _ hx)) hl'⟩
      rcases List.mem_cons.1 ((perm_insertBefore _ a l).mem_iff.1 hx) with rfl | hx'
      · exact Or.inl hab
      · exact hb x hx'
    · next h =>
      have hab : f b ≤ f a := not_lt.1 fun hh => h (decide_eq_true hh)
      refine List.pairwise_cons.2 ⟨fun x hx => ?_, hl⟩
      have hle : f x ≤ f a := by
        rcases List.mem_cons.1 hx with rfl | hx'
        · exact hab
        · rcases hb x hx' with h1 | ⟨h1, -⟩
          · exact h1.le.trans hab
          · exact h1.symm.le.trans hab
      rcases lt_or_eq_of_le hle with h1 | h1
      · exact Or.inl h1
      · exact Or.inr ⟨h1.symm, ha x hx⟩

theorem sort_first (l : List (Fin n)) (hl : l.Pairwise (· < ·)) : (stableSort (ask f) l).Pairwise (First f) := by
  induction l with
  | nil => exact List.Pairwise.nil
  | cons a l ih =>
    obtain ⟨ha, hl'⟩ := List.pairwise_cons.1 hl
    unfold stableSort
    exact insert_first f a _ (fun b hb => ha b ((perm_stableSort _ l).mem_iff.1 hb)) (ih hl')

theorem sorted_first {i j : Fin n} (h : i < j) : First f (sortedFrom (ask f) i) (sortedFrom (ask f) j) := by
  have hp : ∀ a b : Fin (sortPositions n (ask f)).length, a < b → First f ((sortPositions n (ask f)).get a) ((sortPositions n (ask f)).get b) :=
    List.pairwise_iff_get.1 (sort_first f (List.finRange n) (List.pairwise_lt_finRange n))
  unfold sortedFrom
  exact hp _ _ (by simp only [Fin.lt_def, Fin.val_cast]; exact h)

theorem sorted_first_iff (i j : Fin n) : First f (sortedFrom (ask f) i) (sortedFrom (ask f) j) ↔ i < j := by
  refine ⟨fun h => ?_, sorted_first f⟩
  rcases lt_trichotomy i j with h1 | rfl | h1
  · exact h1
  · exact absurd h (first_irrefl f _)
  · exact absurd h (first_asymm f (sorted_first f h1))

open Classical in
/-- As many entries stand before the one at place `i` as its place says. -/
theorem card_first (i : Fin n) : (Finset.univ.filter fun a => First f a (sortedFrom (ask f) i)).card = i.val := by
  have e : (Finset.univ.filter fun a => First f a (sortedFrom (ask f) i)) = (Finset.univ.filter fun j : Fin n => j < i).image (sortedFrom (ask f)) := by
    ext a
    simp only [Finset.mem_filter, Finset.mem_univ, true_and, Finset.mem_image]
    constructor
    · intro h
      obtain ⟨j, rfl⟩ := sortedFrom_surjective (ask f) a
      exact ⟨j, (sorted_first_iff f j i).1 h, rfl⟩
    · rintro ⟨j, hj, rfl⟩
      exact (sorted_first_iff f j i).2 hj
  rw [e, Finset.card_image_of_injective _ (sortedFrom_injective (ask f))]
  have e2 : (Finset.univ.filter fun j : Fin n => j < i) = Finset.Iio i := by ext j; simp
  rw [e2, Fin.card_Iio]

open Classical in
/-- A block is among the first `k` where fewer than `k` blocks stand before it. -/
theorem among_first (k : ℕ) (b : Fin n) : (∃ i : Fin n, i.val < k ∧ sortedFrom (ask f) i = b) ↔ (Finset.univ.filter fun a => First f a b).card < k := by
  constructor
  · rintro ⟨i, hi, rfl⟩
    rw [card_first]
    exact hi
  · intro h
    obtain ⟨i, rfl⟩ := sortedFrom_surjective (ask f) b
    rw [card_first] at h
    exact ⟨i, h, rfl⟩

end order

open Classical in
/-- Of keys that are the gate on the blocks past and nothing elsewhere: a past block's place is its rank among the past. -/
theorem card_past (g : ℕ → ℝ) (j : ℕ) (f : Fin 8 → EReal) (hf : ∀ m : Fin 8, f m = if m.val < j then ((g m.val : ℝ) : EReal) else ⊥) (hj : j ≤ 8)
    (n : Fin 8) (hn : n.val < j) : (Finset.univ.filter fun a => First f a n).card = rank g j n.val := by
  unfold rank
  have e : ((Finset.range j).filter fun m => Before g m n.val) = (Finset.univ.filter fun a => First f a n).image Fin.val := by
    ext m
    simp only [Finset.mem_filter, Finset.mem_range, Finset.mem_image, Finset.mem_univ, true_and]
    have hn' := (hf n).trans (if_pos hn)
    constructor
    · rintro ⟨hm, h⟩
      have hm' := (hf ⟨m, by omega⟩).trans (if_pos hm)
      refine ⟨⟨m, by omega⟩, ?_, rfl⟩
      unfold First
      rw [hn', hm']
      rcases h with h | ⟨h, h2⟩
      · exact Or.inl (EReal.coe_lt_coe_iff.2 h)
      · exact Or.inr ⟨congrArg _ h, h2⟩
    · rintro ⟨a, h, rfl⟩
      have ha : a.val < j := by
        by_contra hc
        have ha' := (hf a).trans (if_neg hc)
        unfold First at h
        rw [hn', ha'] at h
        rcases h with h | ⟨h, -⟩
        · exact not_lt_bot h
        · exact EReal.bot_ne_coe _ h
      have ha' := (hf a).trans (if_pos ha)
      refine ⟨ha, ?_⟩
      unfold First at h
      rw [hn', ha'] at h
      rcases h with h | ⟨h, h2⟩
      · exact Or.inl (EReal.coe_lt_coe_iff.1 h)
      · exact Or.inr ⟨EReal.coe_eq_coe_iff.1 h, h2⟩
  rw [e, Finset.card_image_of_injective _ Fin.val_injective]

end Layer.Moba

end
-- ==== Proof.MobaRef.lean ====
/- The attention of the reference, read at a token and a feature: which blocks are kept. -/
module

public import proofs.«01_k».proof.Proof.RetReference
public import proofs.«01_k».proof.Proof.MobaArray
public import proofs.«01_k».proof.Proof.MobaSort

@[expose] public section

noncomputable section

open Idealize.ShloMosaic Idealize.ShloMosaic.TcCoe Idealize.SL.Sem

namespace Cert.ReferenceIdeal.Moba

open Cert.ReferenceIdeal Cert.ReferenceIdeal.Read Cert.ReferenceIdeal.Facts₀ Cert.ReferenceIdeal.Facts Layer Layer.Moba WordCmp
open Cert.ReferenceIdeal.Ret (at4 rows gains)
open Cert.KernelIdeal.Moba (word_bot word_256 word_two)
open Layer.Ret (Finite)

variable (x5 x6 x7 : Vec Ideal S32x2048x512 .bf16) (x8 : Vec Ideal S1x512 .f32)

theorem query_apply (x : Vec Ideal S32x2048x512 .bf16) (b : Fin 32) (t : Fin 2048) (h : Fin 8) (d : Fin 64) :
    val_main_v55 (F := Ideal) x (at4 b t h d) = rows x b t (featAt h d) := by
  rw [val_main_v55_apply]
  unfold rows
  congr 1
  funext a
  apply Fin.ext
  fin_cases a
  · show (((b.val * 2048 + t.val) * 8 + h.val) * 64 + d.val) / 1048576 = b.val; omega
  · show (((b.val * 2048 + t.val) * 8 + h.val) * 64 + d.val) / 512 % 2048 = t.val; omega
  · show (((b.val * 2048 + t.val) * 8 + h.val) * 64 + d.val) % 512 = 64 * h.val + d.val; omega

/-- The place of a token in its block. -/
def inBlock (n : Fin 8) (c : Fin 256) : Fin 2048 := ⟨256 * n + c, by omega⟩

theorem block_apply (b : Fin 32) (n : Fin 8) (h : Fin 8) (d : Fin 64) (c : Fin 256) :
    val_main_v61 (F := Ideal) x6 (idx_main_v62 (at4 b n h d) c) = rows x6 b (inBlock n c) (featAt h d) := by
  rw [val_main_v61_apply]
  refine Eq.trans (congrArg (val_main_v55 (F := Ideal) x6) ?_) (query_apply x6 b (inBlock n c) h d)
  funext a
  apply Fin.ext
  fin_cases a
  · show ((((b.val * 8 + n.val) * 256 + c.val) * 8 + h.val) * 64 + d.val) / 1048576 = b.val; omega
  · show ((((b.val * 8 + n.val) * 256 + c.val) * 8 + h.val) * 64 + d.val) / 512 % 2048 = 256 * n.val + c.val; omega
  · show ((((b.val * 8 + n.val) * 256 + c.val) * 8 + h.val) * 64 + d.val) / 64 % 8 = h.val; omega
  · show ((((b.val * 8 + n.val) * 256 + c.val) * 8 + h.val) * 64 + d.val) % 64 = d.val; omega

variable (hq : Finite (rows x5)) (hk : Finite (rows x6))

include hk in
theorem mean_apply (b : Fin 32) (n : Fin 8) (h : Fin 8) (d : Fin 64) :
    val_main_v64 (F := Ideal) x6 (at4 b n h d) = ((mean (reals (rows x6) b h) n.val d : ℝ) : EReal) := by
  rw [val_main_v64_apply, val_main_v62_apply, val_main_v63_apply]
  simp only [block_apply]
  show Ideal.div (Ideal.ofBits FTy.f32 0x00000000#32 + _) (Ideal.ofBits FTy.f32 1132462080#32) = _
  rw [Ideal.ofBits_zero_f32, zero_add, word_256, Ideal.div_coe (by norm_num)]
  have e : (∑ c : Fin 256, rows x6 b (inBlock n c) (featAt h d)) = ((∑ c : Fin 256, reals (rows x6) b h (256 * n.val + c.val) d : ℝ) : EReal) := by
    rw [Layer.Ret.coe_sum]
    exact Finset.sum_congr rfl fun c _ => reals_eq hk b h (inBlock n c) d
  rw [e, ← EReal.coe_mul]
  unfold mean
  rw [Finset.sum_range, mul_one_div]

include hq hk in
theorem gate_apply (b : Fin 32) (h : Fin 8) (t : Fin 2048) (n : Fin 8) :
    val_main_v67 (F := Ideal) x5 x6 (at4 b h t n) = ((gate (reals (rows x5) b h) (reals (rows x6) b h) t.val n.val : ℝ) : EReal) := by
  rw [val_main_v67_apply]
  unfold gate
  rw [Layer.Ret.coe_sum]
  refine Finset.sum_congr rfl fun d _ => ?_
  have e0 : val_main_v56 (F := Ideal) x5 (lidx_main_v67 (at4 b h t n) d) = ((reals (rows x5) b h t.val d : ℝ) : EReal) :=
    (query_apply x5 b t h d).trans (reals_eq hq b h t d)
  have e1 : val_main_v64 (F := Ideal) x6 (ridx_main_v67 (at4 b h t n) d) = ((mean (reals (rows x6) b h) n.val d : ℝ) : EReal) := by
    have : ridx_main_v67 (at4 b h t n) d = at4 b n h d := by funext a; fin_cases a <;> rfl
    rw [this]
    exact mean_apply x6 hk b n h d
  rw [e0, e1, ← EReal.coe_mul]

theorem own_word : ∀ t : Fin 2048, Scalar.select
    (IntOp.andi (IntOp.cmpi .ne (if BitVec.ofNat 32 t.val = 0 then (0 : BitVec 32) else if (BitVec.ofNat 32 t.val).msb then -1 else 1)
        (if (256#32 : BitVec 32) = 0 then (0 : BitVec 32) else if (256#32 : BitVec 32).msb then -1 else 1))
      (IntOp.cmpi .ne (IntOp.remsi .host (BitVec.ofNat 32 t.val) 256#32) 0#32))
    (IntOp.subi (IntOp.divsi .host (BitVec.ofNat 32 t.val) 256#32) 1#32) (IntOp.divsi .host (BitVec.ofNat 32 t.val) 256#32) = BitVec.ofNat 32 (t.val / 256) := by
  decide +kernel

theorem own_apply (t : Fin 2048) : val_main_v66 (F := Ideal) (ix1 t) = BitVec.ofNat 32 (t.val / 256) := by
  refine Eq.trans ?_ (own_word t)
  rw [val_main_v66_apply, val_main_call2_v11_apply, val_main_call2_v13_apply, val_main_call2_v6_apply, val_main_call2_v10_apply, val_main_call2_v2_apply, val_main_call2_v8_apply]
  rfl

theorem past_apply (t : Fin 2048) (n : Fin 8) : val_main_v73 (F := Ideal) (ix2 t n) = BitVec.ofBool (decide (n.val < t.val / 256)) := by
  rw [val_main_v73_apply, val_main_v71_apply, val_main_v72_apply, val_main_v69_apply, val_main_v70_apply, val_main_v68_apply]
  refine Eq.trans (congrArg (IntOp.cmpi .slt _) (own_apply t)) ?_
  exact cmpi_slt_ofNat (by show n.val < _; omega) (by omega)

theorem ownBlock_apply (t : Fin 2048) (n : Fin 8) : val_main_v90 (F := Ideal) (ix2 t n) = BitVec.ofBool (decide (n.val = t.val / 256)) := by
  rw [val_main_v90_apply, val_main_v88_apply, val_main_v89_apply, val_main_v86_apply, val_main_v87_apply, val_main_v85_apply]
  refine Eq.trans (congrArg (IntOp.cmpi .eq _) (own_apply t)) ?_
  exact cmpi_eq_ofNat (by show n.val < _; omega) (by omega)

include hq hk in
theorem key_apply (b : Fin 32) (h : Fin 8) (t : Fin 2048) (n : Fin 8) : val_main_v74 (F := Ideal) x5 x6 (at4 b h t n)
    = if n.val < t.val / 256 then ((gate (reals (rows x5) b h) (reals (rows x6) b h) t.val n.val : ℝ) : EReal) else ⊥ := by
  rw [val_main_v74_apply, val_main_call3_v1_apply, val_main_call3_v2_apply, gate_apply x5 x6 hq hk]
  have e : idx_main_call3_v1 (at4 b h t n) = ix2 t n := by funext a; fin_cases a <;> rfl
  rw [e, past_apply, select_decide]
  refine congrArg (ite _ _) ?_
  exact word_bot

/-- The keys of a token's blocks. -/
def keys (b : Fin 32) (h : Fin 8) (t : Fin 2048) (n : Fin 8) : EReal := val_main_v74 (F := Ideal) x5 x6 (at4 b h t n)

/-- A place among the first three as a place among the eight. -/
def among (i : Fin 3) : Fin 8 := ⟨i, by omega⟩

theorem picked_apply (b : Fin 32) (h : Fin 8) (t : Fin 2048) (i : Fin 3) :
    val_main_indices (F := Ideal) x5 x6 (at4 b h t i) = BitVec.ofNat 32 (sortedFrom (ask (keys x5 x6 b h t)) (among i)).val := by
  unfold val_main_indices keys
  generalize val_main_v74 (F := Ideal) x5 x6 = y
  obtain ⟨j, hj⟩ : ∃ j : S32x8x2048x8.Idx, j = fun a => ⟨0 + ((at4 b h t i : S32x8x2048x3.Idx) (a.cast rfl)).val,
      Nat.lt_of_lt_of_le (Nat.add_lt_add_left ((at4 b h t i : S32x8x2048x3.Idx) _).isLt _) (sliceFits_S32x8x2048x8_S32x8x2048x3.2 a)⟩ := ⟨_, rfl⟩
  have e : (Host.topK S32x8x2048x3 3 (FloatOps.cmpfTotal (F := Ideal) (φ := FTy.f32) .gt) y sliceFits_S32x8x2048x8_S32x8x2048x3).2 (at4 b h t i)
      = BitVec.ofNat 32 ((j.along 3 (sortedFrom (fun k k' => FloatOps.cmpfTotal (F := Ideal) (φ := FTy.f32) .gt (y (j.along 3 k)) (y (j.along 3 k')) == 1#1) (j 3))) 3).val := by
    rw [hj]; rfl
  have hj' : j = at4 b h t (among i) := by
    rw [hj]; funext a; apply Fin.ext; fin_cases a <;> exact Nat.zero_add _
  subst hj'
  rw [e]
  have ha : ∀ k : Fin 8, (at4 b h t (among i) : S32x8x2048x8.Idx).along 3 k = at4 b h t k := by
    intro k; funext a; fin_cases a <;> rfl
  have hb : (fun k k' : Fin 8 => FloatOps.cmpfTotal (F := Ideal) (φ := FTy.f32) .gt (y ((at4 b h t (among i) : S32x8x2048x8.Idx).along 3 k)) (y ((at4 b h t (among i) : S32x8x2048x8.Idx).along 3 k')) == 1#1)
      = ask fun n => y (at4 b h t n) := by
    funext k k'
    rw [ha, ha]
    show (BitVec.ofBool (decide (y (at4 b h t k') < y (at4 b h t k))) == 1#1) = decide (y (at4 b h t k') < y (at4 b h t k))
    cases decide (y (at4 b h t k') < y (at4 b h t k)) <;> rfl
  rw [← hb]
  rfl

end Cert.ReferenceIdeal.Moba

end
-- ==== Proof.MobaKept.lean ====
/- The attention of the reference, read at a token and a feature: the kept blocks' weights, the output and its norm. -/
module

public import proofs.«01_k».proof.Proof.MobaRef

@[expose] public section

noncomputable section

open Idealize.ShloMosaic Idealize.ShloMosaic.TcCoe Idealize.SL.Sem

namespace Cert.ReferenceIdeal.Moba

open Cert.ReferenceIdeal Cert.ReferenceIdeal.Read Cert.ReferenceIdeal.Facts₀ Cert.ReferenceIdeal.Facts Layer Layer.Moba WordCmp
open Cert.ReferenceIdeal.Ret (at4 rows gains)
open Cert.KernelIdeal.Moba (word_bot word_256 word_two)
open Layer.Ret (Finite)

open Classical in
/-- Bits joined by "or": one of them is set. -/
theorem fold_ori {ι : Type} (p : ι → Prop) (S : Finset ι) :
    Finset.fold IntOp.ori 0#1 (fun i => BitVec.ofBool (decide (p i))) S = BitVec.ofBool (decide (∃ i ∈ S, p i)) := by
  induction S using Finset.induction_on with
  | empty => simp
  | insert a S ha ih =>
    rw [Finset.fold_insert ha, ih, Cert.KernelIdeal.Moba.ori_decide]
    refine congrArg BitVec.ofBool (decide_eq_decide.2 ?_)
    simp [Finset.mem_insert]

/-- A fold by an operation that is the maximum. -/
theorem fold_same {ι : Type} [Fintype ι] (op : EReal → EReal → EReal) [Std.Commutative op] [Std.Associative op] (hop : op = max) {z z' : EReal} (hz : z = z') (f : ι → EReal) :
    Finset.fold op z f Finset.univ = Finset.fold max z' f Finset.univ := by
  subst hop hz
  rfl

theorem lift5 (hr : S32x8x2048x3x8.Reduces [3] S32x8x2048x8) (b : Fin 32) (h : Fin 8) (t : Fin 2048) (n : Fin 8) (i : Fin 3) :
    hr.lift (at4 b h t n) i = ix5 b h t i n :=
  funext fun a => Fin.ext (by match a with | ⟨0, _⟩ => rfl | ⟨1, _⟩ => rfl | ⟨2, _⟩ => rfl | ⟨3, _⟩ => rfl | ⟨4, _⟩ => rfl)

open Classical in
theorem reduce_ori (y : IVec S32x8x2048x3x8 1) (z : IVec S_ 1) (hz : z (Shape.Idx.first h_S_) = 0#1) (b : Fin 32) (h : Fin 8) (t : Fin 2048) (n : Fin 8) (p : Fin 3 → Prop)
    (hp : ∀ i, y (ix5 b h t i n) = BitVec.ofBool (decide (p i))) :
    Host.reduce IntOp.ori y z reducesTo_S32x8x2048x3x8_S32x8x2048x8_d3 h_S_ (at4 b h t n) = BitVec.ofBool (decide (∃ i, p i)) := by
  have hr : S32x8x2048x3x8.Reduces [3] S32x8x2048x8 := by decide
  rw [Host.reduce_eq_fold_single IntOp.ori y z reducesTo_S32x8x2048x3x8_S32x8x2048x8_d3 hr h_S_, hz]
  have e : y ∘ hr.lift (at4 b h t n) = fun i : Fin 3 => BitVec.ofBool (decide (p i)) :=
    funext fun i => (congrArg y (lift5 hr b h t n i)).trans (hp i)
  rw [e]
  refine (fold_ori p Finset.univ).trans ?_
  refine congrArg BitVec.ofBool (decide_eq_decide.2 ?_)
  simp

theorem lift4 (hr : S32x8x2048x2048.Reduces [3] S32x8x2048) (b : Fin 32) (h : Fin 8) (t s : Fin 2048) :
    hr.lift (ix3 b h t) s = at4 b h t s :=
  funext fun a => Fin.ext (by match a with | ⟨0, _⟩ => rfl | ⟨1, _⟩ => rfl | ⟨2, _⟩ => rfl | ⟨3, _⟩ => rfl)

theorem reduce_max (y : FVec Ideal S32x8x2048x2048 .f32) (z : FVec Ideal S_ .f32) (hz : z (Shape.Idx.first h_S_) = (⊥ : EReal)) (b : Fin 32) (h : Fin 8) (t : Fin 2048) :
    Host.reduce FloatOps.maximumf y z reducesTo_S32x8x2048x2048_S32x8x2048_d3 h_S_ (ix3 b h t)
      = Finset.fold max ⊥ (fun s : Fin 2048 => (y (at4 b h t s) : EReal)) Finset.univ := by
  have hr : S32x8x2048x2048.Reduces [3] S32x8x2048 := by decide
  refine (Host.reduce_eq_fold_single (FloatOps.maximumf (F := Ideal) (φ := FTy.f32)) y z reducesTo_S32x8x2048x2048_S32x8x2048_d3 hr h_S_ (ix3 b h t)).trans ?_
  have e : y ∘ hr.lift (ix3 b h t) = fun s : Fin 2048 => y (at4 b h t s) := funext fun s => congrArg y (lift4 hr b h t s)
  rw [e]
  exact fold_same _ rfl hz _

variable (x5 x6 x7 : Vec Ideal S32x2048x512 .bf16) (x8 : Vec Ideal S1x512 .f32)
variable (hq : Finite (rows x5)) (hk : Finite (rows x6))

theorem match_apply (b : Fin 32) (h : Fin 8) (t : Fin 2048) (i : Fin 3) (n : Fin 8) :
    val_main_v80 (F := Ideal) x5 x6 (ix5 b h t i n) = BitVec.ofBool (decide (sortedFrom (ask (keys x5 x6 b h t)) (among i) = n)) := by
  rw [val_main_v80_apply, val_main_v78_apply, val_main_v79_apply, val_main_v75_apply, val_main_v77_apply, val_main_v76_apply]
  have e : idx_main_v75 (idx_main_v78 (ix5 b h t i n)) = at4 b h t i := by funext a; fin_cases a <;> rfl
  rw [e, picked_apply]
  refine (cmpi_eq_ofNat (b := n.val) (by omega) (by omega)).trans ?_
  exact congrArg BitVec.ofBool (decide_eq_decide.2 Fin.ext_iff.symm)

open Classical in
theorem held_apply (b : Fin 32) (h : Fin 8) (t : Fin 2048) (n : Fin 8) :
    val_main_v81 (F := Ideal) x5 x6 (at4 b h t n) = BitVec.ofBool (decide (∃ i : Fin 3, sortedFrom (ask (keys x5 x6 b h t)) (among i) = n)) := by
  unfold val_main_v81
  refine (reduce_ori _ _ rfl b h t n (fun i => sortedFrom (ask (keys x5 x6 b h t)) (among i) = n)
    fun i => (match_apply x5 x6 b h t i n).trans (congrArg BitVec.ofBool (decide_eq_decide.2 Iff.rfl))).trans ?_
  exact congrArg BitVec.ofBool (decide_eq_decide.2 Iff.rfl)

open Classical in
include hq hk in
theorem kept_apply (b : Fin 32) (h : Fin 8) (t : Fin 2048) (n : Fin 8) : val_main_v93 (F := Ideal) x5 x6 (at4 b h t n)
    = BitVec.ofBool (decide (Keeps (reals (rows x5) b h) (reals (rows x6) b h) t.val n.val)) := by
  rw [val_main_v93_apply, val_main_v84_apply, held_apply, val_main_v92_apply, val_main_v91_apply, val_main_v83_apply, val_main_v82_apply]
  have e0 : idx_main_v91 (idx_main_v92 (at4 b h t n)) = ix2 t n := by funext a; fin_cases a <;> rfl
  have e1 : idx_main_v82 (idx_main_v83 (at4 b h t n)) = ix2 t n := by funext a; fin_cases a <;> rfl
  rw [e0, e1, past_apply, ownBlock_apply, Cert.KernelIdeal.Moba.andi_decide, Cert.KernelIdeal.Moba.ori_decide]
  refine congrArg BitVec.ofBool (decide_eq_decide.2 ?_)
  unfold Keeps
  rw [or_comm, and_comm]
  refine or_congr_right (and_congr_right fun hn => ?_)
  have h1 := among_first (keys x5 x6 b h t) 3 n
  rw [card_past (gate (reals (rows x5) b h) (reals (rows x6) b h) t.val) (t.val / 256) (keys x5 x6 b h t) (key_apply x5 x6 hq hk b h t) (by omega) n hn] at h1
  rw [← h1]
  exact ⟨fun ⟨i, hi⟩ => ⟨among i, i.isLt, hi⟩, fun ⟨i, h3, hi⟩ => ⟨⟨i.val, h3⟩, hi⟩⟩

/-- The block of a token. -/
def blockOf (s : Fin 2048) : Fin 8 := ⟨s / 256, by omega⟩

open Classical in
include hq hk in
theorem seen_apply (b : Fin 32) (h : Fin 8) (t s : Fin 2048) : val_main_v105 (F := Ideal) x5 x6 (at4 b h t s)
    = BitVec.ofBool (decide (s.val ≤ t.val ∧ Keeps (reals (rows x5) b h) (reals (rows x6) b h) t.val (s.val / 256))) := by
  rw [val_main_v105_apply, val_main_v95_apply, val_main_v94_apply, val_main_v104_apply, val_main_v103_apply, val_main_v102_apply, val_main_v100_apply,
    val_main_v101_apply, val_main_v97_apply, val_main_v99_apply, val_main_v96_apply, val_main_v98_apply]
  have e : idx_main_v94 (idx_main_v95 (at4 b h t s)) = at4 b h t (blockOf s) := by
    funext a
    apply Fin.ext
    fin_cases a
    · show (((b.val * 8 + h.val) * 2048 + t.val) * 2048 + s.val) / 33554432 = b.val; omega
    · show (((b.val * 8 + h.val) * 2048 + t.val) * 2048 + s.val) / 4194304 % 8 = h.val; omega
    · show (((b.val * 8 + h.val) * 2048 + t.val) * 2048 + s.val) / 2048 % 2048 = t.val; omega
    · show (((b.val * 8 + h.val) * 2048 + t.val) * 2048 + s.val) / 256 % 8 = s.val / 256; omega
  rw [e, kept_apply x5 x6 hq hk]
  refine Eq.trans (congrArg (IntOp.andi _) (cmpi_sle_ofNat (a := s.val) (b := t.val) (by omega) (by omega))) ?_
  rw [Cert.KernelIdeal.Moba.andi_decide]
  exact congrArg BitVec.ofBool (decide_eq_decide.2 and_comm)

include hq hk in
theorem score_apply (b : Fin 32) (h : Fin 8) (t s : Fin 2048) : val_main_v106 (F := Ideal) x5 x6 (at4 b h t s)
    = ((score (reals (rows x5) b h) (reals (rows x6) b h) t.val s.val : ℝ) : EReal) := by
  rw [val_main_v106_apply]
  unfold score
  rw [Layer.Ret.coe_sum]
  refine Finset.sum_congr rfl fun d _ => ?_
  have e0 : val_main_v56 (F := Ideal) x5 (lidx_main_v106 (at4 b h t s) d) = ((reals (rows x5) b h t.val d : ℝ) : EReal) :=
    (query_apply x5 b t h d).trans (reals_eq hq b h t d)
  have e1 : val_main_v58 (F := Ideal) x6 (ridx_main_v106 (at4 b h t s) d) = ((reals (rows x6) b h s.val d : ℝ) : EReal) :=
    (query_apply x6 b s h d).trans (reals_eq hk b h s d)
  rw [e0, e1, ← EReal.coe_mul]

open Classical in
include hq hk in
theorem logit_apply (b : Fin 32) (h : Fin 8) (t s : Fin 2048) : val_main_v107 (F := Ideal) x5 x6 (at4 b h t s)
    = if s.val ≤ t.val ∧ Keeps (reals (rows x5) b h) (reals (rows x6) b h) t.val (s.val / 256)
      then ((score (reals (rows x5) b h) (reals (rows x6) b h) t.val s.val : ℝ) : EReal) else ⊥ := by
  rw [val_main_v107_apply, seen_apply x5 x6 hq hk, score_apply x5 x6 hq hk, Cert.KernelIdeal.Moba.select_decide, val_main_call4_v1_apply]
  refine congrArg (ite _ _) ?_
  exact word_bot

theorem top_apply (b : Fin 32) (h : Fin 8) (t : Fin 2048) : val_main_v108 (F := Ideal) x5 x6 (ix3 b h t)
    = Finset.fold max ⊥ (fun s : Fin 2048 => val_main_v107 (F := Ideal) x5 x6 (at4 b h t s)) Finset.univ := by
  unfold val_main_v108
  exact reduce_max _ _ word_bot b h t

include hq hk in
/-- The greatest score is a real: a token sees itself. -/
theorem top_real (b : Fin 32) (h : Fin 8) (t : Fin 2048) : ∃ M : ℝ, val_main_v108 (F := Ideal) x5 x6 (ix3 b h t) = M := by
  classical
  rw [top_apply]
  refine fold_max_real _ (fun s => ?_) t ?_
  · rw [logit_apply x5 x6 hq hk]
    split
    · exact EReal.coe_ne_top _
    · exact bot_ne_top
  · rw [logit_apply x5 x6 hq hk, if_pos ⟨le_rfl, Or.inl rfl⟩]
    exact EReal.coe_ne_bot _

theorem pow_real (s m : ℝ) : Ideal.pow ((2 : ℝ) : EReal) ((s : EReal) - (m : EReal)) = ((e2 s * e2 (-m) : ℝ) : EReal) := by
  rw [← EReal.coe_sub, ← e2_add, ← sub_eq_add_neg]
  rfl
theorem pow_bot (m : ℝ) : Ideal.pow ((2 : ℝ) : EReal) ((⊥ : EReal) - (m : EReal)) = ((0 : ℝ) : EReal) := by
  rw [EReal.bot_sub]
  show (if (2 : ℝ) < 0 then (⊥ : EReal) else if (1 : ℝ) < 2 then 0 else if (2 : ℝ) = 1 then 1 else ⊤) = _
  rw [if_neg (by norm_num), if_pos (by norm_num)]
  rfl

include hq hk in
theorem power_apply (b : Fin 32) (h : Fin 8) (t s : Fin 2048) {M : ℝ} (hM : val_main_v108 (F := Ideal) x5 x6 (ix3 b h t) = M) :
    val_main_v113 (F := Ideal) x5 x6 (at4 b h t s) = ((weight (reals (rows x5) b h) (reals (rows x6) b h) t.val s.val * e2 (-M) : ℝ) : EReal) := by
  classical
  rw [val_main_v113_apply, val_main_v112_apply, val_main_v111_apply, val_main_v110_apply, val_main_v109_apply]
  have e : idx_main_v109 (idx_main_v110 (at4 b h t s)) = ix3 b h t := by funext a; fin_cases a <;> rfl
  rw [e, hM, logit_apply x5 x6 hq hk]
  show Ideal.pow (Ideal.ofBits FTy.f32 1073741824#32) (_ - _) = _
  rw [word_two]
  unfold weight term
  split
  · exact pow_real _ _
  · rw [zero_mul]
    exact pow_bot _

include hq hk in
theorem share_apply (b : Fin 32) (h : Fin 8) (t s : Fin 2048) : val_main_v117 (F := Ideal) x5 x6 (at4 b h t s)
    = ((weight (reals (rows x5) b h) (reals (rows x6) b h) t.val s.val
        / ∑ s' ∈ Finset.range 2048, weight (reals (rows x5) b h) (reals (rows x6) b h) t.val s' : ℝ) : EReal) := by
  obtain ⟨M, hM⟩ := top_real x5 x6 hq hk b h t
  rw [val_main_v117_apply, val_main_v116_apply, val_main_v115_apply, val_main_v114_apply, power_apply x5 x6 hq hk b h t s hM]
  have e : ∀ s', idx_main_v114 (idx_main_v115 (idx_main_v116 (at4 b h t s))) s' = at4 b h t s' := by
    intro s'; funext a; fin_cases a <;> rfl
  simp only [e, power_apply x5 x6 hq hk b h t _ hM]
  show Ideal.div _ (Ideal.ofBits FTy.f32 0x00000000#32 + _) = _
  have hp := sum_weight_pos (reals (rows x5) b h) (reals (rows x6) b h) t.val 2048 t.isLt
  rw [Finset.sum_range] at hp ⊢
  rw [Ideal.ofBits_zero_f32, zero_add, ← Layer.Ret.coe_sum, ← Finset.sum_mul, Ideal.div_coe (mul_pos hp (e2_pos _)).ne', ← EReal.coe_mul]
  refine congrArg _ ?_
  have := (e2_pos (-M)).ne'
  field_simp

include hq hk in
theorem attend_apply (b : Fin 32) (t : Fin 2048) (h : Fin 8) (d : Fin 64) : val_main_v119 (F := Ideal) x5 x6 x7 (at4 b t h d)
    = attend (reals (rows x5) b h) (reals (rows x6) b h) (vals (rows x7) b h) t.val d := by
  rw [val_main_v119_apply, val_main_v118_apply]
  unfold attend
  rw [Finset.sum_range]
  refine Finset.sum_congr rfl fun s _ => ?_
  have e0 : val_main_v60 (F := Ideal) x7 (lidx_main_v118 (idx_main_v119 (at4 b t h d)) s) = vals (rows x7) b h s.val d :=
    (query_apply x7 b s h d).trans (vals_eq (rows x7) b h s d)
  have e1 : ridx_main_v118 (idx_main_v119 (at4 b t h d)) s = at4 b h t s := by funext a; fin_cases a <;> rfl
  rw [e0, e1, share_apply x5 x6 hq hk, mul_comm]

theorem normed_apply (b : Fin 32) (t : Fin 2048) (l : Fin 512) : val_main_v130 (F := Ideal) x5 x6 x7 (ix3 b t l)
    = val_main_v119 (F := Ideal) x5 x6 x7 (at4 b t (headAt l) (colAt l))
      * invRms (Ideal.ofBits FTy.f32 1115684864#32) fun e => val_main_v119 (F := Ideal) x5 x6 x7 (at4 b t (headAt l) e) := by
  rw [val_main_v130_apply]
  have hi : idx_main_v130 (ix3 b t l) = at4 b t (headAt l) (colAt l) := by
    funext a
    apply Fin.ext
    fin_cases a
    · show ((b.val * 2048 + t.val) * 512 + l.val) / 1048576 = b.val; omega
    · show ((b.val * 2048 + t.val) * 512 + l.val) / 512 % 2048 = t.val; omega
    · show ((b.val * 2048 + t.val) * 512 + l.val) / 64 % 8 = l.val / 64; omega
    · show ((b.val * 2048 + t.val) * 512 + l.val) % 64 = l.val % 64; omega
  rw [hi, val_main_v129_apply, val_main_v128_apply, val_main_v127_apply, val_main_v126_apply, val_main_v125_apply, val_main_v124_apply, val_main_v123_apply,
    val_main_v122_apply, val_main_v121_apply]
  simp only [val_main_v120_apply]
  have hj : ∀ e, idx_main_v121 (idx_main_v122 (idx_main_v128 (at4 b t (headAt l) (colAt l)))) e = at4 b t (headAt l) e := by
    intro e; funext a; fin_cases a <;> rfl
  simp only [hj]
  generalize val_main_v119 (F := Ideal) x5 x6 x7 = y
  unfold invRms
  refine congrArg (y _ * ·) (congrArg Ideal.rsqrt (congrArg (· + _) (congrArg (Ideal.div · _) ?_)))
  show Ideal.ofBits FTy.f32 0x00000000#32 + _ = _
  rw [Ideal.ofBits_zero_f32, zero_add]
  rfl

include hq hk in
theorem result_apply (b : Fin 32) (t : Fin 2048) (l : Fin 512) : val_main_v136 (F := Ideal) x5 x6 x7 x8 (ix3 b t l)
    = attended (rows x5) (rows x6) (rows x7) (gains x8) b t l := by
  have h : val_main_v136 (F := Ideal) x5 x6 x7 x8 (ix3 b t l) = val_main_v130 (F := Ideal) x5 x6 x7 (ix3 b t l) * x8 (ix2 0 l) := by
    unfold val_main_v136 val_main_v134
    generalize val_main_v130 (F := Ideal) x5 x6 x7 = y
    pointwise [val_main_v133, val_main_v132, val_main_v131]
  rw [h, normed_apply]
  simp only [attend_apply x5 x6 x7 hq hk]
  rfl

end Cert.ReferenceIdeal.Moba

end
-- ==== Proof.RetClaim.lean ====
/- The two mixers' call against its reference: both results, of finite queries and keys and finite values of the retention. -/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.RetReference
public import proofs.«01_k».proof.Proof.MobaKept
public import Idealize.ShloMosaic.Lib.ReduceAll
public import Idealize.ShloMosaic.Lib.Quiescent

@[expose] public section

noncomputable section

namespace Cert.Mixers

open Idealize.ShloMosaic Idealize.ShloMosaic.TcCoe Idealize.SL.Sem
open Layer.Ret (Finite)

theorem word_inf : Ideal.ofBits FTy.f32 0x7F800000#32 = ⊤ := by simp [Ideal.ofBits, Ideal.ieee]

/-- An extended real whose absolute value is below infinity is a real. -/
theorem real_of_abs {x : EReal} (h : Ideal.cmp CmpFPredicate.olt (max x (-x)) (Ideal.ofBits FTy.f32 0x7F800000#32) = 1#1) : x ≠ ⊤ ∧ x ≠ ⊥ := by
  rw [word_inf] at h
  have h' : max x (-x) < ⊤ := by
    by_contra hn
    rw [show Ideal.cmp CmpFPredicate.olt (max x (-x)) ⊤ = BitVec.ofBool (decide (max x (-x) < ⊤)) from rfl, decide_eq_false hn] at h
    exact absurd h (by decide)
  obtain ⟨h1, h2⟩ := max_lt_iff.1 h'
  exact ⟨h1.ne, fun hb => h2.ne (by rw [hb]; rfl)⟩

open Cert.Pre_finite Cert.Pre_finite.Facts in
/-- The test of one array: a conjunction over its entries. -/
theorem entry_real (x : FVec Ideal S32x2048x512 .bf16) (j : S_.Idx)
    (h : Host.reduce IntOp.andi (cmpf .olt (Host.absf (extf .f32 x bitsLt_bf16_f32 : FVec Ideal S32x2048x512 .f32))
      (broadcastInDim S32x2048x512 ![] bcast_S_S32x2048x512 (constant (F := Ideal) S_ .f32 0x7F800000#32))) (constantI S_ 1 1#1) reducesTo_S32x2048x512_S_d0_1_2 h_S_ j = 1#1)
    (i : S32x2048x512.Idx) : (x i : EReal) ≠ ⊤ ∧ (x i : EReal) ≠ ⊥ := by
  haveI : Subsingleton S_.Idx := ⟨fun a b => funext fun k => k.elim0⟩
  exact real_of_abs (Host.reduce_andi_all _ _ _ _ j h i)

/-- What the precondition says: the retention's queries, keys and values and the attention's queries and keys are finite. -/
theorem finite_of_pre {x0 x1 x2 : FVec Ideal Cert.Pre_finite.S32x2048x512 .bf16} {x3 : FVec Ideal Cert.Pre_finite.S32x2048x512 .f32} {x4 : FVec Ideal Cert.Pre_finite.S1x512 .f32}
    {x5 x6 x7 : FVec Ideal Cert.Pre_finite.S32x2048x512 .bf16} {x8 : FVec Ideal Cert.Pre_finite.S1x512 .f32}
    (h : Cert.Pre_finite.fn (F := Ideal) x0 x1 x2 x3 x4 x5 x6 x7 x8 = fun _ => 1#1) :
    (Finite (Cert.KernelIdeal.Ret.rows x0) ∧ Finite (Cert.KernelIdeal.Ret.rows x1) ∧ Finite (Cert.KernelIdeal.Ret.rows x2))
      ∧ Finite (Cert.KernelIdeal.Ret.rows x5) ∧ Finite (Cert.KernelIdeal.Ret.rows x6) := by
  have h0 := congrFun h ix0
  obtain ⟨h0125, h6⟩ := IntOp.andi_eq_one.1 h0
  obtain ⟨h012, h5⟩ := IntOp.andi_eq_one.1 h0125
  obtain ⟨h01, h2⟩ := IntOp.andi_eq_one.1 h012
  obtain ⟨h0, h1⟩ := IntOp.andi_eq_one.1 h01
  exact ⟨⟨fun b t l => entry_real x0 ix0 h0 (ix3 b t l), fun b t l => entry_real x1 ix0 h1 (ix3 b t l), fun b t l => entry_real x2 ix0 h2 (ix3 b t l)⟩,
    fun b t l => entry_real x5 ix0 h5 (ix3 b t l), fun b t l => entry_real x6 ix0 h6 (ix3 b t l)⟩

/-- The reference's first result is the kernel's array, of the same arguments. -/
theorem same {x0 x1 x2 : Vec Ideal Cert.KernelIdeal.S32x2048x512 .bf16} {x3 : Vec Ideal Cert.KernelIdeal.S32x2048x512 .f32} {x4 : Vec Ideal Cert.KernelIdeal.S1x512 .f32}
    (hq : Finite (Cert.KernelIdeal.Ret.rows x0)) (hk : Finite (Cert.KernelIdeal.Ret.rows x1)) (hv : Finite (Cert.KernelIdeal.Ret.rows x2))
    {y0 y1 y2 : Vec Ideal Cert.KernelIdeal.S32x2048x512 .bf16} {y3 : Vec Ideal Cert.KernelIdeal.S32x2048x512 .f32} {y4 : Vec Ideal Cert.KernelIdeal.S1x512 .f32}
    (e0 : y0 = x0) (e1 : y1 = x1) (e2 : y2 = x2) (e3 : y3 = x3) (e4 : y4 = x4) (i : Cert.KernelIdeal.S32x2048x512.Idx) :
    Cert.ReferenceIdeal.Read.val_main_v135 (F := Ideal) y0 y1 y2 y3 y4 i
      = Layer.Ret.retained (Cert.KernelIdeal.Ret.rows x0) (Cert.KernelIdeal.Ret.rows x1) (Cert.KernelIdeal.Ret.rows x2) (Cert.KernelIdeal.Ret.gates x3) (Cert.KernelIdeal.Ret.gains x4) (i 0) (i 1) (i 2) := by
  subst e0 e1 e2 e3 e4
  obtain ⟨b, t, l, rfl⟩ : ∃ (b : Fin 32) (t : Fin 2048) (l : Fin 512), i = ix3 b t l := ⟨i 0, i 1, i 2, by funext a; fin_cases a <;> rfl⟩
  exact Cert.ReferenceIdeal.Ret.result_apply y0 y1 y2 y3 y4 hq hk hv b t l

/-- The reference's second result is the kernel's array, of the same arguments. -/
theorem same' {x5 x6 x7 : Vec Ideal Cert.KernelIdeal.S32x2048x512 .bf16} {x8 : Vec Ideal Cert.KernelIdeal.S1x512 .f32}
    (hq : Finite (Cert.KernelIdeal.Ret.rows x5)) (hk : Finite (Cert.KernelIdeal.Ret.rows x6))
    {y5 y6 y7 : Vec Ideal Cert.KernelIdeal.S32x2048x512 .bf16} {y8 : Vec Ideal Cert.KernelIdeal.S1x512 .f32}
    (e5 : y5 = x5) (e6 : y6 = x6) (e7 : y7 = x7) (e8 : y8 = x8) (i : Cert.KernelIdeal.S32x2048x512.Idx) :
    Cert.ReferenceIdeal.Read.val_main_v136 (F := Ideal) y5 y6 y7 y8 i
      = Layer.Moba.attended (Cert.KernelIdeal.Ret.rows x5) (Cert.KernelIdeal.Ret.rows x6) (Cert.KernelIdeal.Ret.rows x7) (Cert.KernelIdeal.Ret.gains x8) (i 0) (i 1) (i 2) := by
  subst e5 e6 e7 e8
  obtain ⟨b, t, l, rfl⟩ : ∃ (b : Fin 32) (t : Fin 2048) (l : Fin 512), i = ix3 b t l := ⟨i 0, i 1, i 2, by funext a; fin_cases a <;> rfl⟩
  exact Cert.ReferenceIdeal.Moba.result_apply y5 y6 y7 y8 hq hk b t l

theorem algebraic : Cert.algebraic_KernelIdeal_ReferenceIdeal_pre_finite := by
  intro m ρ m' ρ' hpre hagree
  refine ⟨fun c => Cert.KernelIdeal.Ret.array m c, fun c => Cert.KernelIdeal.MobaOut.array m c, ?_, ?_⟩
  · refine (θ_run Cert.KernelIdeal.defs _ _).mono (fun _ h c => ?_) (Cert.KernelIdeal.Value.run_blocks (F := Ideal) m ρ)
    obtain ⟨h0, h1, h⟩ := h c
    obtain ⟨⟨hq, hk, hv⟩, hq', hk'⟩ := finite_of_pre (hpre c)
    exact ⟨h0.trans (Cert.KernelIdeal.Ret.result_eq m c hq hk hv), h1.trans (Cert.KernelIdeal.MobaOut.result_eq m c hq' hk'), h⟩
  refine (θ_run Cert.ReferenceIdeal.defs _ _).mono (fun _ h c => ?_) (Cert.ReferenceIdeal.Value.run (F := Ideal) m' ρ')
  obtain ⟨h0, h1, h⟩ := h c
  obtain ⟨⟨hq, hk, hv⟩, hq', hk'⟩ := finite_of_pre (hpre c)
  obtain ⟨a0, a1, a2, a3, a4, a5, a6, a7, a8⟩ := hagree c
  exact ⟨funext fun i => (congrFun (h0.trans (Cert.ReferenceIdeal.Read.val_main_v135_eq (StableHlo.launchContents m' c))) i).trans (same hq hk hv a0 a1 a2 a3 a4 i),
    funext fun i => (congrFun (h1.trans (Cert.ReferenceIdeal.Read.val_main_v136_eq (StableHlo.launchContents m' c))) i).trans (same' hq' hk' a5 a6 a7 a8 i), h⟩

end Cert.Mixers

end
-- ==== Proof.lean ====
/- The claims about the layer's kernels, put together from the modules that prove them. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Reference2Ideal
public import proofs.«01_k».proof.Proof.Gen.Reference2Ideal.Run
public import proofs.«01_k».proof.Proof.Gen.Reference2Ideal.Read
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.OutReference
public import proofs.«01_k».proof.Proof.InClaim
public import proofs.«01_k».proof.Proof.RetClaim
public import Idealize.ShloMosaic.Lib.Quiescent

@[expose] public section

noncomputable section

namespace Cert.Proof

open Idealize.ShloMosaic Idealize.ShloMosaic.TcCoe Idealize.SL.Sem

/-- The output call against its reference: both results are the same function of the arguments, row by row. -/
theorem algebraic3 : Cert.algebraic_Kernel3Ideal_Reference3Ideal := by
  intro m ρ m' ρ' _ hagree
  refine ⟨fun c => Cert.Kernel3Ideal.Out.array m c, ?_, ?_⟩
  · exact (θ_run Cert.Kernel3Ideal.defs _ _).mono
      (fun _ h c => ⟨(h c).1.trans (Cert.Kernel3Ideal.Out.result_eq m c), (h c).2⟩) (Cert.Kernel3Ideal.Value.run_blocks (F := Ideal) m ρ)
  refine (θ_run Cert.Reference3Ideal.defs _ _).mono (fun _ h c => ⟨(h c).1.trans ?_, (h c).2⟩)
    (Cert.Reference3Ideal.Value.run (F := Ideal) m' ρ')
  refine (Cert.Reference3Ideal.Out.result_eq m' c).trans ?_
  unfold Cert.Kernel3Ideal.Out.array Cert.Kernel3Ideal.Out.rows
  obtain ⟨h0, h1, h2, h3, h4, h5, h6, h7⟩ := hagree c
  rw [h0, h1, h2, h3, h4, h5, h6, h7]

/-- The reference of the output call runs and leaves its arguments: it is host code and declares no semaphore. -/
theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The reference of the mixers runs and leaves its arguments. -/
theorem frame_reference : Cert.quiescent_ReferenceIdeal := fun m ρ _ =>
  (θ_run Cert.ReferenceIdeal.defs _ _).mono
    (fun r h => ⟨fun c => let ⟨_, _, h⟩ := h c; h, Idealize.ShloMosaic.sem_eq_zero_of_no_sems (by decide) r.2⟩)
    (Cert.ReferenceIdeal.Value.run (F := Ideal) m ρ)

/-- The same of finite arguments. -/
theorem frame_reference_finite : Cert.quiescent_ReferenceIdeal_pre_finite := fun m ρ _ => frame_reference m ρ trivial

/-- Every claim of `Defs.lean`. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre_finite.Gen.facts,
    fun m ρ _ => Cert.Kernel.Gen.frame (F := Bits) m ρ,
    fun m ρ _ => Cert.KernelIdeal.Gen.frame (F := Ideal) m ρ,
    fun m ρ _ => Cert.KernelIdeal.Gen.frame (F := Ideal) m ρ,
    frame_reference, frame_reference_finite,
    Cert.In.frame_bits, Cert.In.frame_ideal, Cert.In.frame_reference,
    fun m ρ _ => Cert.Kernel3.Gen.frame (F := Bits) m ρ,
    fun m ρ _ => Cert.Kernel3Ideal.Gen.frame (F := Ideal) m ρ,
    frame_reference3, trivial, Cert.Mixers.algebraic, trivial, Cert.In.algebraic, trivial, algebraic3⟩

end Cert.Proof

end
